-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_prompt_keys [hPre_finite_prompt_keys : Cert.Pre_finite_prompt_keys.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_prompt_keys.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_prompt_keys [hPre_finite_prompt_keys : Cert.Pre_finite_prompt_keys.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_prompt_keys.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_prompt_keys [hKernel5Ideal : Cert.Kernel5Ideal.Facts] [hPre_finite_prompt_keys : Cert.Pre_finite_prompt_keys.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_prompt_keys m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_prompt_keys [hReference5Ideal : Cert.Reference5Ideal.Facts] [hPre_finite_prompt_keys : Cert.Pre_finite_prompt_keys.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_prompt_keys m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite_prompt_keys [hKernel5Ideal : Cert.Kernel5Ideal.Facts] [hReference5Ideal : Cert.Reference5Ideal.Facts] [hPre_finite_prompt_keys : Cert.Pre_finite_prompt_keys.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_prompt_keys m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v26_0)) (v1 : (c : Dev Cert.Kernel5Ideal.nD) → Buf (Elt Ideal) ((c.tc : Thread Cert.Kernel5Ideal.nD Cert.Kernel5Ideal.τ).loc Cert.Kernel5Ideal.main_v26_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v26_0) = v0 c
          ∧ r.2.mem ((c.tc : Thread Cert.Kernel5Ideal.nD Cert.Kernel5Ideal.τ).loc Cert.Kernel5Ideal.main_v26_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v63) = v0 c
          ∧ r.2.mem ((c.tc : Thread Cert.Reference5Ideal.nD Cert.Reference5Ideal.τ).loc Cert.Reference5Ideal.main_v64) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_keys : Cert.Pre_finite_keys.Facts) (hPre_finite_prompt_keys : Cert.Pre_finite_prompt_keys.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_prompt_keys (hKernel5Ideal := hKernel5Ideal) (hPre_finite_prompt_keys := hPre_finite_prompt_keys)
    ∧ quiescent_Reference5Ideal (hReference5Ideal := hReference5Ideal)
    ∧ quiescent_Reference5Ideal_pre_finite_prompt_keys (hReference5Ideal := hReference5Ideal) (hPre_finite_prompt_keys := hPre_finite_prompt_keys)
    ∧ preserves_Kernel_KernelIdeal
    ∧ algebraic_KernelIdeal_ReferenceIdeal_pre_finite_keys (hKernelIdeal := hKernelIdeal) (hReferenceIdeal := hReferenceIdeal) (hPre_finite_keys := hPre_finite_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_prompt_keys (hKernel5Ideal := hKernel5Ideal) (hReference5Ideal := hReference5Ideal) (hPre_finite_prompt_keys := hPre_finite_prompt_keys)
-- ==== Pre_finite_keys.lean ====
abbrev S1024x8192 : Shape := ⟨2, ![1024, 8192]⟩
abbrev S9216x12288 : Shape := ⟨2, ![9216, 12288]⟩
abbrev S1024x128 : Shape := ⟨2, ![1024, 128]⟩
abbrev S2x128x32x128x128 : Shape := ⟨5, ![2, 128, 32, 128, 128]⟩
abbrev S32 : Shape := ⟨1, ![32]⟩
abbrev S128 : Shape := ⟨1, ![128]⟩
abbrev S1024x2048 : Shape := ⟨2, ![1024, 2048]⟩
abbrev S_ : Shape := ⟨0, ![]⟩

class Facts : Prop where
  slices_S1024x8192_S1024x2048_0_2048 : S1024x8192.Slices ![0, 2048] S1024x2048
  bcast_S_S1024x2048 : S_.BroadcastsInDim S1024x2048 (![] : Fin 0 → Fin S1024x2048.rank)
  reducesTo_S1024x2048_S_d0_1 : S1024x2048.ReducesTo [0, 1] S_
  h_S_ : 0 < S_.numel

variable [Facts]

def fn {F : FTy → Type} [FloatOps F] (main_arg0 : FVec F S1024x8192 .f32) (main_arg1 : FVec F S9216x12288 .f32) (main_arg2 : FVec F S1024x128 .f32) (main_arg3 : FVec F S2x128x32x128x128 .f32) (main_arg4 : FVec F S32 .f32) (main_arg5 : FVec F S32 .f32) (main_arg6 : FVec F S128 .f32) : IVec S_ 1 :=
  let main_v0 : FVec F S1024x2048 .f32 := (extractStridedSlice S1024x2048 ![0, 2048] · slices_S1024x8192_S1024x2048_0_2048) main_arg0
  let main_v1 : FVec F S1024x2048 .f32 := Host.absf main_v0
  let main_cst : FVec F S_ .f32 := constant S_ .f32 0x7F800000#32
  let main_v2 : FVec F S1024x2048 .f32 := broadcastInDim S1024x2048 ![] bcast_S_S1024x2048 main_cst
  let main_v3 : IVec S1024x2048 1 := cmpf .olt main_v1 main_v2
  let main_c : IVec S_ 1 := constantI S_ 1 1#1
  let main_v4 : IVec S_ 1 := (fun x v => Host.reduce IntOp.andi x v reducesTo_S1024x2048_S_d0_1 h_S_) main_v3 main_c
  main_v4
-- ==== Pre_finite_prompt_keys.lean ====
abbrev S8192x8192 : Shape := ⟨2, ![8192, 8192]⟩
abbrev S9216x12288 : Shape := ⟨2, ![9216, 12288]⟩
abbrev S8192x128 : Shape := ⟨2, ![8192, 128]⟩
abbrev S1x4x32x128x128 : Shape := ⟨5, ![1, 4, 32, 128, 128]⟩
abbrev S32 : Shape := ⟨1, ![32]⟩
abbrev S128 : Shape := ⟨1, ![128]⟩
abbrev S8192x2048 : Shape := ⟨2, ![8192, 2048]⟩
abbrev S_ : Shape := ⟨0, ![]⟩

class Facts : Prop where
  slices_S8192x8192_S8192x2048_0_2048 : S8192x8192.Slices ![0, 2048] S8192x2048
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x8192 .f32) (main_arg1 : FVec F S9216x12288 .f32) (main_arg2 : FVec F S8192x128 .f32) (main_arg3 : FVec F S1x4x32x128x128 .f32) (main_arg4 : FVec F S32 .f32) (main_arg5 : FVec F S32 .f32) (main_arg6 : FVec F S128 .f32) : IVec S_ 1 :=
  let main_v0 : FVec F S8192x2048 .f32 := (extractStridedSlice S8192x2048 ![0, 2048] · slices_S8192x8192_S8192x2048_0_2048) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  main_v4
-- ==== Kernel.lean ====
abbrev S1024x8192 : Shape := ⟨2, ![1024, 8192]⟩
abbrev S9216x12288 : Shape := ⟨2, ![9216, 12288]⟩
abbrev S1024x128 : Shape := ⟨2, ![1024, 128]⟩
abbrev S2x128x32x128x128 : Shape := ⟨5, ![2, 128, 32, 128, 128]⟩
abbrev S32 : Shape := ⟨1, ![32]⟩
abbrev S128 : Shape := ⟨1, ![128]⟩
abbrev S1024x32 : Shape := ⟨2, ![1024, 32]⟩
abbrev S_ : Shape := ⟨0, ![]⟩
abbrev S1x32 : Shape := ⟨2, ![1, 32]⟩
abbrev S128x1x8x32 : Shape := ⟨4, ![128, 1, 8, 32]⟩
abbrev S128x8x1x32 : Shape := ⟨4, ![128, 8, 1, 32]⟩
abbrev S128x8x1x64 : Shape := ⟨4, ![128, 8, 1, 64]⟩
abbrev S128x1x8x64 : Shape := ⟨4, ![128, 1, 8, 64]⟩
abbrev S128x1x8x1x32 : Shape := ⟨5, ![128, 1, 8, 1, 32]⟩
abbrev S128x1x1x32x8 : Shape := ⟨5, ![128, 1, 1, 32, 8]⟩
abbrev S1x128 : Shape := ⟨2, ![1, 128]⟩
abbrev S1024x4096 : Shape := ⟨2, ![1024, 4096]⟩
abbrev S128x32x128x128 : Shape := ⟨4, ![128, 32, 128, 128]⟩
abbrev S8x2048 : Shape := ⟨2, ![8, 2048]⟩
abbrev S8x4096 : Shape := ⟨2, ![8, 4096]⟩
abbrev S1x1x8x64 : Shape := ⟨4, ![1, 1, 8, 64]⟩
abbrev S1x1x1x32x8 : Shape := ⟨5, ![1, 1, 1, 32, 8]⟩
abbrev S1x1x32x128x128 : Shape := ⟨5, ![1, 1, 32, 128, 128]⟩
abbrev S1x32x128x128 : Shape := ⟨4, ![1, 32, 128, 128]⟩
abbrev S32x128x128 : Shape := ⟨3, ![32, 128, 128]⟩
abbrev S8x8 : Shape := ⟨2, ![8, 8]⟩
abbrev S8x64 : Shape := ⟨2, ![8, 64]⟩
abbrev S32x8 : Shape := ⟨2, ![32, 8]⟩
abbrev S8x128 : Shape := ⟨2, ![8, 128]⟩
abbrev S8x1 : Shape := ⟨2, ![8, 1]⟩
abbrev S1x8 : Shape := ⟨2, ![1, 8]⟩
abbrev S1x128x128 : Shape := ⟨3, ![1, 128, 128]⟩
abbrev S128x128 : Shape := ⟨2, ![128, 128]⟩
abbrev S16x128 : Shape := ⟨2, ![16, 128]⟩
abbrev S1x1 : Shape := ⟨2, ![1, 1]⟩
abbrev S8 : Shape := ⟨1, ![8]⟩

abbrev nBuf : Space → Nat
  | .hbm => 52
  | .vmem => 20
  | .smem => 0
  | _ => 0

abbrev bufTy : (tb : Table) → Fin (tcTables nBuf tb) → BufTy
  | .hbm, ⟨0, _⟩ => ⟨S1024x8192, .f32⟩
  | .hbm, ⟨1, _⟩ => ⟨S9216x12288, .f32⟩
  | .hbm, ⟨2, _⟩ => ⟨S1024x128, .f32⟩
  | .hbm, ⟨3, _⟩ => ⟨S2x128x32x128x128, .f32⟩
  | .hbm, ⟨4, _⟩ => ⟨S32, .f32⟩
  | .hbm, ⟨5, _⟩ => ⟨S32, .f32⟩
  | .hbm, ⟨6, _⟩ => ⟨S128, .f32⟩
  | .hbm, ⟨7, _⟩ => ⟨S1024x32, .f32⟩
  | .hbm, ⟨8, _⟩ => ⟨S1024x32, .f32⟩
  | .hbm, ⟨9, _⟩ => ⟨S1024x32, .f32⟩
  | .hbm, ⟨10, _⟩ => ⟨S_, .f32⟩
  | .hbm, ⟨11, _⟩ => ⟨S1024x32, .f32⟩
  | .hbm, ⟨12, _⟩ => ⟨S1024x32, .f32⟩
  | .hbm, ⟨13, _⟩ => ⟨S_, .f32⟩
  | .hbm, ⟨14, _⟩ => ⟨S1024x32, .f32⟩
  | .hbm, ⟨15, _⟩ => ⟨S1024x32, .f32⟩
  | .hbm, ⟨16, _⟩ => ⟨S32, .f32⟩
  | .hbm, ⟨17, _⟩ => ⟨S32, .f32⟩
  | .hbm, ⟨18, _⟩ => ⟨S1024x32, .f32⟩
  | .hbm, ⟨19, _⟩ => ⟨S1x32, .f32⟩
  | .hbm, ⟨20, _⟩ => ⟨S1024x32, .f32⟩
  | .hbm, ⟨21, _⟩ => ⟨S1024x32, .f32⟩
  | .hbm, ⟨22, _⟩ => ⟨S_, .f32⟩
  | .hbm, ⟨23, _⟩ => ⟨S1024x32, .f32⟩
  | .hbm, ⟨24, _⟩ => ⟨S1024x32, .f32⟩
  | .hbm, ⟨25, _⟩ => ⟨S1024x32, .f32⟩
  | .hbm, ⟨26, _⟩ => ⟨S1024x32, .f32⟩
  | .hbm, ⟨27, _⟩ => ⟨S1024x32, .i1⟩
  | .hbm, ⟨28, _⟩ => ⟨S1024x32, .f32⟩
  | .hbm, ⟨29, _⟩ => ⟨S1024x32, .f32⟩
  | .hbm, ⟨30, _⟩ => ⟨S1024x32, .f32⟩
  | .hbm, ⟨31, _⟩ => ⟨S1024x32, .f32⟩
  | .hbm, ⟨32, _⟩ => ⟨S1024x32, .f32⟩
  | .hbm, ⟨33, _⟩ => ⟨S1024x32, .f32⟩
  | .hbm, ⟨34, _⟩ => ⟨S1024x32, .f32⟩
  | .hbm, ⟨35, _⟩ => ⟨S1024x32, .f32⟩
  | .hbm, ⟨36, _⟩ => ⟨S1x32, .f32⟩
  | .hbm, ⟨37, _⟩ => ⟨S1024x32, .f32⟩
  | .hbm, ⟨38, _⟩ => ⟨S1024x32, .f32⟩
  | .hbm, ⟨39, _⟩ => ⟨S128x1x8x32, .f32⟩
  | .hbm, ⟨40, _⟩ => ⟨S_, .f32⟩
  | .hbm, ⟨41, _⟩ => ⟨S_, .f32⟩
  | .hbm, ⟨42, _⟩ => ⟨S128x1x8x32, .f32⟩
  | .hbm, ⟨43, _⟩ => ⟨S128x8x1x32, .f32⟩
  | .hbm, ⟨44, _⟩ => ⟨S128x8x1x32, .f32⟩
  | .hbm, ⟨45, _⟩ => ⟨S128x8x1x64, .f32⟩
  | .hbm, ⟨46, _⟩ => ⟨S128x1x8x64, .f32⟩
  | .hbm, ⟨47, _⟩ => ⟨S128x1x8x1x32, .f32⟩
  | .hbm, ⟨48, _⟩ => ⟨S128x1x1x32x8, .f32⟩
  | .hbm, ⟨49, _⟩ => ⟨S1x128, .f32⟩
  | .hbm, ⟨50, _⟩ => ⟨S1024x4096, .f32⟩
  | .hbm, ⟨51, _⟩ => ⟨S128x32x128x128, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S8x4096, .f32⟩
  | .local _ .vmem, ⟨5, _⟩ => ⟨S8x4096, .f32⟩
  | .local _ .vmem, ⟨6, _⟩ => ⟨S8x4096, .f32⟩
  | .local _ .vmem, ⟨7, _⟩ => ⟨S8x4096, .f32⟩
  | .local _ .vmem, ⟨8, _⟩ => ⟨S1x1x8x64, .f32⟩
  | .local _ .vmem, ⟨9, _⟩ => ⟨S1x1x8x64, .f32⟩
  | .local _ .vmem, ⟨10, _⟩ => ⟨S1x1x1x32x8, .f32⟩
  | .local _ .vmem, ⟨11, _⟩ => ⟨S1x1x1x32x8, .f32⟩
  | .local _ .vmem, ⟨12, _⟩ => ⟨S1x1x32x128x128, .f32⟩
  | .local _ .vmem, ⟨13, _⟩ => ⟨S1x1x32x128x128, .f32⟩
  | .local _ .vmem, ⟨14, _⟩ => ⟨S1x128, .f32⟩
  | .local _ .vmem, ⟨15, _⟩ => ⟨S8x4096, .f32⟩
  | .local _ .vmem, ⟨16, _⟩ => ⟨S8x4096, .f32⟩
  | .local _ .vmem, ⟨17, _⟩ => ⟨S1x32x128x128, .f32⟩
  | .local _ .vmem, ⟨18, _⟩ => ⟨S1x32x128x128, .f32⟩
  | .local _ .vmem, ⟨19, _⟩ => ⟨S32x128x128, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_call1_call0_cst : Ref sig .tc := ⟨.hbm, 40, rfl⟩
abbrev main_call1_call0_v0 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26_0 : Ref sig .tc := ⟨.hbm, 50, rfl⟩
abbrev main_v26_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![128, 1, 1], ![false, false, false]⟩

def k0_cond2 (i : grid0.Coords) : BitVec 1 :=
  let arg2 : BitVec 32 := BitVec.ofNat 32 (i 2).val
  let c0_i32_1146 : BitVec 32 := 0#32
  let v3711 : BitVec 1 := Scalar.cmpi .eq arg2 c0_i32_1146
  let v3712 : BitVec 32 := Scalar.extui v3711
  let c0_i32_1147 : BitVec 32 := 0#32
  let v3713 : BitVec 1 := Scalar.cmpi .ne v3712 c0_i32_1147
  v3713

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c1_i32_0 : BitVec 32 := 1#32
  let v2 : BitVec 32 := Scalar.addi c1_i32_0 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c1_i32_0 : BitVec 32 := 1#32
  let v2 : BitVec 32 := Scalar.addi c1_i32_0 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg2
  let c2_i32 : BitVec 32 := 2#32
  let v3 : BitVec 32 := Scalar.addi c2_i32 arg1
  let c0_i32 : BitVec 32 := 0#32
  ![v2.toNat, v3.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1x32x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x32x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S8x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x32x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S1024x8192 : Shape := ⟨2, ![1024, 8192]⟩
abbrev S9216x12288 : Shape := ⟨2, ![9216, 12288]⟩
abbrev S1024x128 : Shape := ⟨2, ![1024, 128]⟩
abbrev S2x128x32x128x128 : Shape := ⟨5, ![2, 128, 32, 128, 128]⟩
abbrev S32 : Shape := ⟨1, ![32]⟩
abbrev S128 : Shape := ⟨1, ![128]⟩
abbrev S128x8x8192 : Shape := ⟨3, ![128, 8, 8192]⟩
abbrev S128x8x2048 : Shape := ⟨3, ![128, 8, 2048]⟩
abbrev S128x8x16x128 : Shape := ⟨4, ![128, 8, 16, 128]⟩
abbrev S128x8x16x2x128 : Shape := ⟨5, ![128, 8, 16, 2, 128]⟩
abbrev S128x8x32x128 : Shape := ⟨4, ![128, 8, 32, 128]⟩
abbrev S128x8x4096 : Shape := ⟨3, ![128, 8, 4096]⟩
abbrev S1024x4096 : Shape := ⟨2, ![1024, 4096]⟩
abbrev S1024x32 : Shape := ⟨2, ![1024, 32]⟩
abbrev S128x8x32 : Shape := ⟨3, ![128, 8, 32]⟩
abbrev S_ : Shape := ⟨0, ![]⟩
abbrev S1x1x32 : Shape := ⟨3, ![1, 1, 32]⟩
abbrev S1x128x32x128x128 : Shape := ⟨5, ![1, 128, 32, 128, 128]⟩
abbrev S128x32x128x128 : Shape := ⟨4, ![128, 32, 128, 128]⟩
abbrev S128x32x8x128 : Shape := ⟨4, ![128, 32, 8, 128]⟩
abbrev S128x32x8 : Shape := ⟨3, ![128, 32, 8]⟩
abbrev S8x8 : Shape := ⟨2, ![8, 8]⟩
abbrev S128x32x8x1 : Shape := ⟨4, ![128, 32, 8, 1]⟩
abbrev S128x32x1x8 : Shape := ⟨4, ![128, 32, 1, 8]⟩
abbrev S128x32x8x8 : Shape := ⟨4, ![128, 32, 8, 8]⟩
abbrev S1x1x8x8 : Shape := ⟨4, ![1, 1, 8, 8]⟩
abbrev S128x32x1 : Shape := ⟨3, ![128, 32, 1]⟩
abbrev S128x32 : Shape := ⟨2, ![128, 32]⟩
abbrev S128x32x1x1 : Shape := ⟨4, ![128, 32, 1, 1]⟩
abbrev S128x8x32x1 : Shape := ⟨4, ![128, 8, 32, 1]⟩
abbrev S1x1x1x128 : Shape := ⟨4, ![1, 1, 1, 128]⟩

abbrev nBuf : Space → Nat
  | .hbm => 228
  | .vmem => 0
  | .smem => 0
  | _ => 0

abbrev hbmTy0_0 (i : Nat) : BufTy := match i % 128 with
  | 0 => ⟨S1024x8192, .f32⟩
  | 1 => ⟨S9216x12288, .f32⟩
  | 2 => ⟨S1024x128, .f32⟩
  | 3 => ⟨S2x128x32x128x128, .f32⟩
  | 4 => ⟨S32, .f32⟩
  | 5 => ⟨S32, .f32⟩
  | 6 => ⟨S128, .f32⟩
  | 7 => ⟨S128x8x8192, .f32⟩
  | 8 => ⟨S128x8x2048, .f32⟩
  | 9 => ⟨S128x8x16x128, .f32⟩
  | 10 => ⟨S128x8x16x2x128, .f32⟩
  | 11 => ⟨S128x8x32x128, .f32⟩
  | 12 => ⟨S128x8x2048, .f32⟩
  | 13 => ⟨S128x8x16x128, .f32⟩
  | 14 => ⟨S128x8x16x2x128, .f32⟩
  | 15 => ⟨S128x8x32x128, .f32⟩
  | 16 => ⟨S128x8x4096, .f32⟩
  | 17 => ⟨S128x8x32x128, .f32⟩
  | 18 => ⟨S1024x4096, .f32⟩
  | 19 => ⟨S128x8x32x128, .f32⟩
  | 20 => ⟨S1024x32, .f32⟩
  | 21 => ⟨S128x8x32, .f32⟩
  | 22 => ⟨S1024x32, .f32⟩
  | 23 => ⟨S128x8x32, .f32⟩
  | 24 => ⟨S128x8x32, .f32⟩
  | 25 => ⟨S128x8x32, .f32⟩
  | 26 => ⟨S_, .f32⟩
  | 27 => ⟨S128x8x32, .f32⟩
  | 28 => ⟨S128x8x32, .f32⟩
  | 29 => ⟨S_, .f32⟩
  | 30 => ⟨S128x8x32, .f32⟩
  | 31 => ⟨S128x8x32, .f32⟩
  | 32 => ⟨S32, .f32⟩
  | 33 => ⟨S32, .f32⟩
  | 34 => ⟨S1x1x32, .f32⟩
  | 35 => ⟨S128x8x32, .f32⟩
  | 36 => ⟨S128x8x32, .f32⟩
  | 37 => ⟨S_, .f32⟩
  | 38 => ⟨S128x8x32, .f32⟩
  | 39 => ⟨S128x8x32, .f32⟩
  | 40 => ⟨S128x8x32, .f32⟩
  | 41 => ⟨S128x8x32, .f32⟩
  | 42 => ⟨S128x8x32, .i1⟩
  | 43 => ⟨S128x8x32, .f32⟩
  | 44 => ⟨S128x8x32, .f32⟩
  | 45 => ⟨S128x8x32, .f32⟩
  | 46 => ⟨S128x8x32, .f32⟩
  | 47 => ⟨S128x8x32, .f32⟩
  | 48 => ⟨S128x8x32, .f32⟩
  | 49 => ⟨S128x8x32, .f32⟩
  | 50 => ⟨S128x8x32, .f32⟩
  | 51 => ⟨S1x1x32, .f32⟩
  | 52 => ⟨S128x8x32, .f32⟩
  | 53 => ⟨S128x8x32, .f32⟩
  | 54 => ⟨S1x128x32x128x128, .f32⟩
  | 55 => ⟨S128x32x128x128, .f32⟩
  | 56 => ⟨S128x32x8x128, .f32⟩
  | 57 => ⟨S128x32x8x128, .f32⟩
  | 58 => ⟨S128x32x8x128, .f32⟩
  | 59 => ⟨S128x32x8, .f32⟩
  | 60 => ⟨S128x32x8, .f32⟩
  | 61 => ⟨S8x8, .i32⟩
  | 62 => ⟨S8x8, .i32⟩
  | 63 => ⟨S8x8, .i1⟩
  | 64 => ⟨S8x8, .i1⟩
  | 65 => ⟨S8x8, .i1⟩
  | 66 => ⟨S8x8, .f32⟩
  | 67 => ⟨S_, .f32⟩
  | 68 => ⟨S_, .f32⟩
  | 69 => ⟨S128x32x8, .f32⟩
  | 70 => ⟨S128x32x8x1, .f32⟩
  | 71 => ⟨S128x32x1x8, .f32⟩
  | 72 => ⟨S128x32x8x8, .f32⟩
  | 73 => ⟨S128x32x8x8, .f32⟩
  | 74 => ⟨S128x32x8x8, .f32⟩
  | 75 => ⟨S_, .f32⟩
  | 76 => ⟨S_, .f32⟩
  | 77 => ⟨S128x32x8x8, .i1⟩
  | 78 => ⟨S128x32x8x8, .f32⟩
  | 79 => ⟨S128x32x8x8, .f32⟩
  | 80 => ⟨S128x32x8x8, .f32⟩
  | 81 => ⟨S_, .f32⟩
  | 82 => ⟨S_, .f32⟩
  | 83 => ⟨S128x32x8x8, .i1⟩
  | 84 => ⟨S128x32x8x8, .f32⟩
  | 85 => ⟨S128x32x8x8, .f32⟩
  | 86 => ⟨S128x32x8x1, .f32⟩
  | 87 => ⟨S128x32x8x128, .f32⟩
  | 88 => ⟨S128x32x8x128, .f32⟩
  | 89 => ⟨S128x32x8x8, .f32⟩
  | 90 => ⟨S128x32x8x8, .f32⟩
  | 91 => ⟨S_, .f32⟩
  | 92 => ⟨S_, .f32⟩
  | 93 => ⟨S128x32x8x8, .i1⟩
  | 94 => ⟨S128x32x8x8, .f32⟩
  | 95 => ⟨S128x32x8x8, .f32⟩
  | 96 => ⟨S128x32x8x8, .f32⟩
  | 97 => ⟨S_, .i32⟩
  | 98 => ⟨S8x8, .i32⟩
  | 99 => ⟨S8x8, .i1⟩
  | 100 => ⟨S128x32x8x8, .f32⟩
  | 101 => ⟨S1x1x8x8, .f32⟩
  | 102 => ⟨S128x32x8x8, .f32⟩
  | 103 => ⟨S128x32x8x8, .f32⟩
  | 104 => ⟨S128x32x8x8, .i1⟩
  | 105 => ⟨S128x32x8x8, .f32⟩
  | 106 => ⟨S_, .i32⟩
  | 107 => ⟨S8x8, .i32⟩
  | 108 => ⟨S8x8, .i1⟩
  | 109 => ⟨S128x32x8x8, .f32⟩
  | 110 => ⟨S1x1x8x8, .f32⟩
  | 111 => ⟨S128x32x8x8, .f32⟩
  | 112 => ⟨S128x32x8x8, .f32⟩
  | 113 => ⟨S128x32x8x8, .i1⟩
  | 114 => ⟨S128x32x8x8, .f32⟩
  | 115 => ⟨S_, .i32⟩
  | 116 => ⟨S8x8, .i32⟩
  | 117 => ⟨S8x8, .i1⟩
  | 118 => ⟨S128x32x8x8, .f32⟩
  | 119 => ⟨S1x1x8x8, .f32⟩
  | 120 => ⟨S128x32x8x8, .f32⟩
  | 121 => ⟨S128x32x8x8, .f32⟩
  | 122 => ⟨S128x32x8x8, .i1⟩
  | 123 => ⟨S128x32x8x8, .f32⟩
  | 124 => ⟨S_, .i32⟩
  | 125 => ⟨S8x8, .i32⟩
  | 126 => ⟨S8x8, .i1⟩
  | 127 => ⟨S128x32x8x8, .f32⟩
  | _ => ⟨S1024x8192, .f32⟩

abbrev hbmTy0_1 (i : Nat) : BufTy := match i % 128 with
  | 0 => ⟨S1x1x8x8, .f32⟩
  | 1 => ⟨S128x32x8x8, .f32⟩
  | 2 => ⟨S128x32x8x8, .f32⟩
  | 3 => ⟨S128x32x8x8, .i1⟩
  | 4 => ⟨S128x32x8x8, .f32⟩
  | 5 => ⟨S_, .i32⟩
  | 6 => ⟨S8x8, .i32⟩
  | 7 => ⟨S8x8, .i1⟩
  | 8 => ⟨S128x32x8x8, .f32⟩
  | 9 => ⟨S1x1x8x8, .f32⟩
  | 10 => ⟨S128x32x8x8, .f32⟩
  | 11 => ⟨S128x32x8x8, .f32⟩
  | 12 => ⟨S128x32x8x8, .i1⟩
  | 13 => ⟨S128x32x8x8, .f32⟩
  | 14 => ⟨S_, .i32⟩
  | 15 => ⟨S8x8, .i32⟩
  | 16 => ⟨S8x8, .i1⟩
  | 17 => ⟨S128x32x8x8, .f32⟩
  | 18 => ⟨S1x1x8x8, .f32⟩
  | 19 => ⟨S128x32x8x8, .f32⟩
  | 20 => ⟨S128x32x8x8, .f32⟩
  | 21 => ⟨S128x32x8x8, .i1⟩
  | 22 => ⟨S128x32x8x8, .f32⟩
  | 23 => ⟨S_, .i32⟩
  | 24 => ⟨S8x8, .i32⟩
  | 25 => ⟨S8x8, .i1⟩
  | 26 => ⟨S128x32x8x8, .f32⟩
  | 27 => ⟨S1x1x8x8, .f32⟩
  | 28 => ⟨S128x32x8x8, .f32⟩
  | 29 => ⟨S128x32x8x8, .f32⟩
  | 30 => ⟨S128x32x8x8, .i1⟩
  | 31 => ⟨S128x32x8x8, .f32⟩
  | 32 => ⟨S128x32x8x1, .f32⟩
  | 33 => ⟨S128x32x8x128, .f32⟩
  | 34 => ⟨S128x32x8x128, .f32⟩
  | 35 => ⟨S128x32x8x128, .f32⟩
  | 36 => ⟨S128x32x8, .f32⟩
  | 37 => ⟨S128x32x8x1, .f32⟩
  | 38 => ⟨S128x32x8x128, .f32⟩
  | 39 => ⟨S128x32x8x128, .f32⟩
  | 40 => ⟨S128x32x8x128, .f32⟩
  | 41 => ⟨S128x32x8x128, .f32⟩
  | 42 => ⟨S128x32x8x128, .f32⟩
  | 43 => ⟨S128x32x8x8, .f32⟩
  | 44 => ⟨S128x32x8x8, .f32⟩
  | 45 => ⟨S_, .f32⟩
  | 46 => ⟨S_, .f32⟩
  | 47 => ⟨S128x32x8x8, .i1⟩
  | 48 => ⟨S128x32x8x8, .f32⟩
  | 49 => ⟨S128x32x8x8, .f32⟩
  | 50 => ⟨S128x32x8, .f32⟩
  | 51 => ⟨S128x32x8x1, .f32⟩
  | 52 => ⟨S128x32x8x128, .f32⟩
  | 53 => ⟨S128x32x8x128, .f32⟩
  | 54 => ⟨S128x32x8x128, .f32⟩
  | 55 => ⟨S128x32x8x128, .f32⟩
  | 56 => ⟨S128x32x8x128, .f32⟩
  | 57 => ⟨S128x32x1, .f32⟩
  | 58 => ⟨S128x32, .f32⟩
  | 59 => ⟨S128x32, .f32⟩
  | 60 => ⟨S128x32x1x1, .f32⟩
  | 61 => ⟨S128x32x128x128, .f32⟩
  | 62 => ⟨S128x32x128x128, .f32⟩
  | 63 => ⟨S128x32x1, .f32⟩
  | 64 => ⟨S128x32x8, .f32⟩
  | 65 => ⟨S128x32x8, .f32⟩
  | 66 => ⟨S128x32x8, .f32⟩
  | 67 => ⟨S128x32x8x1, .f32⟩
  | 68 => ⟨S128x32x8x128, .f32⟩
  | 69 => ⟨S128x32x8x128, .f32⟩
  | 70 => ⟨S128x32x128x128, .f32⟩
  | 71 => ⟨S128x32x128x128, .f32⟩
  | 72 => ⟨S128x8x32x128, .f32⟩
  | 73 => ⟨S128x8x32x128, .f32⟩
  | 74 => ⟨S_, .f32⟩
  | 75 => ⟨S128x8x32, .f32⟩
  | 76 => ⟨S128x8x32x1, .f32⟩
  | 77 => ⟨S_, .f32⟩
  | 78 => ⟨S128x8x32x1, .f32⟩
  | 79 => ⟨S128x8x32x1, .f32⟩
  | 80 => ⟨S_, .f32⟩
  | 81 => ⟨S128x8x32x1, .f32⟩
  | 82 => ⟨S128x8x32x1, .f32⟩
  | 83 => ⟨S128x8x32x1, .f32⟩
  | 84 => ⟨S128x8x32x128, .f32⟩
  | 85 => ⟨S128x8x32x128, .f32⟩
  | 86 => ⟨S1x1x1x128, .f32⟩
  | 87 => ⟨S128x8x32x128, .f32⟩
  | 88 => ⟨S128x8x32x128, .f32⟩
  | 89 => ⟨S128x8x32x128, .f32⟩
  | 90 => ⟨S128x8x32x128, .f32⟩
  | 91 => ⟨S_, .f32⟩
  | 92 => ⟨S128x8x32x128, .f32⟩
  | 93 => ⟨S128x8x32x128, .f32⟩
  | 94 => ⟨S_, .f32⟩
  | 95 => ⟨S128x8x32x128, .f32⟩
  | 96 => ⟨S128x8x32x128, .f32⟩
  | 97 => ⟨S128x8x32x128, .f32⟩
  | 98 => ⟨S128x8x32x128, .f32⟩
  | 99 => ⟨S1024x4096, .f32⟩
  | _ => ⟨S1024x8192, .f32⟩

abbrev hbmTy (i : Nat) : BufTy := match i / 128 with
  | 0 => hbmTy0_0 i
  | 1 => hbmTy0_1 i
  | _ => ⟨S1024x8192, .f32⟩

abbrev bufTy : (tb : Table) → Fin (tcTables nBuf tb) → BufTy
  | .hbm, ⟨i, _⟩ => hbmTy i
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call1_call0_cst : Ref sig .tc := ⟨.hbm, 67, rfl⟩
abbrev main_call1_call0_v0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_1 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v51 : Ref sig .tc := ⟨.hbm, 79, rfl⟩
abbrev main_v52 : Ref sig .tc := ⟨.hbm, 80, rfl⟩
abbrev main_cst_2 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_3 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_v59 : Ref sig .tc := ⟨.hbm, 95, rfl⟩
abbrev main_v60 : Ref sig .tc := ⟨.hbm, 96, rfl⟩
abbrev main_c : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call5_v0 : Ref sig .tc := ⟨.hbm, 104, rfl⟩
abbrev main_v67 : Ref sig .tc := ⟨.hbm, 105, rfl⟩
abbrev main_c_4 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_call6_v0 : Ref sig .tc := ⟨.hbm, 113, rfl⟩
abbrev main_v74 : Ref sig .tc := ⟨.hbm, 114, rfl⟩
abbrev main_c_5 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_call7_v0 : Ref sig .tc := ⟨.hbm, 122, rfl⟩
abbrev main_v81 : Ref sig .tc := ⟨.hbm, 123, rfl⟩
abbrev main_c_6 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_call8_v0 : Ref sig .tc := ⟨.hbm, 131, rfl⟩
abbrev main_v88 : Ref sig .tc := ⟨.hbm, 132, rfl⟩
abbrev main_c_7 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_call9_v0 : Ref sig .tc := ⟨.hbm, 140, rfl⟩
abbrev main_v95 : Ref sig .tc := ⟨.hbm, 141, rfl⟩
abbrev main_c_8 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_call10_v0 : Ref sig .tc := ⟨.hbm, 149, rfl⟩
abbrev main_v102 : Ref sig .tc := ⟨.hbm, 150, rfl⟩
abbrev main_c_9 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_call11_v0 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_10 : Ref sig .tc := ⟨.hbm, 173, rfl⟩
abbrev main_call12_v0 : Ref sig .tc := ⟨.hbm, 174, rfl⟩
abbrev main_call12_v1 : Ref sig .tc := ⟨.hbm, 175, rfl⟩
abbrev main_call12_v2 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_cst_11 : Ref sig .tc := ⟨.hbm, 202, rfl⟩
abbrev main_v148 : Ref sig .tc := ⟨.hbm, 203, rfl⟩
abbrev main_v149 : Ref sig .tc := ⟨.hbm, 204, rfl⟩
abbrev main_cst_12 : Ref sig .tc := ⟨.hbm, 205, rfl⟩
abbrev main_v150 : Ref sig .tc := ⟨.hbm, 206, rfl⟩
abbrev main_v151 : Ref sig .tc := ⟨.hbm, 207, rfl⟩
abbrev main_cst_13 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_call13_v0 : Ref sig .tc := ⟨.hbm, 217, rfl⟩
abbrev main_call13_v1 : Ref sig .tc := ⟨.hbm, 218, rfl⟩
abbrev main_call13_cst : Ref sig .tc := ⟨.hbm, 219, rfl⟩
abbrev main_call13_v2 : Ref sig .tc := ⟨.hbm, 220, rfl⟩
abbrev main_call13_v3 : Ref sig .tc := ⟨.hbm, 221, rfl⟩
abbrev main_call13_cst_0 : Ref sig .tc := ⟨.hbm, 222, rfl⟩
abbrev main_call13_v4 : Ref sig .tc := ⟨.hbm, 223, rfl⟩
abbrev main_call13_v5 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩

abbrev nD : Nat := 1
abbrev τ : Topo := Topo.v7x

variable {F : FTy → Type} [FloatOps F]
-- ==== Kernel2.lean ====
abbrev S9216x4096 : Shape := ⟨2, ![9216, 4096]⟩
abbrev S2x4096x4096 : Shape := ⟨3, ![2, 4096, 4096]⟩
abbrev S4096 : Shape := ⟨1, ![4096]⟩
abbrev S1x4096 : Shape := ⟨2, ![1, 4096]⟩
abbrev S1024x4096 : Shape := ⟨2, ![1024, 4096]⟩
abbrev S1x4096x512 : Shape := ⟨3, ![1, 4096, 512]⟩
abbrev S1024x512 : Shape := ⟨2, ![1024, 512]⟩
abbrev S1x512 : Shape := ⟨2, ![1, 512]⟩
abbrev S4096x512 : Shape := ⟨2, ![4096, 512]⟩

abbrev nBuf : Space → Nat
  | .hbm => 7
  | .vmem => 13
  | .smem => 0
  | _ => 0

abbrev bufTy : (tb : Table) → Fin (tcTables nBuf tb) → BufTy
  | .hbm, ⟨0, _⟩ => ⟨S9216x4096, .f32⟩
  | .hbm, ⟨1, _⟩ => ⟨S2x4096x4096, .f32⟩
  | .hbm, ⟨2, _⟩ => ⟨S9216x4096, .f32⟩
  | .hbm, ⟨3, _⟩ => ⟨S4096, .f32⟩
  | .hbm, ⟨4, _⟩ => ⟨S9216x4096, .bf16⟩
  | .hbm, ⟨5, _⟩ => ⟨S1x4096, .f32⟩
  | .hbm, ⟨6, _⟩ => ⟨S9216x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S4096x512, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S9216x4096 : Shape := ⟨2, ![9216, 4096]⟩
abbrev S2x4096x4096 : Shape := ⟨3, ![2, 4096, 4096]⟩
abbrev S4096 : Shape := ⟨1, ![4096]⟩
abbrev S1x4096x4096 : Shape := ⟨3, ![1, 4096, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S2x4096x4096, .f32⟩
  | .hbm, ⟨2, _⟩ => ⟨S9216x4096, .f32⟩
  | .hbm, ⟨3, _⟩ => ⟨S4096, .f32⟩
  | .hbm, ⟨4, _⟩ => ⟨S1x4096x4096, .f32⟩
  | .hbm, ⟨5, _⟩ => ⟨S4096x4096, .f32⟩
  | .hbm, ⟨6, _⟩ => ⟨S9216x4096, .f32⟩
  | .hbm, ⟨7, _⟩ => ⟨S1x4096, .f32⟩
  | .hbm, ⟨8, _⟩ => ⟨S9216x4096, .f32⟩
  | .hbm, ⟨9, _⟩ => ⟨S9216x4096, .f32⟩
  | .hbm, ⟨10, _⟩ => ⟨S9216x4096, .f32⟩
  | .hbm, ⟨11, _⟩ => ⟨S9216x4096, .f32⟩
  | .hbm, ⟨12, _⟩ => ⟨S_, .f32⟩
  | .hbm, ⟨13, _⟩ => ⟨S9216x4096, .f32⟩
  | .hbm, ⟨14, _⟩ => ⟨S9216x4096, .f32⟩
  | .hbm, ⟨15, _⟩ => ⟨S_, .f32⟩
  | .hbm, ⟨16, _⟩ => ⟨S9216x4096, .f32⟩
  | .hbm, ⟨17, _⟩ => ⟨S9216x4096, .f32⟩
  | .hbm, ⟨18, _⟩ => ⟨S9216x4096, .f32⟩
  | .hbm, ⟨19, _⟩ => ⟨S9216x4096, .f32⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel3.lean ====
abbrev S9216x4096 : Shape := ⟨2, ![9216, 4096]⟩
abbrev S2x4096x4096 : Shape := ⟨3, ![2, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 9
  | .smem => 0
  | _ => 0

abbrev bufTy : (tb : Table) → Fin (tcTables nBuf tb) → BufTy
  | .hbm, ⟨0, _⟩ => ⟨S9216x4096, .bf16⟩
  | .hbm, ⟨1, _⟩ => ⟨S2x4096x4096, .f32⟩
  | .hbm, ⟨2, _⟩ => ⟨S9216x4096, .f32⟩
  | .hbm, ⟨3, _⟩ => ⟨S9216x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S9216x4096 : Shape := ⟨2, ![9216, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S2x4096x4096, .f32⟩
  | .hbm, ⟨2, _⟩ => ⟨S9216x4096, .f32⟩
  | .hbm, ⟨3, _⟩ => ⟨S9216x4096, .f32⟩
  | .hbm, ⟨4, _⟩ => ⟨S1x4096x4096, .f32⟩
  | .hbm, ⟨5, _⟩ => ⟨S4096x4096, .f32⟩
  | .hbm, ⟨6, _⟩ => ⟨S9216x4096, .f32⟩
  | .hbm, ⟨7, _⟩ => ⟨S9216x4096, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S9216x4096 : Shape := ⟨2, ![9216, 4096]⟩
abbrev S2x4096x12352 : Shape := ⟨3, ![2, 4096, 12352]⟩
abbrev S9216x12288 : Shape := ⟨2, ![9216, 12288]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S9216x4096, .bf16⟩
  | .hbm, ⟨1, _⟩ => ⟨S2x4096x12352, .f32⟩
  | .hbm, ⟨2, _⟩ => ⟨S9216x12288, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S9216x4096 : Shape := ⟨2, ![9216, 4096]⟩
abbrev S2x4096x12352 : Shape := ⟨3, ![2, 4096, 12352]⟩
abbrev S1x4096x12288 : Shape := ⟨3, ![1, 4096, 12288]⟩
abbrev S4096x12288 : Shape := ⟨2, ![4096, 12288]⟩
abbrev S9216x12288 : Shape := ⟨2, ![9216, 12288]⟩

abbrev nBuf : Space → Nat
  | .hbm => 6
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S2x4096x12352, .f32⟩
  | .hbm, ⟨2, _⟩ => ⟨S9216x4096, .f32⟩
  | .hbm, ⟨3, _⟩ => ⟨S1x4096x12288, .f32⟩
  | .hbm, ⟨4, _⟩ => ⟨S4096x12288, .f32⟩
  | .hbm, ⟨5, _⟩ => ⟨S9216x12288, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x8192 : Shape := ⟨2, ![8192, 8192]⟩
abbrev S9216x12288 : Shape := ⟨2, ![9216, 12288]⟩
abbrev S8192x128 : Shape := ⟨2, ![8192, 128]⟩
abbrev S1x4x32x128x128 : Shape := ⟨5, ![1, 4, 32, 128, 128]⟩
abbrev S32 : Shape := ⟨1, ![32]⟩
abbrev S128 : Shape := ⟨1, ![128]⟩
abbrev S8192x32 : Shape := ⟨2, ![8192, 32]⟩
abbrev S_ : Shape := ⟨0, ![]⟩
abbrev S1x32 : Shape := ⟨2, ![1, 32]⟩
abbrev S4x32x64x32 : Shape := ⟨4, ![4, 32, 64, 32]⟩
abbrev S4x2048x2x16 : Shape := ⟨4, ![4, 2048, 2, 16]⟩
abbrev S4x2048x2x32 : Shape := ⟨4, ![4, 2048, 2, 32]⟩
abbrev S4x2x2048x32 : Shape := ⟨4, ![4, 2, 2048, 32]⟩
abbrev S4x32x64x2x16 : Shape := ⟨5, ![4, 32, 64, 2, 16]⟩
abbrev S4x2x32x16x64 : Shape := ⟨5, ![4, 2, 32, 16, 64]⟩
abbrev S1x128 : Shape := ⟨2, ![1, 128]⟩
abbrev S8192x4096 : Shape := ⟨2, ![8192, 4096]⟩
abbrev S4x32x128x128 : Shape := ⟨4, ![4, 32, 128, 128]⟩
abbrev S64x1024 : Shape := ⟨2, ![64, 1024]⟩
abbrev S64x2048 : Shape := ⟨2, ![64, 2048]⟩
abbrev S1x1x64x32 : Shape := ⟨4, ![1, 1, 64, 32]⟩
abbrev S1x1x1x16x64 : Shape := ⟨5, ![1, 1, 1, 16, 64]⟩
abbrev S1x1x16x128x128 : Shape := ⟨5, ![1, 1, 16, 128, 128]⟩
abbrev S1x16x128x128 : Shape := ⟨4, ![1, 16, 128, 128]⟩
abbrev S16x128x128 : Shape := ⟨3, ![16, 128, 128]⟩
abbrev S64x64 : Shape := ⟨2, ![64, 64]⟩
abbrev S64x32 : Shape := ⟨2, ![64, 32]⟩
abbrev S16x64 : Shape := ⟨2, ![16, 64]⟩
abbrev S64x128 : Shape := ⟨2, ![64, 128]⟩
abbrev S64x1 : Shape := ⟨2, ![64, 1]⟩
abbrev S1x64 : Shape := ⟨2, ![1, 64]⟩
abbrev S1x128x128 : Shape := ⟨3, ![1, 128, 128]⟩
abbrev S128x128 : Shape := ⟨2, ![128, 128]⟩
abbrev S1x1 : Shape := ⟨2, ![1, 1]⟩
abbrev S64 : Shape := ⟨1, ![64]⟩

abbrev nBuf : Space → Nat
  | .hbm => 52
  | .vmem => 20
  | .smem => 0
  | _ => 0

abbrev bufTy : (tb : Table) → Fin (tcTables nBuf tb) → BufTy
  | .hbm, ⟨0, _⟩ => ⟨S8192x8192, .f32⟩
  | .hbm, ⟨1, _⟩ => ⟨S9216x12288, .f32⟩
  | .hbm, ⟨2, _⟩ => ⟨S8192x128, .f32⟩
  | .hbm, ⟨3, _⟩ => ⟨S1x4x32x128x128, .f32⟩
  | .hbm, ⟨4, _⟩ => ⟨S32, .f32⟩
  | .hbm, ⟨5, _⟩ => ⟨S32, .f32⟩
  | .hbm, ⟨6, _⟩ => ⟨S128, .f32⟩
  | .hbm, ⟨7, _⟩ => ⟨S8192x32, .f32⟩
  | .hbm, ⟨8, _⟩ => ⟨S8192x32, .f32⟩
  | .hbm, ⟨9, _⟩ => ⟨S8192x32, .f32⟩
  | .hbm, ⟨10, _⟩ => ⟨S_, .f32⟩
  | .hbm, ⟨11, _⟩ => ⟨S8192x32, .f32⟩
  | .hbm, ⟨12, _⟩ => ⟨S8192x32, .f32⟩
  | .hbm, ⟨13, _⟩ => ⟨S_, .f32⟩
  | .hbm, ⟨14, _⟩ => ⟨S8192x32, .f32⟩
  | .hbm, ⟨15, _⟩ => ⟨S8192x32, .f32⟩
  | .hbm, ⟨16, _⟩ => ⟨S32, .f32⟩
  | .hbm, ⟨17, _⟩ => ⟨S32, .f32⟩
  | .hbm, ⟨18, _⟩ => ⟨S8192x32, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S_, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .i1⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S1x32, .f32⟩
  | .hbm, ⟨37, _⟩ => ⟨S8192x32, .f32⟩
  | .hbm, ⟨38, _⟩ => ⟨S8192x32, .f32⟩
  | .hbm, ⟨39, _⟩ => ⟨S4x32x64x32, .f32⟩
  | .hbm, ⟨40, _⟩ => ⟨S_, .f32⟩
  | .hbm, ⟨41, _⟩ => ⟨S_, .f32⟩
  | .hbm, ⟨42, _⟩ => ⟨S4x32x64x32, .f32⟩
  | .hbm, ⟨43, _⟩ => ⟨S4x2048x2x16, .f32⟩
  | .hbm, ⟨44, _⟩ => ⟨S4x2048x2x16, .f32⟩
  | .hbm, ⟨45, _⟩ => ⟨S4x2048x2x32, .f32⟩
  | .hbm, ⟨46, _⟩ => ⟨S4x2x2048x32, .f32⟩
  | .hbm, ⟨47, _⟩ => ⟨S4x32x64x2x16, .f32⟩
  | .hbm, ⟨48, _⟩ => ⟨S4x2x32x16x64, .f32⟩
  | .hbm, ⟨49, _⟩ => ⟨S1x128, .f32⟩
  | .hbm, ⟨50, _⟩ => ⟨S8192x4096, .bf16⟩
  | .hbm, ⟨51, _⟩ => ⟨S4x32x128x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S1x1x64x32, .f32⟩
  | .local _ .vmem, ⟨9, _⟩ => ⟨S1x1x64x32, .f32⟩
  | .local _ .vmem, ⟨10, _⟩ => ⟨S1x1x1x16x64, .f32⟩
  | .local _ .vmem, ⟨11, _⟩ => ⟨S1x1x1x16x64, .f32⟩
  | .local _ .vmem, ⟨12, _⟩ => ⟨S1x1x16x128x128, .f32⟩
  | .local _ .vmem, ⟨13, _⟩ => ⟨S1x1x16x128x128, .f32⟩
  | .local _ .vmem, ⟨14, _⟩ => ⟨S1x128, .f32⟩
  | .local _ .vmem, ⟨15, _⟩ => ⟨S64x2048, .bf16⟩
  | .local _ .vmem, ⟨16, _⟩ => ⟨S64x2048, .bf16⟩
  | .local _ .vmem, ⟨17, _⟩ => ⟨S1x16x128x128, .f32⟩
  | .local _ .vmem, ⟨18, _⟩ => ⟨S1x16x128x128, .f32⟩
  | .local _ .vmem, ⟨19, _⟩ => ⟨S16x128x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_call1_call0_cst : Ref sig .tc := ⟨.hbm, 40, rfl⟩
abbrev main_call1_call0_v0 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26_0 : Ref sig .tc := ⟨.hbm, 50, rfl⟩
abbrev main_v26_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 2, 32], ![false, false, false]⟩

def k0_cond2 (i : grid0.Coords) : BitVec 1 :=
  let arg2 : BitVec 32 := BitVec.ofNat 32 (i 2).val
  let c31_i32 : BitVec 32 := 31#32
  let v2876 : BitVec 1 := Scalar.cmpi .eq arg2 c31_i32
  let v2877 : BitVec 32 := Scalar.extui v2876
  let c0_i32_893 : BitVec 32 := 0#32
  let v2878 : BitVec 1 := Scalar.cmpi .ne v2877 c0_i32_893
  v2878

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg2
  let c4_i32 : BitVec 32 := 4#32
  let v3 : BitVec 32 := Scalar.addi c4_i32 arg1
  let c0_i32_0 : BitVec 32 := 0#32
  ![v2.toNat, v3.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x64x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x16x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x16x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference5Ideal.lean ====
abbrev S8192x8192 : Shape := ⟨2, ![8192, 8192]⟩
abbrev S9216x12288 : Shape := ⟨2, ![9216, 12288]⟩
abbrev S8192x128 : Shape := ⟨2, ![8192, 128]⟩
abbrev S1x4x32x128x128 : Shape := ⟨5, ![1, 4, 32, 128, 128]⟩
abbrev S32 : Shape := ⟨1, ![32]⟩
abbrev S128 : Shape := ⟨1, ![128]⟩
abbrev S8192x2048 : Shape := ⟨2, ![8192, 2048]⟩
abbrev S4x32x64x16x128 : Shape := ⟨5, ![4, 32, 64, 16, 128]⟩
abbrev S4x32x64x16x2x128 : Shape := ⟨6, ![4, 32, 64, 16, 2, 128]⟩
abbrev S4x32x64x32x128 : Shape := ⟨5, ![4, 32, 64, 32, 128]⟩
abbrev S8192x4096 : Shape := ⟨2, ![8192, 4096]⟩
abbrev S8192x32 : Shape := ⟨2, ![8192, 32]⟩
abbrev S4x32x64x32 : Shape := ⟨4, ![4, 32, 64, 32]⟩
abbrev S_ : Shape := ⟨0, ![]⟩
abbrev S1x1x1x32 : Shape := ⟨4, ![1, 1, 1, 32]⟩
abbrev S4x32x128x128 : Shape := ⟨4, ![4, 32, 128, 128]⟩
abbrev S128x128x128 : Shape := ⟨3, ![128, 128, 128]⟩
abbrev S32x4x32x64x128 : Shape := ⟨5, ![32, 4, 32, 64, 128]⟩
abbrev S32x128x64x128 : Shape := ⟨4, ![32, 128, 64, 128]⟩
abbrev S32x4x32x64 : Shape := ⟨4, ![32, 4, 32, 64]⟩
abbrev S32x128x64 : Shape := ⟨3, ![32, 128, 64]⟩
abbrev S1x128x64x128 : Shape := ⟨4, ![1, 128, 64, 128]⟩
abbrev S128x64x128 : Shape := ⟨3, ![128, 64, 128]⟩
abbrev S1x128x64 : Shape := ⟨3, ![1, 128, 64]⟩
abbrev S128x64 : Shape := ⟨2, ![128, 64]⟩
abbrev S64x64 : Shape := ⟨2, ![64, 64]⟩
abbrev S128x64x1 : Shape := ⟨3, ![128, 64, 1]⟩
abbrev S128x1x64 : Shape := ⟨3, ![128, 1, 64]⟩
abbrev S128x64x64 : Shape := ⟨3, ![128, 64, 64]⟩
abbrev S1x64x64 : Shape := ⟨3, ![1, 64, 64]⟩
abbrev S128x1 : Shape := ⟨2, ![128, 1]⟩
abbrev S128x1x1 : Shape := ⟨3, ![128, 1, 1]⟩
abbrev S4x32x64x32x1 : Shape := ⟨5, ![4, 32, 64, 32, 1]⟩
abbrev S1x1x1x1x128 : Shape := ⟨5, ![1, 1, 1, 1, 128]⟩

abbrev nBuf : Space → Nat
  | .hbm => 232
  | .vmem => 0
  | .smem => 0
  | _ => 0

abbrev hbmTy0_0 (i : Nat) : BufTy := match i % 128 with
  | 0 => ⟨S8192x8192, .f32⟩
  | 1 => ⟨S9216x12288, .f32⟩
  | 2 => ⟨S8192x128, .f32⟩
  | 3 => ⟨S1x4x32x128x128, .f32⟩
  | 4 => ⟨S32, .f32⟩
  | 5 => ⟨S32, .f32⟩
  | 6 => ⟨S128, .f32⟩
  | 7 => ⟨S8192x2048, .f32⟩
  | 8 => ⟨S4x32x64x16x128, .f32⟩
  | 9 => ⟨S4x32x64x16x2x128, .f32⟩
  | 10 => ⟨S4x32x64x32x128, .f32⟩
  | 11 => ⟨S8192x2048, .f32⟩
  | 12 => ⟨S4x32x64x16x128, .f32⟩
  | 13 => ⟨S4x32x64x16x2x128, .f32⟩
  | 14 => ⟨S4x32x64x32x128, .f32⟩
  | 15 => ⟨S8192x4096, .f32⟩
  | 16 => ⟨S4x32x64x32x128, .f32⟩
  | 17 => ⟨S8192x32, .f32⟩
  | 18 => ⟨S4x32x64x32, .f32⟩
  | 19 => ⟨S8192x32, .f32⟩
  | 20 => ⟨S4x32x64x32, .f32⟩
  | 21 => ⟨S4x32x64x32, .f32⟩
  | 22 => ⟨S4x32x64x32, .f32⟩
  | 23 => ⟨S_, .f32⟩
  | 24 => ⟨S4x32x64x32, .f32⟩
  | 25 => ⟨S4x32x64x32, .f32⟩
  | 26 => ⟨S_, .f32⟩
  | 27 => ⟨S4x32x64x32, .f32⟩
  | 28 => ⟨S4x32x64x32, .f32⟩
  | 29 => ⟨S32, .f32⟩
  | 30 => ⟨S32, .f32⟩
  | 31 => ⟨S1x1x1x32, .f32⟩
  | 32 => ⟨S4x32x64x32, .f32⟩
  | 33 => ⟨S4x32x64x32, .f32⟩
  | 34 => ⟨S_, .f32⟩
  | 35 => ⟨S4x32x64x32, .f32⟩
  | 36 => ⟨S4x32x64x32, .f32⟩
  | 37 => ⟨S4x32x64x32, .f32⟩
  | 38 => ⟨S4x32x64x32, .f32⟩
  | 39 => ⟨S4x32x64x32, .i1⟩
  | 40 => ⟨S4x32x64x32, .f32⟩
  | 41 => ⟨S4x32x64x32, .f32⟩
  | 42 => ⟨S4x32x64x32, .f32⟩
  | 43 => ⟨S4x32x64x32, .f32⟩
  | 44 => ⟨S4x32x64x32, .f32⟩
  | 45 => ⟨S4x32x64x32, .f32⟩
  | 46 => ⟨S4x32x64x32, .f32⟩
  | 47 => ⟨S4x32x64x32, .f32⟩
  | 48 => ⟨S1x1x1x32, .f32⟩
  | 49 => ⟨S4x32x64x32, .f32⟩
  | 50 => ⟨S4x32x64x32, .f32⟩
  | 51 => ⟨S4x32x128x128, .f32⟩
  | 52 => ⟨S128x128x128, .f32⟩
  | 53 => ⟨S32x4x32x64x128, .f32⟩
  | 54 => ⟨S32x128x64x128, .f32⟩
  | 55 => ⟨S32x4x32x64x128, .f32⟩
  | 56 => ⟨S32x128x64x128, .f32⟩
  | 57 => ⟨S32x4x32x64x128, .f32⟩
  | 58 => ⟨S32x128x64x128, .f32⟩
  | 59 => ⟨S32x4x32x64, .f32⟩
  | 60 => ⟨S32x128x64, .f32⟩
  | 61 => ⟨S32x4x32x64, .f32⟩
  | 62 => ⟨S32x128x64, .f32⟩
  | 63 => ⟨S_, .f32⟩
  | 64 => ⟨S32x128x64x128, .f32⟩
  | 65 => ⟨S_, .i32⟩
  | 66 => ⟨S32x128x64x128, .f32⟩
  | 67 => ⟨S32x128x64x128, .f32⟩
  | 68 => ⟨S32x128x64x128, .f32⟩
  | 69 => ⟨S32x128x64, .f32⟩
  | 70 => ⟨S32x128x64, .f32⟩
  | 71 => ⟨S_, .i32⟩
  | 72 => ⟨S128x128x128, .f32⟩
  | 73 => ⟨S32x128x64x128, .f32⟩
  | 74 => ⟨S_, .i32⟩
  | 75 => ⟨S_, .i1⟩
  | 76 => ⟨S_, .i32⟩
  | 77 => ⟨S_, .i32⟩
  | 78 => ⟨S_, .i32⟩
  | 79 => ⟨S1x128x64x128, .f32⟩
  | 80 => ⟨S128x64x128, .f32⟩
  | 81 => ⟨S_, .i32⟩
  | 82 => ⟨S_, .i32⟩
  | 83 => ⟨S_, .i32⟩
  | 84 => ⟨S1x128x64x128, .f32⟩
  | 85 => ⟨S128x64x128, .f32⟩
  | 86 => ⟨S_, .i32⟩
  | 87 => ⟨S_, .i32⟩
  | 88 => ⟨S_, .i32⟩
  | 89 => ⟨S1x128x64x128, .f32⟩
  | 90 => ⟨S128x64x128, .f32⟩
  | 91 => ⟨S_, .i32⟩
  | 92 => ⟨S_, .i32⟩
  | 93 => ⟨S1x128x64, .f32⟩
  | 94 => ⟨S128x64, .f32⟩
  | 95 => ⟨S_, .i32⟩
  | 96 => ⟨S_, .i32⟩
  | 97 => ⟨S1x128x64, .f32⟩
  | 98 => ⟨S128x64, .f32⟩
  | 99 => ⟨S64x64, .i32⟩
  | 100 => ⟨S64x64, .i32⟩
  | 101 => ⟨S64x64, .i1⟩
  | 102 => ⟨S64x64, .i1⟩
  | 103 => ⟨S64x64, .i1⟩
  | 104 => ⟨S64x64, .f32⟩
  | 105 => ⟨S_, .f32⟩
  | 106 => ⟨S_, .f32⟩
  | 107 => ⟨S128x64, .f32⟩
  | 108 => ⟨S128x64x1, .f32⟩
  | 109 => ⟨S128x1x64, .f32⟩
  | 110 => ⟨S128x64x64, .f32⟩
  | 111 => ⟨S128x64x64, .f32⟩
  | 112 => ⟨S128x64x64, .f32⟩
  | 113 => ⟨S_, .f32⟩
  | 114 => ⟨S_, .f32⟩
  | 115 => ⟨S128x64x64, .i1⟩
  | 116 => ⟨S128x64x64, .f32⟩
  | 117 => ⟨S128x64x64, .f32⟩
  | 118 => ⟨S128x64x64, .f32⟩
  | 119 => ⟨S_, .f32⟩
  | 120 => ⟨S_, .f32⟩
  | 121 => ⟨S128x64x64, .i1⟩
  | 122 => ⟨S128x64x64, .f32⟩
  | 123 => ⟨S128x64x64, .f32⟩
  | 124 => ⟨S128x64x1, .f32⟩
  | 125 => ⟨S128x64x128, .f32⟩
  | 126 => ⟨S128x64x128, .f32⟩
  | 127 => ⟨S128x64x64, .f32⟩
  | _ => ⟨S8192x8192, .f32⟩

abbrev hbmTy0_1 (i : Nat) : BufTy := match i % 128 with
  | 0 => ⟨S128x64x64, .f32⟩
  | 1 => ⟨S_, .f32⟩
  | 2 => ⟨S_, .f32⟩
  | 3 => ⟨S128x64x64, .i1⟩
  | 4 => ⟨S128x64x64, .f32⟩
  | 5 => ⟨S128x64x64, .f32⟩
  | 6 => ⟨S1x64x64, .f32⟩
  | 7 => ⟨S128x64x64, .f32⟩
  | 8 => ⟨S128x64x64, .f32⟩
  | 9 => ⟨S128x64x64, .f32⟩
  | 10 => ⟨S128x64x64, .f32⟩
  | 11 => ⟨S128x64x64, .f32⟩
  | 12 => ⟨S128x64x64, .f32⟩
  | 13 => ⟨S128x64x64, .f32⟩
  | 14 => ⟨S128x64x64, .f32⟩
  | 15 => ⟨S128x64x64, .f32⟩
  | 16 => ⟨S128x64x64, .f32⟩
  | 17 => ⟨S128x64x64, .f32⟩
  | 18 => ⟨S128x64x64, .f32⟩
  | 19 => ⟨S128x64x64, .f32⟩
  | 20 => ⟨S128x64x64, .f32⟩
  | 21 => ⟨S128x64x64, .f32⟩
  | 22 => ⟨S128x64x64, .f32⟩
  | 23 => ⟨S128x64x64, .f32⟩
  | 24 => ⟨S128x64x1, .f32⟩
  | 25 => ⟨S128x64x128, .f32⟩
  | 26 => ⟨S128x64x128, .f32⟩
  | 27 => ⟨S128x64x128, .f32⟩
  | 28 => ⟨S128x64, .f32⟩
  | 29 => ⟨S128x64x1, .f32⟩
  | 30 => ⟨S128x64x128, .f32⟩
  | 31 => ⟨S128x64x128, .f32⟩
  | 32 => ⟨S128x64x128, .f32⟩
  | 33 => ⟨S128x64x128, .f32⟩
  | 34 => ⟨S128x64x128, .f32⟩
  | 35 => ⟨S128x64x64, .f32⟩
  | 36 => ⟨S128x64x64, .f32⟩
  | 37 => ⟨S_, .f32⟩
  | 38 => ⟨S_, .f32⟩
  | 39 => ⟨S128x64x64, .i1⟩
  | 40 => ⟨S128x64x64, .f32⟩
  | 41 => ⟨S128x64x64, .f32⟩
  | 42 => ⟨S128x64, .f32⟩
  | 43 => ⟨S128x64x1, .f32⟩
  | 44 => ⟨S128x64x128, .f32⟩
  | 45 => ⟨S128x64x128, .f32⟩
  | 46 => ⟨S128x64x128, .f32⟩
  | 47 => ⟨S128x64x128, .f32⟩
  | 48 => ⟨S128x64x128, .f32⟩
  | 49 => ⟨S128x1, .f32⟩
  | 50 => ⟨S128, .f32⟩
  | 51 => ⟨S128, .f32⟩
  | 52 => ⟨S128x1x1, .f32⟩
  | 53 => ⟨S128x128x128, .f32⟩
  | 54 => ⟨S128x128x128, .f32⟩
  | 55 => ⟨S128x1, .f32⟩
  | 56 => ⟨S128x64, .f32⟩
  | 57 => ⟨S128x64, .f32⟩
  | 58 => ⟨S128x64, .f32⟩
  | 59 => ⟨S128x64x1, .f32⟩
  | 60 => ⟨S128x64x128, .f32⟩
  | 61 => ⟨S128x64x128, .f32⟩
  | 62 => ⟨S128x128x128, .f32⟩
  | 63 => ⟨S128x128x128, .f32⟩
  | 64 => ⟨S1x128x64x128, .f32⟩
  | 65 => ⟨S_, .i32⟩
  | 66 => ⟨S_, .i32⟩
  | 67 => ⟨S_, .i32⟩
  | 68 => ⟨S32x128x64x128, .f32⟩
  | 69 => ⟨S_, .i32⟩
  | 70 => ⟨S_, .i32⟩
  | 71 => ⟨S32x4x32x64x128, .f32⟩
  | 72 => ⟨S4x32x64x32x128, .f32⟩
  | 73 => ⟨S8192x4096, .f32⟩
  | 74 => ⟨S4x32x64x32x128, .f32⟩
  | 75 => ⟨S4x32x64x32x128, .f32⟩
  | 76 => ⟨S_, .f32⟩
  | 77 => ⟨S4x32x64x32, .f32⟩
  | 78 => ⟨S4x32x64x32x1, .f32⟩
  | 79 => ⟨S_, .f32⟩
  | 80 => ⟨S4x32x64x32x1, .f32⟩
  | 81 => ⟨S4x32x64x32x1, .f32⟩
  | 82 => ⟨S_, .f32⟩
  | 83 => ⟨S4x32x64x32x1, .f32⟩
  | 84 => ⟨S4x32x64x32x1, .f32⟩
  | 85 => ⟨S4x32x64x32x1, .f32⟩
  | 86 => ⟨S4x32x64x32x128, .f32⟩
  | 87 => ⟨S4x32x64x32x128, .f32⟩
  | 88 => ⟨S1x1x1x1x128, .f32⟩
  | 89 => ⟨S4x32x64x32x128, .f32⟩
  | 90 => ⟨S4x32x64x32x128, .f32⟩
  | 91 => ⟨S4x32x64x32x128, .f32⟩
  | 92 => ⟨S4x32x64x32x128, .f32⟩
  | 93 => ⟨S_, .f32⟩
  | 94 => ⟨S4x32x64x32x128, .f32⟩
  | 95 => ⟨S4x32x64x32x128, .f32⟩
  | 96 => ⟨S_, .f32⟩
  | 97 => ⟨S4x32x64x32x128, .f32⟩
  | 98 => ⟨S4x32x64x32x128, .f32⟩
  | 99 => ⟨S4x32x64x32x128, .f32⟩
  | 100 => ⟨S4x32x64x32x128, .f32⟩
  | 101 => ⟨S8192x4096, .f32⟩
  | 102 => ⟨S8192x4096, .bf16⟩
  | 103 => ⟨S4x32x128x128, .f32⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_1 : Ref sig .tc := ⟨.hbm, 63, rfl⟩
abbrev main_v41 : Ref sig .tc := ⟨.hbm, 64, rfl⟩
abbrev main_c : Ref sig .tc := ⟨.hbm, 65, rfl⟩
abbrev main_v42_0 : Ref sig .tc := ⟨.hbm, 66, rfl⟩
abbrev main_v42_1 : Ref sig .tc := ⟨.hbm, 67, rfl⟩
abbrev main_v42_2 : Ref sig .tc := ⟨.hbm, 68, rfl⟩
abbrev main_v42_3 : Ref sig .tc := ⟨.hbm, 69, rfl⟩
abbrev main_v42_4 : Ref sig .tc := ⟨.hbm, 70, rfl⟩
abbrev main_v42_5 : Ref sig .tc := ⟨.hbm, 71, rfl⟩
abbrev main_v42_6 : Ref sig .tc := ⟨.hbm, 72, rfl⟩
abbrev main_v42_7 : Ref sig .tc := ⟨.hbm, 73, rfl⟩
abbrev main_while0c_c_12 : Ref sig .tc := ⟨.hbm, 74, rfl⟩
abbrev main_while0c_v65 : Ref sig .tc := ⟨.hbm, 75, rfl⟩
abbrev main_while0b_call1_c : Ref sig .tc := ⟨.hbm, 76, rfl⟩
abbrev main_while0b_call1_c_0 : Ref sig .tc := ⟨.hbm, 77, rfl⟩
abbrev main_while0b_call1_c_1 : Ref sig .tc := ⟨.hbm, 78, rfl⟩
abbrev main_while0b_call1_v0 : Ref sig .tc := ⟨.hbm, 79, rfl⟩
abbrev main_while0b_v65 : Ref sig .tc := ⟨.hbm, 80, rfl⟩
abbrev main_while0b_call2_c : Ref sig .tc := ⟨.hbm, 81, rfl⟩
abbrev main_while0b_call2_c_0 : Ref sig .tc := ⟨.hbm, 82, rfl⟩
abbrev main_while0b_call2_c_1 : Ref sig .tc := ⟨.hbm, 83, rfl⟩
abbrev main_while0b_call2_v0 : Ref sig .tc := ⟨.hbm, 84, rfl⟩
abbrev main_while0b_v66 : Ref sig .tc := ⟨.hbm, 85, rfl⟩
abbrev main_while0b_call3_c : Ref sig .tc := ⟨.hbm, 86, rfl⟩
abbrev main_while0b_call3_c_0 : Ref sig .tc := ⟨.hbm, 87, rfl⟩
abbrev main_while0b_call3_c_1 : Ref sig .tc := ⟨.hbm, 88, rfl⟩
abbrev main_while0b_call3_v0 : Ref sig .tc := ⟨.hbm, 89, rfl⟩
abbrev main_while0b_v67 : Ref sig .tc := ⟨.hbm, 90, rfl⟩
abbrev main_while0b_call4_c : Ref sig .tc := ⟨.hbm, 91, rfl⟩
abbrev main_while0b_call4_c_0 : Ref sig .tc := ⟨.hbm, 92, rfl⟩
abbrev main_while0b_call4_v0 : Ref sig .tc := ⟨.hbm, 93, rfl⟩
abbrev main_while0b_v68 : Ref sig .tc := ⟨.hbm, 94, rfl⟩
abbrev main_while0b_call5_c : Ref sig .tc := ⟨.hbm, 95, rfl⟩
abbrev main_while0b_call5_c_0 : Ref sig .tc := ⟨.hbm, 96, rfl⟩
abbrev main_while0b_call5_v0 : Ref sig .tc := ⟨.hbm, 97, rfl⟩
abbrev main_while0b_v69 : Ref sig .tc := ⟨.hbm, 98, rfl⟩
abbrev main_while0b_v70 : Ref sig .tc := ⟨.hbm, 99, rfl⟩
abbrev main_while0b_v71 : Ref sig .tc := ⟨.hbm, 100, rfl⟩
abbrev main_while0b_v72 : Ref sig .tc := ⟨.hbm, 101, rfl⟩
abbrev main_while0b_v73 : Ref sig .tc := ⟨.hbm, 102, rfl⟩
abbrev main_while0b_v74 : Ref sig .tc := ⟨.hbm, 103, rfl⟩
abbrev main_while0b_v75 : Ref sig .tc := ⟨.hbm, 104, rfl⟩
abbrev main_while0b_call6_call0_cst : Ref sig .tc := ⟨.hbm, 105, rfl⟩
abbrev main_while0b_call6_call0_v0 : Ref sig .tc := ⟨.hbm, 106, rfl⟩
abbrev main_while0b_v76 : Ref sig .tc := ⟨.hbm, 107, rfl⟩
abbrev main_while0b_v77 : Ref sig .tc := ⟨.hbm, 108, rfl⟩
abbrev main_while0b_v78 : Ref sig .tc := ⟨.hbm, 109, rfl⟩
abbrev main_while0b_v79 : Ref sig .tc := ⟨.hbm, 110, rfl⟩
abbrev main_while0b_v80 : Ref sig .tc := ⟨.hbm, 111, rfl⟩
abbrev main_while0b_v81 : Ref sig .tc := ⟨.hbm, 112, rfl⟩
abbrev main_while0b_cst_12 : Ref sig .tc := ⟨.hbm, 113, rfl⟩
abbrev main_while0b_call7_v0 : Ref sig .tc := ⟨.hbm, 114, rfl⟩
abbrev main_while0b_call7_v1 : Ref sig .tc := ⟨.hbm, 115, rfl⟩
abbrev main_while0b_call7_v2 : Ref sig .tc := ⟨.hbm, 116, rfl⟩
abbrev main_while0b_v82 : Ref sig .tc := ⟨.hbm, 117, rfl⟩
abbrev main_while0b_v83 : Ref sig .tc := ⟨.hbm, 118, rfl⟩
abbrev main_while0b_cst_13 : Ref sig .tc := ⟨.hbm, 119, rfl⟩
abbrev main_while0b_call8_v0 : Ref sig .tc := ⟨.hbm, 120, rfl⟩
abbrev main_while0b_call8_v1 : Ref sig .tc := ⟨.hbm, 121, rfl⟩
abbrev main_while0b_call8_v2 : Ref sig .tc := ⟨.hbm, 122, rfl⟩
abbrev main_while0b_v84 : Ref sig .tc := ⟨.hbm, 123, rfl⟩
abbrev main_while0b_v85 : Ref sig .tc := ⟨.hbm, 124, rfl⟩
abbrev main_while0b_v86 : Ref sig .tc := ⟨.hbm, 125, rfl⟩
abbrev main_while0b_v87 : Ref sig .tc := ⟨.hbm, 126, rfl⟩
abbrev main_while0b_v88 : Ref sig .tc := ⟨.hbm, 127, rfl⟩
abbrev main_while0b_v89 : Ref sig .tc := ⟨.hbm, 128, rfl⟩
abbrev main_while0b_cst_14 : Ref sig .tc := ⟨.hbm, 129, rfl⟩
abbrev main_while0b_call9_v0 : Ref sig .tc := ⟨.hbm, 130, rfl⟩
abbrev main_while0b_call9_v1 : Ref sig .tc := ⟨.hbm, 131, rfl⟩
abbrev main_while0b_call9_v2 : Ref sig .tc := ⟨.hbm, 132, rfl⟩
abbrev main_while0b_v90 : Ref sig .tc := ⟨.hbm, 133, rfl⟩
abbrev main_while0b_v91 : Ref sig .tc := ⟨.hbm, 134, rfl⟩
abbrev main_while0b_v92 : Ref sig .tc := ⟨.hbm, 135, rfl⟩
abbrev main_while0b_v93 : Ref sig .tc := ⟨.hbm, 136, rfl⟩
abbrev main_while0b_v94 : Ref sig .tc := ⟨.hbm, 137, rfl⟩
abbrev main_while0b_v95 : Ref sig .tc := ⟨.hbm, 138, rfl⟩
abbrev main_while0b_v96 : Ref sig .tc := ⟨.hbm, 139, rfl⟩
abbrev main_while0b_v97 : Ref sig .tc := ⟨.hbm, 140, rfl⟩
abbrev main_while0b_v98 : Ref sig .tc := ⟨.hbm, 141, rfl⟩
abbrev main_while0b_v99 : Ref sig .tc := ⟨.hbm, 142, rfl⟩
abbrev main_while0b_v100 : Ref sig .tc := ⟨.hbm, 143, rfl⟩
abbrev main_while0b_v101 : Ref sig .tc := ⟨.hbm, 144, rfl⟩
abbrev main_while0b_v102 : Ref sig .tc := ⟨.hbm, 145, rfl⟩
abbrev main_while0b_v103 : Ref sig .tc := ⟨.hbm, 146, rfl⟩
abbrev main_while0b_v104 : Ref sig .tc := ⟨.hbm, 147, rfl⟩
abbrev main_while0b_v105 : Ref sig .tc := ⟨.hbm, 148, rfl⟩
abbrev main_while0b_v106 : Ref sig .tc := ⟨.hbm, 149, rfl⟩
abbrev main_while0b_v107 : Ref sig .tc := ⟨.hbm, 150, rfl⟩
abbrev main_while0b_v108 : Ref sig .tc := ⟨.hbm, 151, rfl⟩
abbrev main_while0b_v109 : Ref sig .tc := ⟨.hbm, 152, rfl⟩
abbrev main_while0b_v110 : Ref sig .tc := ⟨.hbm, 153, rfl⟩
abbrev main_while0b_v111 : Ref sig .tc := ⟨.hbm, 154, rfl⟩
abbrev main_while0b_v112 : Ref sig .tc := ⟨.hbm, 155, rfl⟩
abbrev main_while0b_v113 : Ref sig .tc := ⟨.hbm, 156, rfl⟩
abbrev main_while0b_v114 : Ref sig .tc := ⟨.hbm, 157, rfl⟩
abbrev main_while0b_v115 : Ref sig .tc := ⟨.hbm, 158, rfl⟩
abbrev main_while0b_v116 : Ref sig .tc := ⟨.hbm, 159, rfl⟩
abbrev main_while0b_v117 : Ref sig .tc := ⟨.hbm, 160, rfl⟩
abbrev main_while0b_v118 : Ref sig .tc := ⟨.hbm, 161, rfl⟩
abbrev main_while0b_v119 : Ref sig .tc := ⟨.hbm, 162, rfl⟩
abbrev main_while0b_v120 : Ref sig .tc := ⟨.hbm, 163, rfl⟩
abbrev main_while0b_v121 : Ref sig .tc := ⟨.hbm, 164, rfl⟩
abbrev main_while0b_cst_15 : Ref sig .tc := ⟨.hbm, 165, rfl⟩
abbrev main_while0b_call10_v0 : Ref sig .tc := ⟨.hbm, 166, rfl⟩
abbrev main_while0b_call10_v1 : Ref sig .tc := ⟨.hbm, 167, rfl⟩
abbrev main_while0b_call10_v2 : Ref sig .tc := ⟨.hbm, 168, rfl⟩
abbrev main_while0b_v122 : Ref sig .tc := ⟨.hbm, 169, rfl⟩
abbrev main_while0b_v123 : Ref sig .tc := ⟨.hbm, 170, rfl⟩
abbrev main_while0b_v124 : Ref sig .tc := ⟨.hbm, 171, rfl⟩
abbrev main_while0b_v125 : Ref sig .tc := ⟨.hbm, 172, rfl⟩
abbrev main_while0b_v126 : Ref sig .tc := ⟨.hbm, 173, rfl⟩
abbrev main_while0b_v127 : Ref sig .tc := ⟨.hbm, 174, rfl⟩
abbrev main_while0b_v128 : Ref sig .tc := ⟨.hbm, 175, rfl⟩
abbrev main_while0b_v129 : Ref sig .tc := ⟨.hbm, 176, rfl⟩
abbrev main_while0b_v130 : Ref sig .tc := ⟨.hbm, 177, rfl⟩
abbrev main_while0b_v131 : Ref sig .tc := ⟨.hbm, 178, rfl⟩
abbrev main_while0b_v132 : Ref sig .tc := ⟨.hbm, 179, rfl⟩
abbrev main_while0b_v133 : Ref sig .tc := ⟨.hbm, 180, rfl⟩
abbrev main_while0b_v134 : Ref sig .tc := ⟨.hbm, 181, rfl⟩
abbrev main_while0b_v135 : Ref sig .tc := ⟨.hbm, 182, rfl⟩
abbrev main_while0b_v136 : Ref sig .tc := ⟨.hbm, 183, rfl⟩
abbrev main_while0b_v137 : Ref sig .tc := ⟨.hbm, 184, rfl⟩
abbrev main_while0b_v138 : Ref sig .tc := ⟨.hbm, 185, rfl⟩
abbrev main_while0b_v139 : Ref sig .tc := ⟨.hbm, 186, rfl⟩
abbrev main_while0b_v140 : Ref sig .tc := ⟨.hbm, 187, rfl⟩
abbrev main_while0b_v141 : Ref sig .tc := ⟨.hbm, 188, rfl⟩
abbrev main_while0b_v142 : Ref sig .tc := ⟨.hbm, 189, rfl⟩
abbrev main_while0b_v143 : Ref sig .tc := ⟨.hbm, 190, rfl⟩
abbrev main_while0b_v144 : Ref sig .tc := ⟨.hbm, 191, rfl⟩
abbrev main_while0b_call11_v0 : Ref sig .tc := ⟨.hbm, 192, rfl⟩
abbrev main_while0b_call11_c : Ref sig .tc := ⟨.hbm, 193, rfl⟩
abbrev main_while0b_call11_c_0 : Ref sig .tc := ⟨.hbm, 194, rfl⟩
abbrev main_while0b_call11_c_1 : Ref sig .tc := ⟨.hbm, 195, rfl⟩
abbrev main_while0b_v145 : Ref sig .tc := ⟨.hbm, 196, rfl⟩
abbrev main_while0b_c_16 : Ref sig .tc := ⟨.hbm, 197, rfl⟩
abbrev main_while0b_v146 : Ref sig .tc := ⟨.hbm, 198, rfl⟩
abbrev main_v43 : Ref sig .tc := ⟨.hbm, 199, rfl⟩
abbrev main_v44 : Ref sig .tc := ⟨.hbm, 200, rfl⟩
abbrev main_v45 : Ref sig .tc := ⟨.hbm, 201, rfl⟩
abbrev main_v46 : Ref sig .tc := ⟨.hbm, 202, rfl⟩
abbrev main_v47 : Ref sig .tc := ⟨.hbm, 203, rfl⟩
abbrev main_cst_2 : Ref sig .tc := ⟨.hbm, 204, rfl⟩
abbrev main_v48 : Ref sig .tc := ⟨.hbm, 205, rfl⟩
abbrev main_v49 : Ref sig .tc := ⟨.hbm, 206, rfl⟩
abbrev main_cst_3 : Ref sig .tc := ⟨.hbm, 207, rfl⟩
abbrev main_v50 : Ref sig .tc := ⟨.hbm, 208, rfl⟩
abbrev main_v51 : Ref sig .tc := ⟨.hbm, 209, rfl⟩
abbrev main_cst_4 : Ref sig .tc := ⟨.hbm, 210, rfl⟩
abbrev main_v52 : Ref sig .tc := ⟨.hbm, 211, rfl⟩
abbrev main_v53 : Ref sig .tc := ⟨.hbm, 212, rfl⟩
abbrev main_v54 : Ref sig .tc := ⟨.hbm, 213, rfl⟩
abbrev main_v55 : Ref sig .tc := ⟨.hbm, 214, rfl⟩
abbrev main_v56 : Ref sig .tc := ⟨.hbm, 215, rfl⟩
abbrev main_v57 : Ref sig .tc := ⟨.hbm, 216, rfl⟩
abbrev main_v58 : Ref sig .tc := ⟨.hbm, 217, rfl⟩
abbrev main_v59 : Ref sig .tc := ⟨.hbm, 218, rfl⟩
abbrev main_call12_v0 : Ref sig .tc := ⟨.hbm, 219, rfl⟩
abbrev main_call12_v1 : Ref sig .tc := ⟨.hbm, 220, rfl⟩
abbrev main_call12_cst : Ref sig .tc := ⟨.hbm, 221, rfl⟩
abbrev main_call12_v2 : Ref sig .tc := ⟨.hbm, 222, rfl⟩
abbrev main_call12_v3 : Ref sig .tc := ⟨.hbm, 223, rfl⟩
abbrev main_call12_cst_0 : Ref sig .tc := ⟨.hbm, 224, rfl⟩
abbrev main_call12_v4 : Ref sig .tc := ⟨.hbm, 225, rfl⟩
abbrev main_call12_v5 : Ref sig .tc := ⟨.hbm, 226, rfl⟩
abbrev main_v60 : Ref sig .tc := ⟨.hbm, 227, rfl⟩
abbrev main_v61 : Ref sig .tc := ⟨.hbm, 228, rfl⟩
abbrev main_v62 : Ref sig .tc := ⟨.hbm, 229, rfl⟩
abbrev main_v63 : Ref sig .tc := ⟨.hbm, 230, rfl⟩
abbrev main_v64 : Ref sig .tc := ⟨.hbm, 231, rfl⟩

abbrev nD : Nat := 1
abbrev τ : Topo := Topo.v7x

variable {F : FTy → Type} [FloatOps F]

abbrev main_while0_count : Scf.Loop 32 := ⟨0#32, 32#32, 1#32⟩
-- ==== Proof.ProjIn.lean ====
/- The joint input projection of the gated delta layer: the tiled product leaves, at every index, the sum of products
   that the reference's one matrix product is. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Kernel4Ideal.Product

open Cert.Kernel4Ideal Cert.Kernel4Ideal.Gen Cert.Kernel4Ideal.Value

variable (m : (ℓ : Loc nD τ sig) → Buf (Elt Ideal) ℓ)

/-- The activation rows the call is given. -/
abbrev rows (c : Dev nD) : Vec Ideal S9216x4096 .bf16 := m ((c : Thread nD τ).loc main_arg0)
/-- The weights of both layers the call is given. -/
abbrev weights (c : Dev nD) : Vec Ideal S2x4096x12352 .f32 := m ((c : Thread nD τ).loc main_arg1)

theorem zero2 : (![0, 0] : Fin 2 → Nat) = fun _ => 0 := funext fun a => by fin_cases a <;> rfl
theorem zero3 : (![0, 0, 0] : Fin 3 → Nat) = fun _ => 0 := funext fun a => by fin_cases a <;> rfl

/-- The first row block of a column: the output block is the product with the weights just fetched. -/
theorem out_first (c : Dev nD) (i : grid0.Coords) (a2 : Memref sig .tc .vmem S1024x4096 .bf16) (h2 : a2.IsWhole)
    (a3 : Memref sig .tc .vmem S1x4096x512 .f32) (h3 : a3.IsWhole) (a4 : Memref sig .tc .vmem S1024x512 .f32) (h4 : a4.IsWhole)
    (a5 : Memref sig .tc .vmem S4096x512 .bf16) (h5 : a5.IsWhole) (hc : cond0_0 i)
    (x0 : Vec Ideal S1024x4096 .bf16) (x1 : Vec Ideal S1x4096x512 .f32) :
    out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero zero2, View.readCov_unit_zero (S := S4096x512) _ zero2]
  simp only [View.readAt_eq_ld, h2.read_unread, h3.read_unread, View.ld_unit_zero (S := S1024x4096) zero2,
    View.ld_unit_zero (S := S1x4096x512) zero3]

/-- … and the scratch keeps the weights. -/
theorem scratch_first (c : Dev nD) (i : grid0.Coords) (a2 : Memref sig .tc .vmem S1024x4096 .bf16) (h2 : a2.IsWhole)
    (a3 : Memref sig .tc .vmem S1x4096x512 .f32) (h3 : a3.IsWhole) (a4 : Memref sig .tc .vmem S1024x512 .f32) (h4 : a4.IsWhole)
    (a5 : Memref sig .tc .vmem S4096x512 .bf16) (h5 : a5.IsWhole) (hc : cond0_0 i)
    (x0 : Vec Ideal S1024x4096 .bf16) (x1 : Vec Ideal S1x4096x512 .f32) :
    sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero zero2]
  simp only [View.readAt_eq_ld, h3.read_unread, View.ld_unit_zero (S := S1x4096x512) zero3]

/-- A later row block: the product with the weights the scratch holds. -/
theorem out_later (c : Dev nD) (i : grid0.Coords) (a2 : Memref sig .tc .vmem S1024x4096 .bf16) (h2 : a2.IsWhole)
    (a3 : Memref sig .tc .vmem S1x4096x512 .f32) (h3 : a3.IsWhole) (a4 : Memref sig .tc .vmem S1024x512 .f32) (h4 : a4.IsWhole)
    (a5 : Memref sig .tc .vmem S4096x512 .bf16) (h5 : a5.IsWhole) (hc : ¬cond0_0 i)
    (x0 : Vec Ideal S1024x4096 .bf16) (x1 : Vec Ideal S1x4096x512 .f32) (xs : Vec Ideal S4096x512 .bf16) :
    out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero zero2]
  simp only [View.readAt_eq_ld, h2.read_unread, h5.read_unread, View.ld_unit_zero (S := S1024x4096) zero2,
    View.ld_unit_zero (S := S4096x512) zero2]

/-- Which block each input window stages at a point: row block `t % 9`, column block `t / 9`. -/
theorem index_facts : ∀ t : Fin grid0.N, win0_0.index t 0 = t.val % 9 ∧ win0_0.index t 1 = 0
    ∧ win0_1.index t 0 = 0 ∧ win0_1.index t 1 = 0 ∧ win0_1.index t 2 = t.val / 9 := by decide +kernel

/-- The staged rows, read from the argument. -/
theorem rows_apply (c : Dev nD) (t : Fin cfg0.N) (r : Fin 1024) (k : Fin 4096) (R : Fin 9216)
    (hR : R.val = 1024 * (t.val % 9) + r.val) :
    (iblk m c 0 t : Vec Ideal S1024x4096 .bf16) (ix2 r k) = rows m c (ix2 R k) := by
  obtain ⟨e0, e1, -⟩ := index_facts t
  unfold iblk
  rw [View.read_apply]
  show m ((c : Thread nD τ).loc main_arg0) _ = m ((c : Thread nD τ).loc main_arg0) _
  congr 1
  funext a
  apply Fin.ext
  match a with
  | ⟨0, _⟩ => show win0_0.index t 0 * 1024 + 1 * r.val = R.val; rw [e0]; omega
  | ⟨1, _⟩ => show win0_0.index t 1 * 4096 + 1 * k.val = k.val; rw [e1]; omega

/-- The staged weights, read from the argument. -/
theorem weights_apply (c : Dev nD) (t : Fin cfg0.N) (k : Fin 4096) (j : Fin 512) (J : Fin 12352)
    (hJ : J.val = 512 * (t.val / 9) + j.val) :
    (X0_1 m c t : Vec Ideal S1x4096x512 .f32) (ix3 0 k j) = weights m c (ix3 0 k J) := by
  obtain ⟨-, -, e0, e1, e2⟩ := index_facts t
  unfold X0_1 Pipeline.Window.fill
  rw [dif_pos (moved0_1 t _)]
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * 0 = 0; rw [e0]
  | ⟨1, _⟩ => show win0_1.index t 1 * 4096 + 1 * k.val = k.val; rw [e1]; omega
  | ⟨2, _⟩ => show win0_1.index t 2 * 512 + 1 * j.val = J.val; rw [e2]; omega

/-- After every point the scratch holds the weights' column block of that point. -/
theorem scratch_eq (c : Dev nD) : ∀ (n : ℕ) (h : n < cfg0.N) (k : Fin 4096) (j : Fin 512) (J : Fin 12352),
    J.val = 512 * (n / 9) + j.val →
    (outsAt0 m c n h).2 (ix2 k j) = weights m c (ix3 0 k J) := by
  have first : ∀ (t : Fin cfg0.N), t.val % 9 = 0 → ∀ (k : Fin 4096) (j : Fin 512) (J : Fin 12352),
      J.val = 512 * (t.val / 9) + j.val →
      (outsAt0 m c t.val t.isLt).2 (ix2 k j) = weights m c (ix3 0 k J) := by
    intro t h0 k j J hJ
    rw [outsAt0_A m c t h0]
    dsimp only
    rw [scratch_first, ← weights_apply m c t k j J hJ]
    generalize (X0_1 m c t : Vec Ideal S1x4096x512 .f32) = X
    pointwise [k0_pay1]
  intro n
  induction n with
  | zero => intro h; exact first ⟨0, h⟩ rfl
  | succ n ih =>
    intro h k j J hJ
    by_cases h0 : (n + 1) % 9 = 0
    · exact first ⟨n + 1, h⟩ h0 k j J hJ
    · rw [outsAt0_B m c ⟨n + 1, h⟩ h0]
      exact ih (Nat.lt_of_succ_lt h) k j J (by omega)

/-- The block product at an index. -/
theorem block_apply (x : Vec Ideal S1024x4096 .bf16) (w : Vec Ideal S4096x512 .bf16) (r : Fin 1024) (j : Fin 512) :
    k0_pay2 x w (ix2 r j) = ∑ k : Fin 4096, x (ix2 r k) * w (ix2 k j) := by
  pointwise [k0_pay2]

/-- After every point the output block is the product of the point's rows and its column block. -/
theorem out_eq (c : Dev nD) (t : Fin cfg0.N) (r : Fin 1024) (j : Fin 512) (R : Fin 9216) (J : Fin 12352)
    (hR : R.val = 1024 * (t.val % 9) + r.val) (hJ : J.val = 512 * (t.val / 9) + j.val) :
    (outsAt0 m c t.val t.isLt).1 (ix2 r j)
      = ∑ k : Fin 4096, rows m c (ix2 R k) * weights m c (ix3 0 k J) := by
  have hs := fun k => scratch_eq m c t.val t.isLt k j J hJ
  have hr := fun k => rows_apply m c t r k R hR
  by_cases h0 : t.val % 9 = 0
  · rw [outsAt0_A m c t h0] at hs ⊢
    dsimp only at hs ⊢
    rw [out_first, block_apply]
    rw [scratch_first] at hs
    exact Finset.sum_congr rfl fun k _ => by rw [hr, hs]
  · rw [outsAt0_B m c t h0] at hs ⊢
    dsimp only at hs ⊢
    rw [out_later, block_apply]
    exact Finset.sum_congr rfl fun k _ => by rw [hr]; exact congrArg _ (hs k)

/-- The result array: the product of the rows and the first layer's weights, at every index. -/
theorem result_apply (c : Dev nD) (R : Fin 9216) (J : Fin 12288) :
    (G2 m c : Vec Ideal S9216x12288 .f32) (ix2 R J)
      = ∑ k : Fin 4096, rows m c (ix2 R k)
          * weights m c (ix3 0 k ⟨J.val, by omega⟩) := by
  have hN : cfg0.N = 216 := N_0
  have hp : pt2Of (ix2 R J) = 1 * (R.val / 1024 - 0) + 9 * (J.val / 512 - 0) := rfl
  have hlt : pt2Of (ix2 R J) < cfg0.N := by rw [hp, hN]; omega
  unfold G2
  rw [dif_pos hlt, ← outsAt0_sweep m c _ hlt]
  have hl : loc2Of (ix2 R J) = ix2 (⟨R.val % 1024, by omega⟩ : Fin 1024) (⟨J.val % 512, by omega⟩ : Fin 512) := by
    funext a; match a with
    | ⟨0, _⟩ => rfl
    | ⟨1, _⟩ => rfl
  rw [hl]
  exact out_eq m c ⟨pt2Of (ix2 R J), hlt⟩ _ _ R ⟨J.val, by omega⟩ (by show R.val = 1024 * (pt2Of (ix2 R J) % 9) + R.val % 1024; rw [hp]; omega)
    (by show J.val = 512 * (pt2Of (ix2 R J) / 9) + J.val % 512; rw [hp]; omega)

end Cert.Kernel4Ideal.Product

namespace Cert.Proof.ProjIn

/-- The reference's product at an index. -/
theorem reference_apply (x : Vec Ideal Reference4Ideal.S9216x4096 .bf16) (w : Vec Ideal Reference4Ideal.S2x4096x12352 .f32)
    (R : Fin 9216) (J : Fin 12288) :
    Reference4Ideal.Read.val_main_v3 (F := Ideal) x w (ix2 R J)
      = ∑ k : Fin 4096, x (ix2 R k) * w (ix3 0 k ⟨J.val, by omega⟩) := by
  pointwise [Reference4Ideal.Read.val_main_v3, Reference4Ideal.Read.val_main_v2, Reference4Ideal.Read.val_main_v1,
    Reference4Ideal.Read.val_main_v0]

/-- Kernel and reference leave the same array. -/
theorem algebraic : Cert.algebraic_Kernel4Ideal_Reference4Ideal := by
  intro m ρ m' ρ' _ hagree
  refine ⟨fun c => Kernel4Ideal.Value.G2 m c, Kernel4Ideal.Value.run (F := Ideal) m ρ, ?_⟩
  refine (θ_run _ _ _).mono (fun _ h c => ⟨(h c).1.trans ?_, (h c).2⟩) (Reference4Ideal.Value.run (F := Ideal) m' ρ')
  rw [(hagree c).1, (hagree c).2, Reference4Ideal.Read.val_main_v3_eq]
  funext i
  idx_vars i
  rw [reference_apply]
  exact (Kernel4Ideal.Product.result_apply m c _ _).symm

/-- The kernel ends with every semaphore at zero and its arguments unchanged. -/
theorem frame_kernel : Cert.quiescent_Kernel4 := fun m ρ _ => Kernel4.Gen.frame m ρ
theorem frame_kernel_ideal : Cert.quiescent_Kernel4Ideal := fun m ρ _ => Kernel4Ideal.Gen.frame m ρ
theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Reference4Ideal.Value.run m ρ)

end Cert.Proof.ProjIn

end
-- ==== Proof.ProjOut.lean ====
/- The output projection of the gated delta layer with its residual: the tiled product leaves, at every index, the
   residual plus the sum of products that the reference's one matrix product is. -/
module

public import proofs.«01_k».proof.Defs
public import proofs.«01_k».proof.Proof.ProjIn
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Kernel3Ideal.Product

open Cert.Kernel3Ideal Cert.Kernel3Ideal.Gen Cert.Kernel3Ideal.Value

variable (m : (ℓ : Loc nD τ sig) → Buf (Elt Ideal) ℓ)

/-- The activation rows the call is given. -/
abbrev rows (c : Dev nD) : Vec Ideal S9216x4096 .bf16 := m ((c : Thread nD τ).loc main_arg0)
/-- The residual the call is given. -/
abbrev residual (c : Dev nD) : Vec Ideal S9216x4096 .f32 := m ((c : Thread nD τ).loc main_arg2)
/-- The weights of both layers the call is given. -/
abbrev weights (c : Dev nD) : Vec Ideal S2x4096x4096 .f32 := m ((c : Thread nD τ).loc main_arg1)

theorem zero2 : (![0, 0] : Fin 2 → Nat) = fun _ => 0 := funext fun a => by fin_cases a <;> rfl
theorem zero3 : (![0, 0, 0] : Fin 3 → Nat) = fun _ => 0 := funext fun a => by fin_cases a <;> rfl

/-- The first row block of a column: the output block is the product with the weights just fetched. -/
theorem out_first (c : Dev nD) (i : grid0.Coords) (a2 : Memref sig .tc .vmem S1024x4096 .bf16) (h2 : a2.IsWhole)
    (a3 : Memref sig .tc .vmem S1x4096x512 .f32) (h3 : a3.IsWhole) (a4 : Memref sig .tc .vmem S1024x512 .f32) (h4 : a4.IsWhole)
    (a5 : Memref sig .tc .vmem S1024x512 .f32) (h5 : a5.IsWhole) (a6 : Memref sig .tc .vmem S4096x512 .bf16) (h6 : a6.IsWhole) (hc : cond0_0 i)
    (x0 : Vec Ideal S1024x4096 .bf16) (x1 : Vec Ideal S1x4096x512 .f32) (x2 : Vec Ideal S1024x512 .f32) :
    out0_A_3 c i a2 h2 a3 h3 a4 h4 a5 h5 a6 h6 hc x0 x1 x2 = k0_pay2 x0 (k0_pay1 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero zero2, View.readCov_unit_zero (S := S4096x512) _ zero2]
  simp only [View.readAt_eq_ld, h2.read_unread, h3.read_unread, h4.read_unread, View.ld_unit_zero (S := S1024x4096) zero2,
    View.ld_unit_zero (S := S1x4096x512) zero3, View.ld_unit_zero (S := S1024x512) zero2]

/-- … and the scratch keeps the weights. -/
theorem scratch_first (c : Dev nD) (i : grid0.Coords) (a2 : Memref sig .tc .vmem S1024x4096 .bf16) (h2 : a2.IsWhole)
    (a3 : Memref sig .tc .vmem S1x4096x512 .f32) (h3 : a3.IsWhole) (a4 : Memref sig .tc .vmem S1024x512 .f32) (h4 : a4.IsWhole)
    (a5 : Memref sig .tc .vmem S1024x512 .f32) (h5 : a5.IsWhole) (a6 : Memref sig .tc .vmem S4096x512 .bf16) (h6 : a6.IsWhole) (hc : cond0_0 i)
    (x0 : Vec Ideal S1024x4096 .bf16) (x1 : Vec Ideal S1x4096x512 .f32) (x2 : Vec Ideal S1024x512 .f32) :
    sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero zero2]
  simp only [View.readAt_eq_ld, h3.read_unread, View.ld_unit_zero (S := S1x4096x512) zero3]

/-- A later row block: the product with the weights the scratch holds. -/
theorem out_later (c : Dev nD) (i : grid0.Coords) (a2 : Memref sig .tc .vmem S1024x4096 .bf16) (h2 : a2.IsWhole)
    (a3 : Memref sig .tc .vmem S1x4096x512 .f32) (h3 : a3.IsWhole) (a4 : Memref sig .tc .vmem S1024x512 .f32) (h4 : a4.IsWhole)
    (a5 : Memref sig .tc .vmem S1024x512 .f32) (h5 : a5.IsWhole) (a6 : Memref sig .tc .vmem S4096x512 .bf16) (h6 : a6.IsWhole) (hc : ¬cond0_0 i)
    (x0 : Vec Ideal S1024x4096 .bf16) (x1 : Vec Ideal S1x4096x512 .f32) (x2 : Vec Ideal S1024x512 .f32) (xs : Vec Ideal S4096x512 .bf16) :
    out0_B_3 c i a2 h2 a3 h3 a4 h4 a5 h5 a6 h6 hc x0 x1 x2 xs = k0_pay2 x0 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero zero2]
  simp only [View.readAt_eq_ld, h2.read_unread, h4.read_unread, h6.read_unread, View.ld_unit_zero (S := S1024x4096) zero2,
    View.ld_unit_zero (S := S4096x512) zero2, View.ld_unit_zero (S := S1024x512) zero2]

/-- Which block each input window stages at a point: row block `t % 9`, column block `t / 9`. -/
theorem index_facts : ∀ t : Fin grid0.N, win0_0.index t 0 = t.val % 9 ∧ win0_0.index t 1 = 0
    ∧ win0_1.index t 0 = 0 ∧ win0_1.index t 1 = 0 ∧ win0_1.index t 2 = t.val / 9
    ∧ win0_2.index t 0 = t.val % 9 ∧ win0_2.index t 1 = t.val / 9 := by decide +kernel

/-- The staged rows, read from the argument. -/
theorem rows_apply (c : Dev nD) (t : Fin cfg0.N) (r : Fin 1024) (k : Fin 4096) (R : Fin 9216)
    (hR : R.val = 1024 * (t.val % 9) + r.val) :
    (iblk m c 0 t : Vec Ideal S1024x4096 .bf16) (ix2 r k) = rows m c (ix2 R k) := by
  obtain ⟨e0, e1, -⟩ := index_facts t
  unfold iblk
  rw [View.read_apply]
  show m ((c : Thread nD τ).loc main_arg0) _ = m ((c : Thread nD τ).loc main_arg0) _
  congr 1
  funext a
  apply Fin.ext
  match a with
  | ⟨0, _⟩ => show win0_0.index t 0 * 1024 + 1 * r.val = R.val; rw [e0]; omega
  | ⟨1, _⟩ => show win0_0.index t 1 * 4096 + 1 * k.val = k.val; rw [e1]; omega

/-- The staged weights, read from the argument. -/
theorem weights_apply (c : Dev nD) (t : Fin cfg0.N) (k : Fin 4096) (j : Fin 512) (J : Fin 4096)
    (hJ : J.val = 512 * (t.val / 9) + j.val) :
    (iblk m c 1 t : Vec Ideal S1x4096x512 .f32) (ix3 0 k j) = weights m c (ix3 0 k J) := by
  obtain ⟨-, -, e0, e1, e2, -⟩ := index_facts t
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * 0 = 0; rw [e0]
  | ⟨1, _⟩ => show win0_1.index t 1 * 4096 + 1 * k.val = k.val; rw [e1]; omega
  | ⟨2, _⟩ => show win0_1.index t 2 * 512 + 1 * j.val = J.val; rw [e2]; omega

/-- The staged block of the residual, read from the argument. -/
theorem residual_apply (c : Dev nD) (t : Fin cfg0.N) (r : Fin 1024) (j : Fin 512) (R : Fin 9216) (J : Fin 4096)
    (hR : R.val = 1024 * (t.val % 9) + r.val) (hJ : J.val = 512 * (t.val / 9) + j.val) :
    (iblk m c 2 t : Vec Ideal S1024x512 .f32) (ix2 r j) = residual m c (ix2 R J) := by
  obtain ⟨-, -, -, -, -, e0, e1⟩ := index_facts t
  unfold iblk
  rw [View.read_apply]
  show m ((c : Thread nD τ).loc main_arg2) _ = m ((c : Thread nD τ).loc main_arg2) _
  congr 1
  funext a
  apply Fin.ext
  match a with
  | ⟨0, _⟩ => show win0_2.index t 0 * 1024 + 1 * r.val = R.val; rw [e0]; omega
  | ⟨1, _⟩ => show win0_2.index t 1 * 512 + 1 * j.val = J.val; rw [e1]; omega

/-- After every point the scratch holds the weights' column block of that point. -/
theorem scratch_eq (c : Dev nD) : ∀ (n : ℕ) (h : n < cfg0.N) (k : Fin 4096) (j : Fin 512) (J : Fin 4096),
    J.val = 512 * (n / 9) + j.val →
    (outsAt0 m c n h).2 (ix2 k j) = weights m c (ix3 0 k J) := by
  have first : ∀ (t : Fin cfg0.N), t.val % 9 = 0 → ∀ (k : Fin 4096) (j : Fin 512) (J : Fin 4096),
      J.val = 512 * (t.val / 9) + j.val →
      (outsAt0 m c t.val t.isLt).2 (ix2 k j) = weights m c (ix3 0 k J) := by
    intro t h0 k j J hJ
    rw [outsAt0_A m c t h0]
    dsimp only
    rw [scratch_first, ← weights_apply m c t k j J hJ]
    generalize (iblk m c 1 t : Vec Ideal S1x4096x512 .f32) = X
    pointwise [k0_pay1]
  intro n
  induction n with
  | zero => intro h; exact first ⟨0, h⟩ rfl
  | succ n ih =>
    intro h k j J hJ
    by_cases h0 : (n + 1) % 9 = 0
    · exact first ⟨n + 1, h⟩ h0 k j J hJ
    · rw [outsAt0_B m c ⟨n + 1, h⟩ h0]
      exact ih (Nat.lt_of_succ_lt h) k j J (by omega)

/-- The block product at an index. -/
theorem block_apply (x : Vec Ideal S1024x4096 .bf16) (w : Vec Ideal S4096x512 .bf16) (a : Vec Ideal S1024x512 .f32) (r : Fin 1024) (j : Fin 512) :
    k0_pay2 x w a (ix2 r j) = a (ix2 r j) + ∑ k : Fin 4096, x (ix2 r k) * w (ix2 k j) := by
  pointwise [k0_pay2]

/-- After every point the output block is the product of the point's rows and its column block. -/
theorem out_eq (c : Dev nD) (t : Fin cfg0.N) (r : Fin 1024) (j : Fin 512) (R : Fin 9216) (J : Fin 4096)
    (hR : R.val = 1024 * (t.val % 9) + r.val) (hJ : J.val = 512 * (t.val / 9) + j.val) :
    (outsAt0 m c t.val t.isLt).1 (ix2 r j)
      = residual m c (ix2 R J) + ∑ k : Fin 4096, rows m c (ix2 R k) * weights m c (ix3 0 k J) := by
  have hs := fun k => scratch_eq m c t.val t.isLt k j J hJ
  have hr := fun k => rows_apply m c t r k R hR
  by_cases h0 : t.val % 9 = 0
  · rw [outsAt0_A m c t h0] at hs ⊢
    dsimp only at hs ⊢
    rw [out_first, block_apply, residual_apply m c t r j R J hR hJ]
    rw [scratch_first] at hs
    exact congrArg _ (Finset.sum_congr rfl fun k _ => by rw [hr, hs])
  · rw [outsAt0_B m c t h0] at hs ⊢
    dsimp only at hs ⊢
    rw [out_later, block_apply, residual_apply m c t r j R J hR hJ]
    exact congrArg _ (Finset.sum_congr rfl fun k _ => by rw [hr]; exact congrArg _ (hs k))

/-- The result array: the product of the rows and the first layer's weights, at every index. -/
theorem result_apply (c : Dev nD) (R : Fin 9216) (J : Fin 4096) :
    (G3 m c : Vec Ideal S9216x4096 .f32) (ix2 R J)
      = residual m c (ix2 R J) + ∑ k : Fin 4096, rows m c (ix2 R k)
          * weights m c (ix3 0 k J) := by
  have hN : cfg0.N = 72 := N_0
  have hp : pt3Of (ix2 R J) = 1 * (R.val / 1024 - 0) + 9 * (J.val / 512 - 0) := rfl
  have hlt : pt3Of (ix2 R J) < cfg0.N := by rw [hp, hN]; omega
  unfold G3
  rw [dif_pos hlt, ← outsAt0_sweep m c _ hlt]
  have hl : loc3Of (ix2 R J) = ix2 (⟨R.val % 1024, by omega⟩ : Fin 1024) (⟨J.val % 512, by omega⟩ : Fin 512) := by
    funext a; match a with
    | ⟨0, _⟩ => rfl
    | ⟨1, _⟩ => rfl
  rw [hl]
  exact out_eq m c ⟨pt3Of (ix2 R J), hlt⟩ _ _ R J (by show R.val = 1024 * (pt3Of (ix2 R J) % 9) + R.val % 1024; rw [hp]; omega)
    (by show J.val = 512 * (pt3Of (ix2 R J) / 9) + J.val % 512; rw [hp]; omega)

end Cert.Kernel3Ideal.Product

namespace Cert.Proof.ProjOut

/-- The reference's product at an index. -/
theorem reference_apply (x : Vec Ideal Reference3Ideal.S9216x4096 .bf16) (w : Vec Ideal Reference3Ideal.S2x4096x4096 .f32) (a : Vec Ideal Reference3Ideal.S9216x4096 .f32)
    (R : Fin 9216) (J : Fin 4096) :
    Reference3Ideal.Read.val_main_v4 (F := Ideal) x w a (ix2 R J)
      = a (ix2 R J) + ∑ k : Fin 4096, x (ix2 R k) * w (ix3 0 k J) := by
  pointwise [Reference3Ideal.Read.val_main_v4, Reference3Ideal.Read.val_main_v3, Reference3Ideal.Read.val_main_v2, Reference3Ideal.Read.val_main_v1,
    Reference3Ideal.Read.val_main_v0]

/-- Kernel and reference leave the same array. -/
theorem algebraic : Cert.algebraic_Kernel3Ideal_Reference3Ideal := by
  intro m ρ m' ρ' _ hagree
  refine ⟨fun c => Kernel3Ideal.Value.G3 m c, Kernel3Ideal.Value.run (F := Ideal) m ρ, ?_⟩
  refine (θ_run _ _ _).mono (fun _ h c => ⟨(h c).1.trans ?_, (h c).2⟩) (Reference3Ideal.Value.run (F := Ideal) m' ρ')
  rw [(hagree c).1, (hagree c).2.1, (hagree c).2.2, Reference3Ideal.Read.val_main_v4_eq]
  funext i
  idx_vars i
  rw [reference_apply]
  exact (Kernel3Ideal.Product.result_apply m c _ _).symm

/-- The kernel ends with every semaphore at zero and its arguments unchanged. -/
theorem frame_kernel : Cert.quiescent_Kernel3 := fun m ρ _ => Kernel3.Gen.frame m ρ
theorem frame_kernel_ideal : Cert.quiescent_Kernel3Ideal := fun m ρ _ => Kernel3Ideal.Gen.frame m ρ
theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Reference3Ideal.Value.run m ρ)

end Cert.Proof.ProjOut

end
-- ==== Proof.Gate.lean ====
/- The gated mixing of the state-space layer: the tiled product with its bias, the gate and the residual leave, at
   every index, what the reference's matrix product, bias, gate and residual are. -/
module

public import proofs.«01_k».proof.Defs
public import proofs.«01_k».proof.Proof.ProjOut
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Kernel2Ideal.Product

open Cert.Kernel2Ideal Cert.Kernel2Ideal.Gen Cert.Kernel2Ideal.Value

variable (m : (ℓ : Loc nD τ sig) → Buf (Elt Ideal) ℓ)

/-- The activation rows the call is given. -/
abbrev rows (c : Dev nD) : Vec Ideal S9216x4096 .f32 := m ((c : Thread nD τ).loc main_arg0)
/-- The bias the call is given. -/
abbrev bias (c : Dev nD) : Vec Ideal S4096 .f32 := m ((c : Thread nD τ).loc main_arg3)
/-- The residual the call is given. -/
abbrev residual (c : Dev nD) : Vec Ideal S9216x4096 .f32 := m ((c : Thread nD τ).loc main_arg2)
/-- The weights of both layers the call is given. -/
abbrev weights (c : Dev nD) : Vec Ideal S2x4096x4096 .f32 := m ((c : Thread nD τ).loc main_arg1)

theorem zero2 : (![0, 0] : Fin 2 → Nat) = fun _ => 0 := funext fun a => by fin_cases a <;> rfl
theorem zero3 : (![0, 0, 0] : Fin 3 → Nat) = fun _ => 0 := funext fun a => by fin_cases a <;> rfl

/-- The first row block of a column: the output block is the product with the weights just fetched. -/
theorem out_first (c : Dev nD) (i : grid0.Coords) (a2 : Memref sig .tc .vmem S1024x4096 .bf16) (h2 : a2.IsWhole)
    (a3 : Memref sig .tc .vmem S1x4096x512 .f32) (h3 : a3.IsWhole) (a4 : Memref sig .tc .vmem S1024x512 .f32) (h4 : a4.IsWhole)
    (a5 : Memref sig .tc .vmem S1024x512 .f32) (h5 : a5.IsWhole) (a6 : Memref sig .tc .vmem S1x512 .f32) (h6 : a6.IsWhole)
    (a7 : Memref sig .tc .vmem S1024x512 .f32) (h7 : a7.IsWhole) (a8 : Memref sig .tc .vmem S4096x512 .bf16) (h8 : a8.IsWhole) (hc : cond0_0 i)
    (x0 : Vec Ideal S1024x4096 .bf16) (x1 : Vec Ideal S1x4096x512 .f32) (x2 x3 : Vec Ideal S1024x512 .f32) (x4 : Vec Ideal S1x512 .f32) :
    out0_A_5 c i a2 h2 a3 h3 a4 h4 a5 h5 a6 h6 a7 h7 a8 h8 hc x0 x1 x2 x3 x4 = k0_pay2 x0 (k0_pay1 x1) x2 x3 x4 := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_unit_zero zero2, View.readCov_unit_zero (S := S4096x512) _ zero2]
  simp only [View.readAt_eq_ld, h2.read_unread, h3.read_unread, h4.read_unread, h5.read_unread, h6.read_unread, View.ld_unit_zero (S := S1024x4096) zero2,
    View.ld_unit_zero (S := S1x4096x512) zero3, View.ld_unit_zero (S := S1024x512) zero2,
    View.ld_unit_zero (S := S1x512) zero2]

/-- … and the scratch keeps the weights. -/
theorem scratch_first (c : Dev nD) (i : grid0.Coords) (a2 : Memref sig .tc .vmem S1024x4096 .bf16) (h2 : a2.IsWhole)
    (a3 : Memref sig .tc .vmem S1x4096x512 .f32) (h3 : a3.IsWhole) (a4 : Memref sig .tc .vmem S1024x512 .f32) (h4 : a4.IsWhole)
    (a5 : Memref sig .tc .vmem S1024x512 .f32) (h5 : a5.IsWhole) (a6 : Memref sig .tc .vmem S1x512 .f32) (h6 : a6.IsWhole)
    (a7 : Memref sig .tc .vmem S1024x512 .f32) (h7 : a7.IsWhole) (a8 : Memref sig .tc .vmem S4096x512 .bf16) (h8 : a8.IsWhole) (hc : cond0_0 i)
    (x0 : Vec Ideal S1024x4096 .bf16) (x1 : Vec Ideal S1x4096x512 .f32) (x2 x3 : Vec Ideal S1024x512 .f32) (x4 : Vec Ideal S1x512 .f32) :
    sout0_A_0 c i a2 h2 a3 h3 a4 h4 a5 h5 a6 h6 a7 h7 a8 h8 hc x0 x1 x2 x3 x4 = k0_pay1 x1 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_unit_zero zero2]
  simp only [View.readAt_eq_ld, h3.read_unread, View.ld_unit_zero (S := S1x4096x512) zero3]

/-- A later row block: the product with the weights the scratch holds. -/
theorem out_later (c : Dev nD) (i : grid0.Coords) (a2 : Memref sig .tc .vmem S1024x4096 .bf16) (h2 : a2.IsWhole)
    (a3 : Memref sig .tc .vmem S1x4096x512 .f32) (h3 : a3.IsWhole) (a4 : Memref sig .tc .vmem S1024x512 .f32) (h4 : a4.IsWhole)
    (a5 : Memref sig .tc .vmem S1024x512 .f32) (h5 : a5.IsWhole) (a6 : Memref sig .tc .vmem S1x512 .f32) (h6 : a6.IsWhole)
    (a7 : Memref sig .tc .vmem S1024x512 .f32) (h7 : a7.IsWhole) (a8 : Memref sig .tc .vmem S4096x512 .bf16) (h8 : a8.IsWhole) (hc : ¬cond0_0 i)
    (x0 : Vec Ideal S1024x4096 .bf16) (x1 : Vec Ideal S1x4096x512 .f32) (x2 x3 : Vec Ideal S1024x512 .f32) (x4 : Vec Ideal S1x512 .f32) (xs : Vec Ideal S4096x512 .bf16) :
    out0_B_5 c i a2 h2 a3 h3 a4 h4 a5 h5 a6 h6 a7 h7 a8 h8 hc x0 x1 x2 x3 x4 xs = k0_pay2 x0 xs x2 x3 x4 := by
  unfold out0_B_5
  rw [View.read_writes_eq_canon _ _ _ (cover0_B_5 c i a2 h2 a3 h3 a4 h4 a5 h5 a6 h6 a7 h7 a8 h8 hc x0 x1 x2 x3 x4 xs)]
  unfold kernelRun0_B
  dsimp only
  sl_unfold_words
  rw [View.canon_unit_zero zero2]
  simp only [View.readAt_eq_ld, h2.read_unread, h4.read_unread, h5.read_unread, h6.read_unread, h8.read_unread, View.ld_unit_zero (S := S1024x4096) zero2,
    View.ld_unit_zero (S := S4096x512) zero2, View.ld_unit_zero (S := S1024x512) zero2,
    View.ld_unit_zero (S := S1x512) zero2]

/-- Which block each input window stages at a point: row block `t % 9`, column block `t / 9`. -/
theorem index_facts : ∀ t : Fin grid0.N, win0_0.index t 0 = t.val % 9 ∧ win0_0.index t 1 = 0
    ∧ win0_1.index t 0 = 0 ∧ win0_1.index t 1 = 0 ∧ win0_1.index t 2 = t.val / 9
    ∧ win0_2.index t 0 = t.val % 9 ∧ win0_2.index t 1 = t.val / 9
    ∧ win0_3.index t 0 = t.val % 9 ∧ win0_3.index t 1 = t.val / 9
    ∧ win0_4.index t 0 = 0 ∧ win0_4.index t 1 = t.val / 9 := by decide +kernel

/-- The rows the call is given, rounded: the rounding is no change here. -/
theorem rounded_eq (c : Dev nD) : (V m c main_v0 : Vec Ideal S9216x4096 .bf16) = rows m c := by
  unfold_abbrev_sides
  after_results
  rfl

/-- The bias as one row. -/
theorem bias_eq (c : Dev nD) : (V m c main_v1 : Vec Ideal S1x4096 .f32) = shapeCast S1x4096 (bias m c) shapeCasts_S4096_S1x4096 := by
  unfold_abbrev_sides
  after_results
  rfl

/-- The staged rows, read from the argument. -/
theorem rows_apply (c : Dev nD) (t : Fin cfg0.N) (r : Fin 1024) (k : Fin 4096) (R : Fin 9216)
    (hR : R.val = 1024 * (t.val % 9) + r.val) :
    (iblk m c 0 t : Vec Ideal S1024x4096 .bf16) (ix2 r k) = rows m c (ix2 R k) := by
  obtain ⟨e0, e1, -⟩ := index_facts t
  unfold iblk
  rw [View.read_apply]
  refine (congrFun (rounded_eq m c) _).trans (congrArg (rows m c) ?_)
  funext a
  apply Fin.ext
  match a with
  | ⟨0, _⟩ => show win0_0.index t 0 * 1024 + 1 * r.val = R.val; rw [e0]; omega
  | ⟨1, _⟩ => show win0_0.index t 1 * 4096 + 1 * k.val = k.val; rw [e1]; omega

/-- The staged weights, read from the argument. -/
theorem weights_apply (c : Dev nD) (t : Fin cfg0.N) (k : Fin 4096) (j : Fin 512) (J : Fin 4096)
    (hJ : J.val = 512 * (t.val / 9) + j.val) :
    (iblk m c 1 t : Vec Ideal S1x4096x512 .f32) (ix3 0 k j) = weights m c (ix3 0 k J) := by
  obtain ⟨-, -, e0, e1, e2, -⟩ := index_facts t
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * 0 = 0; rw [e0]
  | ⟨1, _⟩ => show win0_1.index t 1 * 4096 + 1 * k.val = k.val; rw [e1]; omega
  | ⟨2, _⟩ => show win0_1.index t 2 * 512 + 1 * j.val = J.val; rw [e2]; omega

/-- The staged block of the residual, read from the argument. -/
theorem residual_apply (c : Dev nD) (t : Fin cfg0.N) (r : Fin 1024) (j : Fin 512) (R : Fin 9216) (J : Fin 4096)
    (hR : R.val = 1024 * (t.val % 9) + r.val) (hJ : J.val = 512 * (t.val / 9) + j.val) :
    (iblk m c 2 t : Vec Ideal S1024x512 .f32) (ix2 r j) = residual m c (ix2 R J) := by
  obtain ⟨-, -, -, -, -, e0, e1, -⟩ := index_facts t
  unfold iblk
  rw [View.read_apply]
  show m ((c : Thread nD τ).loc main_arg2) _ = m ((c : Thread nD τ).loc main_arg2) _
  congr 1
  funext a
  apply Fin.ext
  match a with
  | ⟨0, _⟩ => show win0_2.index t 0 * 1024 + 1 * r.val = R.val; rw [e0]; omega
  | ⟨1, _⟩ => show win0_2.index t 1 * 512 + 1 * j.val = J.val; rw [e1]; omega

/-- The staged block of the gated rows, read from the argument. -/
theorem gated_apply (c : Dev nD) (t : Fin cfg0.N) (r : Fin 1024) (j : Fin 512) (R : Fin 9216) (J : Fin 4096)
    (hR : R.val = 1024 * (t.val % 9) + r.val) (hJ : J.val = 512 * (t.val / 9) + j.val) :
    (iblk m c 3 t : Vec Ideal S1024x512 .f32) (ix2 r j) = rows m c (ix2 R J) := by
  obtain ⟨-, -, -, -, -, -, -, e0, e1, -⟩ := index_facts t
  unfold iblk
  rw [View.read_apply]
  show m ((c : Thread nD τ).loc main_arg0) _ = m ((c : Thread nD τ).loc main_arg0) _
  congr 1
  funext a
  apply Fin.ext
  match a with
  | ⟨0, _⟩ => show win0_3.index t 0 * 1024 + 1 * r.val = R.val; rw [e0]; omega
  | ⟨1, _⟩ => show win0_3.index t 1 * 512 + 1 * j.val = J.val; rw [e1]; omega

/-- The staged piece of the bias, read from the argument. -/
theorem bias_apply (c : Dev nD) (t : Fin cfg0.N) (j : Fin 512) (J : Fin 4096) (hJ : J.val = 512 * (t.val / 9) + j.val) :
    (iblk m c 4 t : Vec Ideal S1x512 .f32) (ix2 0 j) = bias m c (ix1 J) := by
  obtain ⟨-, -, -, -, -, -, -, -, -, e0, e1⟩ := index_facts t
  have hrow : shapeCast S1x4096 (bias m c) shapeCasts_S4096_S1x4096 (ix2 0 J) = bias m c (ix1 J) := by
    generalize bias m c = b
    pointwise
  rw [← hrow]
  unfold iblk
  rw [View.read_apply]
  refine (congrFun (bias_eq m c) _).trans (congrArg (shapeCast S1x4096 (bias m c) shapeCasts_S4096_S1x4096) ?_)
  funext a
  apply Fin.ext
  match a with
  | ⟨0, _⟩ => show win0_4.index t 0 * 1 + 1 * 0 = 0; rw [e0]
  | ⟨1, _⟩ => show win0_4.index t 1 * 512 + 1 * j.val = J.val; rw [e1]; omega

/-- After every point the scratch holds the weights' column block of that point. -/
theorem scratch_eq (c : Dev nD) : ∀ (n : ℕ) (h : n < cfg0.N) (k : Fin 4096) (j : Fin 512) (J : Fin 4096),
    J.val = 512 * (n / 9) + j.val →
    (outsAt0 m c n h).2 (ix2 k j) = weights m c (ix3 0 k J) := by
  have first : ∀ (t : Fin cfg0.N), t.val % 9 = 0 → ∀ (k : Fin 4096) (j : Fin 512) (J : Fin 4096),
      J.val = 512 * (t.val / 9) + j.val →
      (outsAt0 m c t.val t.isLt).2 (ix2 k j) = weights m c (ix3 0 k J) := by
    intro t h0 k j J hJ
    rw [outsAt0_A m c t h0]
    dsimp only
    rw [scratch_first, ← weights_apply m c t k j J hJ]
    generalize (iblk m c 1 t : Vec Ideal S1x4096x512 .f32) = X
    pointwise [k0_pay1]
  intro n
  induction n with
  | zero => intro h; exact first ⟨0, h⟩ rfl
  | succ n ih =>
    intro h k j J hJ
    by_cases h0 : (n + 1) % 9 = 0
    · exact first ⟨n + 1, h⟩ h0 k j J hJ
    · rw [outsAt0_B m c ⟨n + 1, h⟩ h0]
      exact ih (Nat.lt_of_succ_lt h) k j J (by omega)

/-- The block product at an index. -/
theorem block_apply (x : Vec Ideal S1024x4096 .bf16) (w : Vec Ideal S4096x512 .bf16) (a z : Vec Ideal S1024x512 .f32) (b : Vec Ideal S1x512 .f32) (r : Fin 1024) (j : Fin 512) :
    k0_pay2 x w a z b (ix2 r j)
      = a (ix2 r j) + z (ix2 r j) * Ideal.logistic (∑ k : Fin 4096, x (ix2 r k) * w (ix2 k j) + b (ix2 0 j)) := by
  pointwise [k0_pay2]

/-- After every point the output block is the product of the point's rows and its column block. -/
theorem out_eq (c : Dev nD) (t : Fin cfg0.N) (r : Fin 1024) (j : Fin 512) (R : Fin 9216) (J : Fin 4096)
    (hR : R.val = 1024 * (t.val % 9) + r.val) (hJ : J.val = 512 * (t.val / 9) + j.val) :
    (outsAt0 m c t.val t.isLt).1 (ix2 r j)
      = residual m c (ix2 R J) + rows m c (ix2 R J)
          * Ideal.logistic (∑ k : Fin 4096, rows m c (ix2 R k) * weights m c (ix3 0 k J) + bias m c (ix1 J)) := by
  have hs := fun k => scratch_eq m c t.val t.isLt k j J hJ
  have hr := fun k => rows_apply m c t r k R hR
  by_cases h0 : t.val % 9 = 0
  · rw [outsAt0_A m c t h0] at hs ⊢
    dsimp only at hs ⊢
    rw [out_first, block_apply, residual_apply m c t r j R J hR hJ,
      gated_apply m c t r j R J hR hJ, bias_apply m c t j J hJ]
    rw [scratch_first] at hs
    refine congrArg (fun s => _ + _ * Ideal.logistic (s + _)) (Finset.sum_congr rfl fun k _ => by rw [hr, hs])
  · rw [outsAt0_B m c t h0] at hs ⊢
    dsimp only at hs ⊢
    rw [out_later, block_apply, residual_apply m c t r j R J hR hJ,
      gated_apply m c t r j R J hR hJ, bias_apply m c t j J hJ]
    refine congrArg (fun s => _ + _ * Ideal.logistic (s + _)) (Finset.sum_congr rfl fun k _ => by rw [hr]; exact congrArg _ (hs k))

/-- The result array: the product of the rows and the first layer's weights, at every index. -/
theorem result_apply (c : Dev nD) (R : Fin 9216) (J : Fin 4096) :
    (G5 m c : Vec Ideal S9216x4096 .f32) (ix2 R J)
      = residual m c (ix2 R J) + rows m c (ix2 R J)
          * Ideal.logistic (∑ k : Fin 4096, rows m c (ix2 R k) * weights m c (ix3 0 k J) + bias m c (ix1 J)) := by
  have hN : cfg0.N = 72 := N_0
  have hp : pt5Of (ix2 R J) = 1 * (R.val / 1024 - 0) + 9 * (J.val / 512 - 0) := rfl
  have hlt : pt5Of (ix2 R J) < cfg0.N := by rw [hp, hN]; omega
  unfold G5
  rw [dif_pos hlt, ← outsAt0_sweep m c _ hlt]
  have hl : loc5Of (ix2 R J) = ix2 (⟨R.val % 1024, by omega⟩ : Fin 1024) (⟨J.val % 512, by omega⟩ : Fin 512) := by
    funext a; match a with
    | ⟨0, _⟩ => rfl
    | ⟨1, _⟩ => rfl
  rw [hl]
  exact out_eq m c ⟨pt5Of (ix2 R J), hlt⟩ _ _ R J (by show R.val = 1024 * (pt5Of (ix2 R J) % 9) + R.val % 1024; rw [hp]; omega)
    (by show J.val = 512 * (pt5Of (ix2 R J) / 9) + J.val % 512; rw [hp]; omega)

end Cert.Kernel2Ideal.Product

namespace Cert.Proof.Gate

/-- The reference's product at an index. -/
theorem reference_apply (x : Vec Ideal Reference2Ideal.S9216x4096 .f32) (w : Vec Ideal Reference2Ideal.S2x4096x4096 .f32) (a : Vec Ideal Reference2Ideal.S9216x4096 .f32)
    (b : Vec Ideal Reference2Ideal.S4096 .f32)
    (R : Fin 9216) (J : Fin 4096) :
    Reference2Ideal.Read.val_main_v13 (F := Ideal) x w a b (ix2 R J)
      = a (ix2 R J) + x (ix2 R J) * Ideal.logistic (∑ k : Fin 4096, x (ix2 R k) * w (ix3 0 k J) + b (ix1 J)) := by
  pointwise [Reference2Ideal.Read.val_main_v13, Reference2Ideal.Read.val_main_v12, Reference2Ideal.Read.val_main_v11, Reference2Ideal.Read.val_main_v10, Reference2Ideal.Read.val_main_cst_0, Reference2Ideal.Read.val_main_v9, Reference2Ideal.Read.val_main_v8, Reference2Ideal.Read.val_main_cst, Reference2Ideal.Read.val_main_v7, Reference2Ideal.Read.val_main_v6, Reference2Ideal.Read.val_main_v5, Reference2Ideal.Read.val_main_v4, Reference2Ideal.Read.val_main_v3, Reference2Ideal.Read.val_main_v2, Reference2Ideal.Read.val_main_v1, Reference2Ideal.Read.val_main_v0]
  rfl

/-- Kernel and reference leave the same array. -/
theorem algebraic : Cert.algebraic_Kernel2Ideal_Reference2Ideal := by
  intro m ρ m' ρ' _ hagree
  refine ⟨fun c => Kernel2Ideal.Value.G5 m c, Kernel2Ideal.Value.run (F := Ideal) m ρ, ?_⟩
  refine (θ_run _ _ _).mono (fun _ h c => ⟨(h c).1.trans ?_, (h c).2⟩) (Reference2Ideal.Value.run (F := Ideal) m' ρ')
  rw [(hagree c).1, (hagree c).2.1, (hagree c).2.2.1, (hagree c).2.2.2, Reference2Ideal.Read.val_main_v13_eq]
  funext i
  idx_vars i
  rw [reference_apply]
  exact (Kernel2Ideal.Product.result_apply m c _ _).symm

/-- The kernel ends with every semaphore at zero and its arguments unchanged. -/
theorem frame_kernel : Cert.quiescent_Kernel2 := fun m ρ _ => Kernel2.Gen.frame m ρ
theorem frame_kernel_ideal : Cert.quiescent_Kernel2Ideal := fun m ρ _ => Kernel2Ideal.Gen.frame m ρ
theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Reference2Ideal.Value.run m ρ)

end Cert.Proof.Gate

end
-- ==== Proof.Delta.Inverse.lean ====
/- Two ways of inverting `1 + M` for a strictly lower triangular real matrix `M`, and why they agree: doubling the
   size of the inverted diagonal blocks, and forward substitution row by row. -/
module

public import Mathlib.LinearAlgebra.Matrix.NonsingularInverse
public import Mathlib.Data.Real.Basic
public import Mathlib.Tactic.NoncommRing
public import Mathlib.Tactic.Ring

@[expose] public section

namespace Cert.Inverse

open Matrix

variable {n : ℕ}

/-- The entries of `M` in the diagonal blocks of size `s`, zero elsewhere. -/
def blockPart (s : ℕ) (M : Matrix (Fin n) (Fin n) ℝ) : Matrix (Fin n) (Fin n) ℝ :=
  fun i j => if i.val / s = j.val / s then M i j else 0

/-- The entries of `M` in the lower left quarter of each diagonal block of size `2 s`, zero elsewhere. -/
def offPart (s : ℕ) (M : Matrix (Fin n) (Fin n) ℝ) : Matrix (Fin n) (Fin n) ℝ :=
  fun i j => if i.val / (2 * s) = j.val / (2 * s) ∧ i.val / s % 2 = 1 ∧ j.val / s % 2 = 0 then M i j else 0

/-- `T` has no entries outside the diagonal blocks of size `s`. -/
def BlockDiag (s : ℕ) (T : Matrix (Fin n) (Fin n) ℝ) : Prop :=
  ∀ i j, i.val / s ≠ j.val / s → T i j = 0

/-- `M` has no entries on or above the diagonal. -/
def StrictLower (M : Matrix (Fin n) (Fin n) ℝ) : Prop :=
  ∀ i j : Fin n, i ≤ j → M i j = 0

/-- What the doubling step keeps: `T` is block diagonal and inverts `1 +` the blocks of `M`. -/
def Inverts (s : ℕ) (M T : Matrix (Fin n) (Fin n) ℝ) : Prop :=
  BlockDiag s T ∧ (1 + blockPart s M) * T = 1

/-- A product of block diagonal matrices is block diagonal. -/
theorem BlockDiag.mul {s : ℕ} {A B : Matrix (Fin n) (Fin n) ℝ} (hA : BlockDiag s A) (hB : BlockDiag s B) :
    BlockDiag s (A * B) := by
  intro i j hij
  rw [Matrix.mul_apply]
  refine Finset.sum_eq_zero fun k _ => ?_
  by_cases h : i.val / s = k.val / s
  · rw [hB k j (fun h' => hij (h.trans h')), mul_zero]
  · rw [hA i k h, zero_mul]

/-- Blocks of size `s` lie inside the blocks of size `2 s`. -/
theorem BlockDiag.double {s : ℕ} {T : Matrix (Fin n) (Fin n) ℝ} (h : BlockDiag s T) : BlockDiag (2 * s) T := by
  intro i j hij
  refine h i j fun e => hij ?_
  rw [Nat.mul_comm 2 s, ← Nat.div_div_eq_div_mul, ← Nat.div_div_eq_div_mul, e]

/-- The lower left quarters are inside the blocks of twice the size. -/
theorem blockDiag_off {s : ℕ} (M : Matrix (Fin n) (Fin n) ℝ) : BlockDiag (2 * s) (offPart s M) := by
  intro i j hij
  exact if_neg fun h => hij h.1

/-- A block of size `2 s` of a strictly lower matrix is its two diagonal halves and its lower left quarter. -/
theorem blockPart_double {s : ℕ} {M : Matrix (Fin n) (Fin n) ℝ} (hM : StrictLower M) :
    blockPart (2 * s) M = blockPart s M + offPart s M := by
  ext i j
  simp only [blockPart, offPart, Matrix.add_apply]
  have e (x : ℕ) : x / (2 * s) = x / s / 2 := by rw [Nat.mul_comm 2 s, Nat.div_div_eq_div_mul]
  rw [e, e]
  by_cases hij : i ≤ j
  · simp [hM i j hij]
  · have hle : j.val / s ≤ i.val / s := Nat.div_le_div_right (by omega)
    by_cases h1 : i.val / s = j.val / s
    · rw [if_pos (by rw [h1]), if_pos h1, if_neg (by omega), add_zero]
    · by_cases h2 : i.val / s / 2 = j.val / s / 2
      · rw [if_pos h2, if_neg h1, if_pos ⟨h2, by omega, by omega⟩, zero_add]
      · rw [if_neg h2, if_neg h1, if_neg (fun h => h2 h.1), add_zero]

/-- Two lower left quarters do not meet through a matrix that is diagonal in the halves. -/
theorem off_mul_off {s : ℕ} (M : Matrix (Fin n) (Fin n) ℝ) {T : Matrix (Fin n) (Fin n) ℝ} (hT : BlockDiag s T) :
    offPart s M * T * offPart s M = 0 := by
  ext i j
  rw [Matrix.mul_apply]
  refine Finset.sum_eq_zero fun b _ => ?_
  rw [Matrix.mul_apply, Finset.sum_mul]
  refine Finset.sum_eq_zero fun a _ => ?_
  by_cases h1 : a.val / s = b.val / s
  · by_cases h2 : a.val / s % 2 = 0
    · have : offPart s M b j = 0 := if_neg fun h => by omega
      rw [this, mul_zero]
    · have : offPart s M i a = 0 := if_neg fun h => h2 h.2.2
      rw [this, zero_mul, zero_mul]
  · rw [hT a b h1, mul_zero, zero_mul]

/-- The start: in blocks of size two the inverse of `1 + M` is `1 - M`. -/
theorem Inverts.start {M : Matrix (Fin n) (Fin n) ℝ} (hM : StrictLower M) : Inverts 2 M (1 - blockPart 2 M) := by
  have hsq : blockPart 2 M * blockPart 2 M = 0 := by
    ext i j
    rw [Matrix.mul_apply]
    refine Finset.sum_eq_zero fun k _ => ?_
    simp only [blockPart]
    by_cases h1 : i.val / 2 = k.val / 2
    · by_cases h2 : k.val / 2 = j.val / 2
      · by_cases h3 : i ≤ k
        · simp [hM i k h3]
        · have : k ≤ j := by rw [Fin.le_def] at *; omega
          simp [hM k j this]
      · simp [h2]
    · simp [h1]
  refine ⟨fun i j hij => ?_, ?_⟩
  · have hne : i ≠ j := fun h => hij (by rw [h])
    simp [blockPart, hij, hne]
  · rw [add_mul, mul_sub, mul_sub, hsq]; simp

/-- One doubling: `T - T O T` inverts the blocks of twice the size. -/
theorem Inverts.step {s : ℕ} {M T : Matrix (Fin n) (Fin n) ℝ} (hM : StrictLower M) (h : Inverts s M T) :
    Inverts (2 * s) M (T - T * offPart s M * T) := by
  obtain ⟨hd, hi⟩ := h
  refine ⟨fun i j hij => ?_, ?_⟩
  · rw [Matrix.sub_apply, hd.double i j hij, ((hd.double.mul (blockDiag_off M)).mul hd.double) i j hij, sub_zero]
  · have hz := off_mul_off M hd
    rw [blockPart_double hM]
    have e : (1 + (blockPart s M + offPart s M)) * (T - T * offPart s M * T)
        = (1 + blockPart s M) * T - ((1 + blockPart s M) * T) * (offPart s M * T)
          + (offPart s M * T - offPart s M * T * offPart s M * T) := by noncomm_ring
    rw [e, hi, hz]; simp

/-- Forward substitution, row by row: after `k` steps the rows up to `k` are those of the inverse. -/
def forward (M : Matrix (Fin n) (Fin n) ℝ) : ℕ → Matrix (Fin n) (Fin n) ℝ
  | 0 => 1
  | k + 1 => fun i j => if i.val = k + 1 then (1 : Matrix (Fin n) (Fin n) ℝ) i j - (M * forward M k) i j else forward M k i j

/-- One step of forward substitution at an entry. -/
theorem forward_succ (M : Matrix (Fin n) (Fin n) ℝ) (k : ℕ) (i j : Fin n) :
    forward M (k + 1) i j
      = if i.val = k + 1 then (1 : Matrix (Fin n) (Fin n) ℝ) i j - (M * forward M k) i j else forward M k i j := rfl

/-- A row once solved stays. -/
theorem forward_stays (M : Matrix (Fin n) (Fin n) ℝ) (i j : Fin n) (k : ℕ) (h : i.val ≤ k) :
    forward M k i j = forward M i.val i j := by
  induction k, h using Nat.le_induction with
  | base => rfl
  | succ k hk ih => rw [← ih, forward_succ, if_neg (by omega)]

/-- After `n - 1` steps every row solves the system. -/
theorem forward_solves {M : Matrix (Fin n) (Fin n) ℝ} (hM : StrictLower M) (N : ℕ) (hN : n ≤ N + 1) :
    (1 + M) * forward M N = 1 := by
  have key : ∀ i j, forward M N i j = (1 : Matrix (Fin n) (Fin n) ℝ) i j - (M * forward M N) i j := by
    intro i j
    rw [forward_stays M i j N (by omega)]
    rcases hi : i.val with _ | k
    · have : (M * forward M N) i j = 0 := by
        rw [Matrix.mul_apply]
        exact Finset.sum_eq_zero fun a _ => by rw [hM i a (by rw [Fin.le_def]; omega), zero_mul]
      rw [this, sub_zero]; rfl
    · rw [forward_succ, if_pos hi, Matrix.mul_apply, Matrix.mul_apply]
      congr 1
      refine Finset.sum_congr rfl fun a _ => ?_
      by_cases ha : i ≤ a
      · rw [hM i a ha, zero_mul, zero_mul]
      · rw [Fin.le_def] at ha
        rw [forward_stays M a j k (by omega), forward_stays M a j N (by omega)]
  rw [add_mul, one_mul]
  ext i j
  rw [Matrix.add_apply, key i j]; ring

/-- A matrix has one right inverse: whatever solves the system is what forward substitution leaves. -/
theorem eq_forward {M T : Matrix (Fin n) (Fin n) ℝ} (hM : StrictLower M) (N : ℕ) (hN : n ≤ N + 1)
    (hT : (1 + M) * T = 1) : T = forward M N := by
  have h1 : T * (1 + M) = 1 := mul_eq_one_comm.mp hT
  calc T = T * ((1 + M) * forward M N) := by rw [forward_solves hM N hN, mul_one]
    _ = (T * (1 + M)) * forward M N := by rw [Matrix.mul_assoc]
    _ = forward M N := by rw [h1, one_mul]

end Cert.Inverse

end
-- ==== Proof.Delta.Head.lean ====
module

public import proofs.«01_k».proof.Proof.Gate
public import proofs.«01_k».proof.Proof.Delta.Inverse
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pointwise
public import Idealize.ShloMosaic.Lib.Tactic

/-! # One head of the gated delta rule, as the kernel computes it

The kernel's body treats its 32 value heads one after another, each by the same operations on the
head's own slices. This file writes these operations once, for an arbitrary head, and states that
the blocks the body stores are the 32 heads' results. -/

@[expose] public section

set_option maxRecDepth 65536

noncomputable section

namespace Cert.Delta

open Cert.KernelIdeal Cert.KernelIdeal.Gen
open Idealize.ShloMosaic Idealize.ShloMosaic.TcCoe Idealize.SL.Sem

variable {F : FTy → Type} [FloatOps F]

/-! ## The masks -/

/-- The row number of each entry of an 8 by 8 matrix. -/
abbrev rowIx : IVec S8x8 32 := iota .tc S8x8 32 [0] iota_S8x8_d0_w32

/-- The column number of each entry of an 8 by 8 matrix. -/
abbrev colIx : IVec S8x8 32 := iota .tc S8x8 32 [1] iota_S8x8_d1_w32

/-- The quotient, rounded down, of every entry by `k`. -/
def floorDiv (x : IVec S8x8 32) (k : BitVec 32) : IVec S8x8 32 :=
  select (andi
      (cmpi .ne
        (subi (extui 32 (cmpi .sgt x (broadcast S8x8 0#32)) natLt_1_32)
          (extui 32 (cmpi .slt x (broadcast S8x8 0#32)) natLt_1_32))
        (broadcast S8x8 (Scalar.subi (Scalar.extui (Scalar.cmpi .sgt k 0#32)) (Scalar.extui (Scalar.cmpi .slt k 0#32)))))
      (cmpi .ne (remsi x (broadcast S8x8 k)) (broadcast S8x8 0#32)))
    (subi (divsi x (broadcast S8x8 k)) (broadcast S8x8 1#32)) (divsi x (broadcast S8x8 k))

/-- The divisor 2, guarded against zero. -/
def two : BitVec 32 := Scalar.select (Scalar.cmpi .eq 2#32 0#32) 1#32 2#32

/-- The remainder modulo 2 of every entry. -/
def modTwo (x : IVec S8x8 32) : IVec S8x8 32 :=
  select (andi
      (xori (cmpi .slt (remsi x (broadcast S8x8 two)) (broadcast S8x8 0#32))
        (broadcastTo S8x8 (broadcast S8x8 (Scalar.cmpi .slt two 0#32)) broadcasts_S8x8_S8x8))
      (cmpi .ne (remsi x (broadcast S8x8 two)) (broadcast S8x8 0#32)))
    (addi (remsi x (broadcast S8x8 two)) (broadcast S8x8 two)) (remsi x (broadcast S8x8 two))

/-- Row and column lie in the same block of `k`. -/
def sameBlock (k : BitVec 32) : IVec S8x8 1 := cmpi .eq (floorDiv rowIx k) (floorDiv colIx k)

/-- The lower left half of each block of `k2 = 2 k`: row in the odd half, column in the even half. -/
def lowerHalf (k2 k : BitVec 32) : IVec S8x8 1 :=
  andi (andi (sameBlock k2) (cmpi .eq (modTwo (floorDiv rowIx k)) (broadcast S8x8 1#32)))
    (cmpi .eq (modTwo (floorDiv colIx k)) (broadcast S8x8 0#32))

/-- Row at or below the diagonal. -/
def atOrBelow : IVec S8x8 1 := cmpi .sge rowIx colIx

/-- Row strictly below the diagonal. -/
def below : IVec S8x8 1 := cmpi .sgt rowIx colIx

/-- The identity matrix. -/
def identity : FVec F S8x8 .f32 := sitofp .f32 (extui 32 (cmpi .eq rowIx colIx) natLt_1_32)

/-- The entries a mask selects, zero elsewhere. -/
def masked (p : IVec S8x8 1) (x : FVec F S8x8 .f32) : FVec F S8x8 .f32 :=
  select p x (broadcast S8x8 (Scalar.ofBits .f32 0x00000000#32))

/-! ## The operations of one head -/

/-- The product of two 8 by 8 matrices. -/
def mul8 (a b : FVec F S8x8 .f32) : FVec F S8x8 .f32 :=
  matmul dot_S8x8_S8x8_S8x8_1_0_0_1_n_n none (truncf .bf16 a bitsLt_bf16_f32) (truncf .bf16 b bitsLt_bf16_f32)
    (constant S8x8 .f32 0x00000000#32)

/-- An 8 by 8 matrix times 8 rows. -/
def mulRows (a : FVec F S8x8 .f32) (b : FVec F S8x128 .f32) : FVec F S8x128 .f32 :=
  matmul dot_S8x8_S8x128_S8x128_1_0_0_1_n_n none (truncf .bf16 a bitsLt_bf16_f32) (truncf .bf16 b bitsLt_bf16_f32)
    (constant S8x128 .f32 0x00000000#32)

/-- The inner products of the rows of two arrays. -/
def innerRows (a b : FVec F S8x128 .f32) : FVec F S8x8 .f32 :=
  matmul dot_S8x128_S8x128_S8x8_1_1_0_0_n_n none (truncf .bf16 a bitsLt_bf16_f32) (truncf .bf16 b bitsLt_bf16_f32)
    (constant S8x8 .f32 0x00000000#32)

/-- Every row scaled by its entry of a column. -/
def scaleRows (a : FVec F S8x128 .f32) (c : FVec F S8x1 .f32) : FVec F S8x128 .f32 :=
  mulf a (broadcastTo S8x128 c broadcasts_S8x1_S8x128)

/-- The decay between every two positions of the chunk: the exponential of the difference of the
    accumulated gates, at or below the diagonal. -/
def decayOf (g : FVec F S8x1 .f32) (gr : FVec F S1x8 .f32) : FVec F S8x8 .f32 :=
  masked atOrBelow (exp (masked atOrBelow
    (subf (broadcastTo S8x8 g broadcasts_S8x1_S8x8) (broadcastTo S8x8 gr broadcasts_S1x8_S8x8))))

/-- The strictly lower triangular matrix whose unit triangular system the chunk solves. -/
def systemOf (kb k : FVec F S8x128 .f32) (dec : FVec F S8x8 .f32) : FVec F S8x8 .f32 :=
  masked below (mulf (innerRows kb k) dec)

/-- The inverse on the diagonal blocks of 2. -/
def inverse2 (m : FVec F S8x8 .f32) : FVec F S8x8 .f32 := subf identity (masked (sameBlock 2#32) m)

/-- One doubling of the blocks on which the inverse is known. -/
def doubled (p : IVec S8x8 1) (m t : FVec F S8x8 .f32) : FVec F S8x8 .f32 :=
  subf t (mul8 (mul8 t (masked p m)) t)

/-- The inverse of the unit triangular matrix, by doubling the blocks twice. -/
def inverseOf (m : FVec F S8x8 .f32) : FVec F S8x8 .f32 :=
  doubled (lowerHalf 8#32 4#32) m (doubled (lowerHalf 4#32 2#32) m (inverse2 m))

/-- The products with the old state: of the solved keys (rows 0 to 7) and of the decayed queries
    (rows 8 to 15). -/
def throughState (t : FVec F S8x8 .f32) (kb q : FVec F S8x128 .f32) (g : FVec F S8x1 .f32)
    (s : FVec F S128x128 .f32) : FVec F S16x128 .f32 :=
  matmul dot_S16x128_S128x128_S16x128_1_0_0_1_n_n none
    (truncf .bf16 (concatenate S16x128 0 [⟨S8x128, mulRows t (scaleRows kb (exp g))⟩, ⟨S8x128, scaleRows q (exp g)⟩]
      concatenates_S8x128_S8x128_S16x128_d0) bitsLt_bf16_f32)
    (truncf .bf16 s bitsLt_bf16_f32) (constant S16x128 .f32 0x00000000#32)

/-- The values as the delta rule corrects them. -/
def correctedOf (t : FVec F S8x8 .f32) (v : FVec F S8x128 .f32) (b : FVec F S8x1 .f32) (ws : FVec F S16x128 .f32) :
    FVec F S8x128 .f32 :=
  subf (mulRows t (scaleRows v b)) (extractStridedSlice S8x128 ![0, 0] ws slices_S16x128_o0_0_S8x128)

/-- The head's attention output before its norm. -/
def rawOut (q k : FVec F S8x128 .f32) (dec : FVec F S8x8 .f32) (ws : FVec F S16x128 .f32) (vn : FVec F S8x128 .f32) :
    FVec F S8x128 .f32 :=
  addf (extractStridedSlice S8x128 ![8, 0] ws slices_S16x128_o8_0_S8x128)
    (mulRows (masked atOrBelow (mulf (innerRows q k) dec)) vn)

/-- The output normalised over the head's channels, scaled, and gated. -/
def gatedNorm (o : FVec F S8x128 .f32) (ng : FVec F S1x128 .f32) (z : FVec F S8x128 .f32) : FVec F S8x128 .f32 :=
  mulf (mulf (mulf o (broadcastTo S8x128
      (rsqrt (addf (divf (shapeCast S8x1 (multiReduction .add [1] S8 (mulf o o) 0x00000000#32 reduces_S8x128_S8 (.inl rfl) rfl)
          shapeCasts_S8_S8x1) (broadcast S8x1 (Scalar.ofBits .f32 0x43000000#32)))
        (broadcast S8x1 (Scalar.ofBits .f32 0x358637BD#32)))) broadcasts_S8x1_S8x128))
      (broadcastTo S8x128 ng broadcasts_S1x128_S8x128)) (mulf z (logistic z))

/-- The last position's accumulated gate. -/
def lastGate (g : FVec F S8x1 .f32) : FVec F S1x1 .f32 := extractStridedSlice S1x1 ![7, 0] g slices_S8x1_o7_0_S1x1

/-- The head's state after the chunk. -/
def newState (s : FVec F S128x128 .f32) (g : FVec F S8x1 .f32) (k vn : FVec F S8x128 .f32) : FVec F S128x128 .f32 :=
  addf (mulf s (broadcastTo S128x128 (exp (lastGate g)) broadcasts_S1x1_S128x128))
    (matmul dot_S8x128_S8x128_S128x128_0_0_1_1_n_n none
      (truncf .bf16 (scaleRows k (exp (subf (broadcastTo S8x1 (lastGate g) broadcasts_S1x1_S8x1) g))) bitsLt_bf16_f32)
      (truncf .bf16 vn bitsLt_bf16_f32) (constant S128x128 .f32 0x00000000#32))

/-! ## One head's results from its operands -/

/-- The head's inverse, from its keys, gates (as a column and as a row) and write strengths. -/
def headInverse (k : FVec F S8x128 .f32) (g b : FVec F S8x1 .f32) (gr : FVec F S1x8 .f32) : FVec F S8x8 .f32 :=
  inverseOf (systemOf (scaleRows k b) k (decayOf g gr))

/-- The head's products with its old state. -/
def headThrough (q k : FVec F S8x128 .f32) (g b : FVec F S8x1 .f32) (gr : FVec F S1x8 .f32)
    (s : FVec F S128x128 .f32) : FVec F S16x128 .f32 :=
  throughState (headInverse k g b gr) (scaleRows k b) q g s

/-- The head's corrected values. -/
def headCorrected (q k v : FVec F S8x128 .f32) (g b : FVec F S8x1 .f32) (gr : FVec F S1x8 .f32)
    (s : FVec F S128x128 .f32) : FVec F S8x128 .f32 :=
  correctedOf (headInverse k g b gr) v b (headThrough q k g b gr s)

/-- The head's output. -/
def headOut (q k v z : FVec F S8x128 .f32) (g b : FVec F S8x1 .f32) (gr : FVec F S1x8 .f32)
    (s : FVec F S128x128 .f32) (ng : FVec F S1x128 .f32) : FVec F S8x128 .f32 :=
  gatedNorm (rawOut q k (decayOf g gr) (headThrough q k g b gr s) (headCorrected q k v g b gr s)) ng z

/-- The head's new state. -/
def headState (q k v : FVec F S8x128 .f32) (g b : FVec F S8x1 .f32) (gr : FVec F S1x8 .f32)
    (s : FVec F S128x128 .f32) : FVec F S128x128 .f32 :=
  newState s g k (headCorrected q k v g b gr s)

/-! ## The 32 heads' stores -/

/-- Head `h`'s lanes lie inside the array of values. -/
theorem inb_value (h : Fin 32) : ∀ a, (![0, 128 * h.val] : Fin 2 → Nat) a + S8x128.size a ≤ S8x4096.size a := by
  have := h.isLt; intro a; fin_cases a <;> simp [S8x128, S8x4096] <;> omega

/-- The key head of value head `h` lies inside the array of keys. -/
theorem inb_key (h : Fin 32) : ∀ a, (![0, 128 * (h.val / 2)] : Fin 2 → Nat) a + S8x128.size a ≤ S8x2048.size a := by
  have := h.isLt; intro a; fin_cases a <;> simp [S8x128, S8x2048] <;> omega

/-- Head `h`'s state lies inside the array of states. -/
theorem inb_state (h : Fin 32) : ∀ a, (![h.val, 0, 0] : Fin 3 → Nat) a + S1x128x128.size a ≤ S32x128x128.size a := by
  have := h.isLt; intro a; fin_cases a <;> simp [S1x128x128, S32x128x128] <;> omega

/-- The lanes of value head `h`. -/
abbrev valueRect (h : Fin 32) : Rect S8x4096 := Rect.unit ![0, 128 * h.val] S8x128.size (inb_value h)

/-- The lanes of the key head of value head `h`. -/
abbrev keyRect (h : Fin 32) : Rect S8x2048 := Rect.unit ![0, 128 * (h.val / 2)] S8x128.size (inb_key h)

/-- The state of head `h`. -/
abbrev stateRect (h : Fin 32) : Rect S32x128x128 := Rect.unit ![h.val, 0, 0] S1x128x128.size (inb_state h)

/-- Column `j` lies inside the array of columns. -/
theorem slices_col (j : Fin 64) : S8x64.Slices ![0, j.val] S8x1 :=
  ⟨rfl, by have := j.isLt; intro a; fin_cases a <;> simp [S8x1, S8x64] <;> omega⟩

/-- Row `h` lies inside the array of rows. -/
theorem slices_row (h : Fin 32) : S32x8.Slices ![h.val, 0] S1x8 :=
  ⟨rfl, by have := h.isLt; intro a; fin_cases a <;> simp [S1x8, S32x8] <;> omega⟩

/-- What head `h` stores as its output, over the loads of its operands. -/
def storedOut (c : Dev nD) (arg3 : Memref sig .tc .vmem S8x2048 .f32) (harg3 : arg3.IsWhole) (arg4 : Memref sig .tc .vmem S8x2048 .f32)
    (harg4 : arg4.IsWhole) (arg5 : Memref sig .tc .vmem S8x4096 .f32) (harg5 : arg5.IsWhole)
    (arg6 : Memref sig .tc .vmem S8x4096 .f32) (harg6 : arg6.IsWhole) (arg7 : Memref sig .tc .vmem S1x1x8x64 .f32)
    (harg7 : arg7.IsWhole) (arg8 : Memref sig .tc .vmem S1x1x1x32x8 .f32) (harg8 : arg8.IsWhole)
    (arg9 : Memref sig .tc .vmem S1x1x32x128x128 .f32) (harg9 : arg9.IsWhole) (arg10 : Memref sig .tc .vmem S1x128 .f32)
    (harg10 : arg10.IsWhole) (arg13 : Memref sig .tc .vmem S32x128x128 .f32)
    (x0 x1 : Vec F S8x2048 .f32) (x2 x3 : Vec F S8x4096 .f32) (x4 : Vec F S1x1x8x64 .f32) (x5 : Vec F S1x1x1x32x8 .f32)
    (x6 : Vec F S1x1x32x128x128 .f32) (x7 : Vec F S1x128 .f32)
    (h : Fin 32) : FVec F S8x128 .f32 :=
  headOut (View.readAt (Elt F) arg3.view (keyRect h).toLoadRect (harg3.unread x0))
    (View.readAt (Elt F) arg4.view (keyRect h).toLoadRect (harg4.unread x1))
    (View.readAt (Elt F) arg5.view (valueRect h).toLoadRect (harg5.unread x2))
    (View.readAt (Elt F) arg6.view (valueRect h).toLoadRect (harg6.unread x3))
    (extractStridedSlice S8x1 ![0, h.val] (kernelRun0_A.sl.r c arg7 harg7 x4) (slices_col ⟨h.val, by omega⟩))
    (extractStridedSlice S8x1 ![0, 32 + h.val] (kernelRun0_A.sl.r c arg7 harg7 x4) (slices_col ⟨32 + h.val, by omega⟩))
    (extractStridedSlice S1x8 ![h.val, 0] (kernelRun0_A.sl.r_1 c arg8 harg8 x5) (slices_row h))
    (shapeCast S128x128 (arg13.view.readCov (kernelRun0_A.sl.HS0_1 c arg9 harg9 x6)
      (stateRect h).toLoadRect) shapeCasts_S1x128x128_S128x128)
    (kernelRun0_A.sl.r_2 c arg10 harg10 x7)

/-- What head `h` stores as its new state, over the loads of its operands. -/
def storedState (c : Dev nD) (arg3 : Memref sig .tc .vmem S8x2048 .f32) (harg3 : arg3.IsWhole) (arg4 : Memref sig .tc .vmem S8x2048 .f32)
    (harg4 : arg4.IsWhole) (arg5 : Memref sig .tc .vmem S8x4096 .f32) (harg5 : arg5.IsWhole)
    (arg6 : Memref sig .tc .vmem S8x4096 .f32) (harg6 : arg6.IsWhole) (arg7 : Memref sig .tc .vmem S1x1x8x64 .f32)
    (harg7 : arg7.IsWhole) (arg8 : Memref sig .tc .vmem S1x1x1x32x8 .f32) (harg8 : arg8.IsWhole)
    (arg9 : Memref sig .tc .vmem S1x1x32x128x128 .f32) (harg9 : arg9.IsWhole) (arg10 : Memref sig .tc .vmem S1x128 .f32)
    (harg10 : arg10.IsWhole) (arg13 : Memref sig .tc .vmem S32x128x128 .f32)
    (x0 x1 : Vec F S8x2048 .f32) (x2 x3 : Vec F S8x4096 .f32) (x4 : Vec F S1x1x8x64 .f32) (x5 : Vec F S1x1x1x32x8 .f32)
    (x6 : Vec F S1x1x32x128x128 .f32) (x7 : Vec F S1x128 .f32)
    (h : Fin 32) : FVec F S1x128x128 .f32 :=
  shapeCast S1x128x128 (headState (View.readAt (Elt F) arg3.view (keyRect h).toLoadRect (harg3.unread x0))
    (View.readAt (Elt F) arg4.view (keyRect h).toLoadRect (harg4.unread x1))
    (View.readAt (Elt F) arg5.view (valueRect h).toLoadRect (harg5.unread x2))
    (extractStridedSlice S8x1 ![0, h.val] (kernelRun0_A.sl.r c arg7 harg7 x4) (slices_col ⟨h.val, by omega⟩))
    (extractStridedSlice S8x1 ![0, 32 + h.val] (kernelRun0_A.sl.r c arg7 harg7 x4) (slices_col ⟨32 + h.val, by omega⟩))
    (extractStridedSlice S1x8 ![h.val, 0] (kernelRun0_A.sl.r_1 c arg8 harg8 x5) (slices_row h))
    (shapeCast S128x128 (arg13.view.readCov (kernelRun0_A.sl.HS0_1 c arg9 harg9 x6)
      (stateRect h).toLoadRect) shapeCasts_S1x128x128_S128x128))
    shapeCasts_S128x128_S1x128x128

/-- Head `h`'s block of the output. -/
def outPiece (c : Dev nD) (arg3 : Memref sig .tc .vmem S8x2048 .f32) (harg3 : arg3.IsWhole) (arg4 : Memref sig .tc .vmem S8x2048 .f32)
    (harg4 : arg4.IsWhole) (arg5 : Memref sig .tc .vmem S8x4096 .f32) (harg5 : arg5.IsWhole)
    (arg6 : Memref sig .tc .vmem S8x4096 .f32) (harg6 : arg6.IsWhole) (arg7 : Memref sig .tc .vmem S1x1x8x64 .f32)
    (harg7 : arg7.IsWhole) (arg8 : Memref sig .tc .vmem S1x1x1x32x8 .f32) (harg8 : arg8.IsWhole)
    (arg9 : Memref sig .tc .vmem S1x1x32x128x128 .f32) (harg9 : arg9.IsWhole) (arg10 : Memref sig .tc .vmem S1x128 .f32)
    (harg10 : arg10.IsWhole) (arg13 : Memref sig .tc .vmem S32x128x128 .f32)
    (x0 x1 : Vec F S8x2048 .f32) (x2 x3 : Vec F S8x4096 .f32) (x4 : Vec F S1x1x8x64 .f32) (x5 : Vec F S1x1x1x32x8 .f32)
    (x6 : Vec F S1x1x32x128x128 .f32) (x7 : Vec F S1x128 .f32)
    (h : Fin 32) : View.Piece (Elt F) S8x4096 .f32 :=
  ⟨valueRect h, storedOut c arg3 harg3 arg4 harg4 arg5 harg5 arg6 harg6 arg7 harg7 arg8 harg8 arg9 harg9 arg10 harg10 arg13 x0 x1 x2 x3 x4 x5 x6 x7 h⟩

/-- Head `h`'s block of the states. -/
def statePiece (c : Dev nD) (arg3 : Memref sig .tc .vmem S8x2048 .f32) (harg3 : arg3.IsWhole) (arg4 : Memref sig .tc .vmem S8x2048 .f32)
    (harg4 : arg4.IsWhole) (arg5 : Memref sig .tc .vmem S8x4096 .f32) (harg5 : arg5.IsWhole)
    (arg6 : Memref sig .tc .vmem S8x4096 .f32) (harg6 : arg6.IsWhole) (arg7 : Memref sig .tc .vmem S1x1x8x64 .f32)
    (harg7 : arg7.IsWhole) (arg8 : Memref sig .tc .vmem S1x1x1x32x8 .f32) (harg8 : arg8.IsWhole)
    (arg9 : Memref sig .tc .vmem S1x1x32x128x128 .f32) (harg9 : arg9.IsWhole) (arg10 : Memref sig .tc .vmem S1x128 .f32)
    (harg10 : arg10.IsWhole) (arg13 : Memref sig .tc .vmem S32x128x128 .f32)
    (x0 x1 : Vec F S8x2048 .f32) (x2 x3 : Vec F S8x4096 .f32) (x4 : Vec F S1x1x8x64 .f32) (x5 : Vec F S1x1x1x32x8 .f32)
    (x6 : Vec F S1x1x32x128x128 .f32) (x7 : Vec F S1x128 .f32)
    (h : Fin 32) : View.Piece (Elt F) S32x128x128 .f32 :=
  ⟨stateRect h, storedState c arg3 harg3 arg4 harg4 arg5 harg5 arg6 harg6 arg7 harg7 arg8 harg8 arg9 harg9 arg10 harg10 arg13 x0 x1 x2 x3 x4 x5 x6 x7 h⟩

/-- Head `31 - k`: the stores are listed last first. -/
def fromLast (k : Fin 32) : Fin 32 := ⟨31 - k.val, by omega⟩

/-- A list of 32 entries, last first, written out. -/
theorem ofFn_fromLast {α : Type*} (f : Fin 32 → α) : (List.ofFn fun k : Fin 32 => f (fromLast k)) =
    [f 31, f 30, f 29, f 28, f 27, f 26, f 25, f 24, f 23, f 22, f 21, f 20, f 19, f 18, f 17, f 16,
      f 15, f 14, f 13, f 12, f 11, f 10, f 9, f 8, f 7, f 6, f 5, f 4, f 3, f 2, f 1, f 0] := by
  sl_kernel_rfl

set_option maxHeartbeats 4000000 in
/-- The blocks of the output the body stores are the 32 heads' outputs. -/
theorem out_pieces (c : Dev nD) (i : grid0.Coords) (arg3 : Memref sig .tc .vmem S8x2048 .f32) (harg3 : arg3.IsWhole) (arg4 : Memref sig .tc .vmem S8x2048 .f32) (harg4 : arg4.IsWhole) (arg5 : Memref sig .tc .vmem S8x4096 .f32) (harg5 : arg5.IsWhole) (arg6 : Memref sig .tc .vmem S8x4096 .f32) (harg6 : arg6.IsWhole) (arg7 : Memref sig .tc .vmem S1x1x8x64 .f32) (harg7 : arg7.IsWhole) (arg8 : Memref sig .tc .vmem S1x1x1x32x8 .f32) (harg8 : arg8.IsWhole) (arg9 : Memref sig .tc .vmem S1x1x32x128x128 .f32) (harg9 : arg9.IsWhole) (arg10 : Memref sig .tc .vmem S1x128 .f32) (harg10 : arg10.IsWhole) (arg11 : Memref sig .tc .vmem S8x4096 .f32) (harg11 : arg11.IsWhole) (arg12 : Memref sig .tc .vmem S1x32x128x128 .f32) (harg12 : arg12.IsWhole) (arg13 : Memref sig .tc .vmem S32x128x128 .f32) (harg13 : arg13.IsWhole) (hc0 : cond0_0 i) (hc1 : cond0_1 i)
    (x0 : Vec F S8x2048 .f32) (x1 : Vec F S8x2048 .f32) (x2 : Vec F S8x4096 .f32) (x3 : Vec F S8x4096 .f32) (x4 : Vec F S1x1x8x64 .f32) (x5 : Vec F S1x1x1x32x8 .f32) (x6 : Vec F S1x1x32x128x128 .f32) (x7 : Vec F S1x128 .f32)  :
    ((kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7).1 : List (View.Piece (Elt F) S8x4096 .f32)) =
      List.ofFn fun k : Fin 32 => outPiece c arg3 harg3 arg4 harg4 arg5 harg5 arg6 harg6 arg7 harg7 arg8 harg8 arg9 harg9 arg10 harg10 arg13 x0 x1 x2 x3 x4 x5 x6 x7 (fromLast k) := by
  refine Eq.trans ?_ (ofFn_fromLast (outPiece c arg3 harg3 arg4 harg4 arg5 harg5 arg6 harg6 arg7 harg7 arg8 harg8 arg9 harg9 arg10 harg10 arg13 x0 x1 x2 x3 x4 x5 x6 x7)).symm
  sl_kernel_rfl

set_option maxHeartbeats 4000000 in
/-- The states the body leaves in its scratch buffer are the 32 heads' new states, over the old ones. -/
theorem state_pieces (c : Dev nD) (arg3 : Memref sig .tc .vmem S8x2048 .f32) (harg3 : arg3.IsWhole) (arg4 : Memref sig .tc .vmem S8x2048 .f32)
    (harg4 : arg4.IsWhole) (arg5 : Memref sig .tc .vmem S8x4096 .f32) (harg5 : arg5.IsWhole)
    (arg6 : Memref sig .tc .vmem S8x4096 .f32) (harg6 : arg6.IsWhole) (arg7 : Memref sig .tc .vmem S1x1x8x64 .f32)
    (harg7 : arg7.IsWhole) (arg8 : Memref sig .tc .vmem S1x1x1x32x8 .f32) (harg8 : arg8.IsWhole)
    (arg9 : Memref sig .tc .vmem S1x1x32x128x128 .f32) (harg9 : arg9.IsWhole) (arg10 : Memref sig .tc .vmem S1x128 .f32)
    (harg10 : arg10.IsWhole) (arg13 : Memref sig .tc .vmem S32x128x128 .f32)
    (x0 x1 : Vec F S8x2048 .f32) (x2 x3 : Vec F S8x4096 .f32) (x4 : Vec F S1x1x8x64 .f32) (x5 : Vec F S1x1x1x32x8 .f32)
    (x6 : Vec F S1x1x32x128x128 .f32) (x7 : Vec F S1x128 .f32) :
    kernelRun0_A.sl.HS0_33 c arg3 harg3 arg4 harg4 arg5 harg5 arg7 harg7 arg8 harg8 arg9 harg9 arg13 x0 x1 x2 x4 x5 x6 =
      (List.ofFn fun k : Fin 32 => statePiece c arg3 harg3 arg4 harg4 arg5 harg5 arg6 harg6 arg7 harg7 arg8 harg8 arg9 harg9 arg10 harg10 arg13 x0 x1 x2 x3 x4 x5 x6 x7 (fromLast k)) ++
        kernelRun0_A.sl.HS0_1 c arg9 harg9 x6 := by
  rw [ofFn_fromLast (statePiece c arg3 harg3 arg4 harg4 arg5 harg5 arg6 harg6 arg7 harg7 arg8 harg8 arg9 harg9 arg10 harg10 arg13 x0 x1 x2 x3 x4 x5 x6 x7)]
  sl_kernel_rfl

end Cert.Delta
-- ==== Proof.Delta.Blocks.lean ====
module

public import proofs.«01_k».proof.Proof.Delta.Head
public import Idealize.ShloMosaic.Lib.Pointwise
public import Idealize.ShloMosaic.Lib.Tactic
public import Idealize.ShloMosaic.Lib.Pipeline.ValueKit
public import Idealize.ShloMosaic.Lib.Pipeline.CanonAppend

/-! # What one grid point of the kernel writes, head by head -/

@[expose] public section

set_option maxRecDepth 65536

noncomputable section

namespace Cert.Delta

open Cert.KernelIdeal Cert.KernelIdeal.Gen
open Idealize.ShloMosaic Idealize.ShloMosaic.TcCoe Idealize.SL.Sem

variable {F : FTy → Type} [FloatOps F]

/-! ## A head's operands -/

/-- Head `h`'s queries in the block of queries. -/
def queryOf (x : Vec F S8x2048 .f32) (h : Fin 32) : FVec F S8x128 .f32 := View.ld x (keyRect h)

/-- Head `h`'s keys in the block of keys. -/
def keyOf (x : Vec F S8x2048 .f32) (h : Fin 32) : FVec F S8x128 .f32 := View.ld x (keyRect h)

/-- Head `h`'s lanes of a block of values, or of output gates. -/
def valueOf (x : Vec F S8x4096 .f32) (h : Fin 32) : FVec F S8x128 .f32 := View.ld x (valueRect h)

/-- Head `h`'s accumulated gates, as a column. -/
def gateOf (x : Vec F S1x1x8x64 .f32) (h : Fin 32) : FVec F S8x1 .f32 :=
  extractStridedSlice S8x1 ![0, h.val] (k0_pay7 x) (slices_col ⟨h.val, by omega⟩)

/-- Head `h`'s write strengths, as a column. -/
def strengthOf (x : Vec F S1x1x8x64 .f32) (h : Fin 32) : FVec F S8x1 .f32 :=
  extractStridedSlice S8x1 ![0, 32 + h.val] (k0_pay7 x) (slices_col ⟨32 + h.val, by omega⟩)

/-- Head `h`'s accumulated gates, as a row. -/
def gateRowOf (x : Vec F S1x1x1x32x8 .f32) (h : Fin 32) : FVec F S1x8 .f32 :=
  extractStridedSlice S1x8 ![h.val, 0] (k0_pay8 x) (slices_row h)

/-- Head `h`'s old state. -/
def stateOf (x : Vec F S1x1x32x128x128 .f32) (h : Fin 32) : FVec F S128x128 .f32 :=
  shapeCast S128x128 (View.ld (Val := Elt F) (e' := .f32) (k0_pay3 x) (stateRect h)) shapeCasts_S1x128x128_S128x128

/-- Head `h`'s output from the blocks a grid point reads. -/
def blockOut (x0 x1 : Vec F S8x2048 .f32) (x2 x3 : Vec F S8x4096 .f32) (x4 : Vec F S1x1x8x64 .f32)
    (x5 : Vec F S1x1x1x32x8 .f32) (x6 : Vec F S1x1x32x128x128 .f32) (x7 : Vec F S1x128 .f32) (h : Fin 32) :
    FVec F S8x128 .f32 :=
  headOut (queryOf x0 h) (keyOf x1 h) (valueOf x2 h) (valueOf x3 h) (gateOf x4 h) (strengthOf x4 h) (gateRowOf x5 h)
    (stateOf x6 h) (k0_pay9 x7)

/-- Head `h`'s new state from the blocks a grid point reads. -/
def blockState (x0 x1 : Vec F S8x2048 .f32) (x2 : Vec F S8x4096 .f32) (x4 : Vec F S1x1x8x64 .f32)
    (x5 : Vec F S1x1x1x32x8 .f32) (x6 : Vec F S1x1x32x128x128 .f32) (h : Fin 32) : FVec F S128x128 .f32 :=
  headState (queryOf x0 h) (keyOf x1 h) (valueOf x2 h) (gateOf x4 h) (strengthOf x4 h) (gateRowOf x5 h) (stateOf x6 h)

/-! ## The loads are the operands -/

section Loads

variable (c : Dev nD) (arg3 : Memref sig .tc .vmem S8x2048 .f32) (harg3 : arg3.IsWhole) (arg4 : Memref sig .tc .vmem S8x2048 .f32)
    (harg4 : arg4.IsWhole) (arg5 : Memref sig .tc .vmem S8x4096 .f32) (harg5 : arg5.IsWhole)
    (arg6 : Memref sig .tc .vmem S8x4096 .f32) (harg6 : arg6.IsWhole) (arg7 : Memref sig .tc .vmem S1x1x8x64 .f32)
    (harg7 : arg7.IsWhole) (arg8 : Memref sig .tc .vmem S1x1x1x32x8 .f32) (harg8 : arg8.IsWhole)
    (arg9 : Memref sig .tc .vmem S1x1x32x128x128 .f32) (harg9 : arg9.IsWhole) (arg10 : Memref sig .tc .vmem S1x128 .f32)
    (harg10 : arg10.IsWhole) (arg13 : Memref sig .tc .vmem S32x128x128 .f32)
    (x0 x1 : Vec F S8x2048 .f32) (x2 x3 : Vec F S8x4096 .f32) (x4 : Vec F S1x1x8x64 .f32) (x5 : Vec F S1x1x1x32x8 .f32)
    (x6 : Vec F S1x1x32x128x128 .f32) (x7 : Vec F S1x128 .f32)

/-- The columns as loaded. -/
theorem loaded_cols : kernelRun0_A.sl.r c arg7 harg7 x4 = k0_pay7 x4 := by
  have e : kernelRun0_A.sl.r c arg7 harg7 x4 = k0_pay7 (View.ld (arg7.view.read (Elt F) (harg7.unread x4))
      (Rect.unit ![0, 0, 0, 0] S1x1x8x64.size inb_S1x1x8x64_S1x1x8x64_0_0_0_0)) := by sl_kernel_rfl
  rw [e, Memref.IsWhole.read_unread, View.ld_unit_lit _ _ (by decide)]

/-- The rows as loaded. -/
theorem loaded_rows : kernelRun0_A.sl.r_1 c arg8 harg8 x5 = k0_pay8 x5 := by
  have e : kernelRun0_A.sl.r_1 c arg8 harg8 x5 = k0_pay8 (View.ld (arg8.view.read (Elt F) (harg8.unread x5))
      (Rect.unit ![0, 0, 0, 0, 0] S1x1x1x32x8.size inb_S1x1x1x32x8_S1x1x1x32x8_0_0_0_0_0)) := by sl_kernel_rfl
  rw [e, Memref.IsWhole.read_unread, View.ld_unit_lit _ _ (by decide)]

/-- The norm's scales as loaded. -/
theorem loaded_norm : kernelRun0_A.sl.r_2 c arg10 harg10 x7 = k0_pay9 x7 := by
  have e : kernelRun0_A.sl.r_2 c arg10 harg10 x7 = k0_pay9 (View.ld (arg10.view.read (Elt F) (harg10.unread x7))
      (Rect.unit ![0, 0] S1x128.size inb_S1x128_S1x128_0_0)) := by sl_kernel_rfl
  rw [e, Memref.IsWhole.read_unread, View.ld_unit_lit _ _ (by decide)]

/-- The scratch buffer holds the old states when the heads read it. -/
theorem loaded_states (r : Rect S32x128x128) :
    arg13.view.readCov (kernelRun0_A.sl.HS0_1 c arg9 harg9 x6) r.toLoadRect = View.ld (k0_pay3 x6) r := by
  rw [View.readCov_eq_canon']
  have h : View.canon (kernelRun0_A.sl.HS0_1 c arg9 harg9 x6) = k0_pay3 x6 := by
    have e : kernelRun0_A.sl.HS0_1 c arg9 harg9 x6 = [(⟨Rect.unit ![0, 0, 0] S32x128x128.size
        inb_S32x128x128_S32x128x128_0_0_0, k0_pay3 (View.ld (arg9.view.read (Elt F) (harg9.unread x6))
          (Rect.unit ![0, 0, 0, 0, 0] S1x1x32x128x128.size inb_S1x1x32x128x128_S1x1x32x128x128_0_0_0_0_0))⟩ :
        View.Piece (Elt F) S32x128x128 .f32)] := by sl_kernel_rfl
    rw [e, View.canon_cons_unit_lit _ _ _ (by decide), Memref.IsWhole.read_unread,
      View.ld_unit_lit _ _ (by decide)]
  rw [h]

/-- What head `h` stores as its output is its output from the blocks. -/
theorem storedOut_eq (h : Fin 32) : storedOut c arg3 harg3 arg4 harg4 arg5 harg5 arg6 harg6 arg7 harg7 arg8 harg8 arg9 harg9 arg10 harg10 arg13 x0 x1 x2 x3 x4 x5 x6 x7 h = blockOut x0 x1 x2 x3 x4 x5 x6 x7 h := by
  unfold storedOut blockOut queryOf keyOf valueOf gateOf strengthOf gateRowOf stateOf
  rw [loaded_cols, loaded_rows, loaded_norm, loaded_states]
  simp only [View.readAt_eq_ld, Memref.IsWhole.read_unread]

/-- What head `h` stores as its new state is its new state from the blocks. -/
theorem storedState_eq (h : Fin 32) : storedState c arg3 harg3 arg4 harg4 arg5 harg5 arg6 harg6 arg7 harg7 arg8 harg8 arg9 harg9 arg10 harg10 arg13 x0 x1 x2 x3 x4 x5 x6 x7 h =
    shapeCast S1x128x128 (blockState x0 x1 x2 x4 x5 x6 h) shapeCasts_S128x128_S1x128x128 := by
  unfold storedState blockState queryOf keyOf valueOf gateOf strengthOf gateRowOf stateOf
  rw [loaded_cols, loaded_rows, loaded_states]
  simp only [View.readAt_eq_ld, Memref.IsWhole.read_unread]

end Loads

/-! ## The stores at an index -/

/-- The output block at row `r` and lane `d` of head `h`. -/
theorem out_at (c : Dev nD) (i : grid0.Coords) (arg3 : Memref sig .tc .vmem S8x2048 .f32) (harg3 : arg3.IsWhole) (arg4 : Memref sig .tc .vmem S8x2048 .f32) (harg4 : arg4.IsWhole) (arg5 : Memref sig .tc .vmem S8x4096 .f32) (harg5 : arg5.IsWhole) (arg6 : Memref sig .tc .vmem S8x4096 .f32) (harg6 : arg6.IsWhole) (arg7 : Memref sig .tc .vmem S1x1x8x64 .f32) (harg7 : arg7.IsWhole) (arg8 : Memref sig .tc .vmem S1x1x1x32x8 .f32) (harg8 : arg8.IsWhole) (arg9 : Memref sig .tc .vmem S1x1x32x128x128 .f32) (harg9 : arg9.IsWhole) (arg10 : Memref sig .tc .vmem S1x128 .f32) (harg10 : arg10.IsWhole) (arg11 : Memref sig .tc .vmem S8x4096 .f32) (harg11 : arg11.IsWhole) (arg12 : Memref sig .tc .vmem S1x32x128x128 .f32) (harg12 : arg12.IsWhole) (arg13 : Memref sig .tc .vmem S32x128x128 .f32) (harg13 : arg13.IsWhole) (hc0 : cond0_0 i) (hc1 : cond0_1 i)
    (x0 : Vec F S8x2048 .f32) (x1 : Vec F S8x2048 .f32) (x2 : Vec F S8x4096 .f32) (x3 : Vec F S8x4096 .f32) (x4 : Vec F S1x1x8x64 .f32) (x5 : Vec F S1x1x1x32x8 .f32) (x6 : Vec F S1x1x32x128x128 .f32) (x7 : Vec F S1x128 .f32)  (h : Fin 32) (r : Fin 8) (d : Fin 128) :
    out0_A_8 c i arg3 harg3 arg4 harg4 arg5 harg5 arg6 harg6 arg7 harg7 arg8 harg8 arg9 harg9 arg10 harg10 arg11 harg11 arg12 harg12 arg13 harg13 hc0 hc1 x0 x1 x2 x3 x4 x5 x6 x7
        (ix2 r ⟨128 * h.val + d.val, by omega⟩) = blockOut x0 x1 x2 x3 x4 x5 x6 x7 h (ix2 r d) := by
  unfold out0_A_8
  rw [View.read_writes_junk_eq_canon, out_pieces]
  refine View.canon_ofFn_unit_eq_of_forall (Val := Elt F) (e := .f32) (S := S8x4096) (fun k => ![0, 128 * (fromLast k).val]) S8x128.size
    (fun k => inb_value (fromLast k)) (fun k => storedOut c arg3 harg3 arg4 harg4 arg5 harg5 arg6 harg6 arg7 harg7 arg8 harg8 arg9 harg9 arg10 harg10 arg13 x0 x1 x2 x3 x4 x5 x6 x7 (fromLast k)) _ _ ?_ ?_
  · refine ⟨fromLast h, fun a => ?_⟩
    have := r.isLt; have := d.isLt; have := h.isLt
    fin_cases a <;> simp [fromLast, S8x128] <;> omega
  · intro k x hx
    have h0 := hx 0
    have h1 := hx 1
    have hr : x = ix2 (n0 := 8) (n1 := 128) (x 0) (x 1) := by
      funext a; fin_cases a <;> rfl
    have hxl : (x 1 : Nat) < 128 := (x 1).isLt
    simp at h0 h1
    have hk : fromLast k = h := by apply Fin.ext; have := d.isLt; omega
    subst hk
    show storedOut c arg3 harg3 arg4 harg4 arg5 harg5 arg6 harg6 arg7 harg7 arg8 harg8 arg9 harg9 arg10 harg10 arg13 x0 x1 x2 x3 x4 x5 x6 x7 (fromLast k) x = _
    rw [storedOut_eq]
    congr 1
    funext a
    fin_cases a
    · exact Fin.ext h0.symm
    · apply Fin.ext; simp; omega

/-- Where head `h`'s state lies in the array of states. -/
theorem stateRect_emb (h : Fin 32) (x : (stateRect h).shape.Idx) :
    (stateRect h).emb x = (ix3 h (x 1) (x 2) : S32x128x128.Idx) := by
  have h0 : (x 0 : Nat) = 0 := by have h := (x 0).isLt; change (x 0 : Nat) < 1 at h; omega
  funext a
  apply Fin.ext
  rw [Rect.emb_apply]
  fin_cases a <;> simp [h0]

/-- The states the scratch buffer ends with, read through head `h`'s rectangle's index. -/
theorem state_at (c : Dev nD) (i : grid0.Coords) (arg3 : Memref sig .tc .vmem S8x2048 .f32) (harg3 : arg3.IsWhole) (arg4 : Memref sig .tc .vmem S8x2048 .f32) (harg4 : arg4.IsWhole) (arg5 : Memref sig .tc .vmem S8x4096 .f32) (harg5 : arg5.IsWhole) (arg6 : Memref sig .tc .vmem S8x4096 .f32) (harg6 : arg6.IsWhole) (arg7 : Memref sig .tc .vmem S1x1x8x64 .f32) (harg7 : arg7.IsWhole) (arg8 : Memref sig .tc .vmem S1x1x1x32x8 .f32) (harg8 : arg8.IsWhole) (arg9 : Memref sig .tc .vmem S1x1x32x128x128 .f32) (harg9 : arg9.IsWhole) (arg10 : Memref sig .tc .vmem S1x128 .f32) (harg10 : arg10.IsWhole) (arg11 : Memref sig .tc .vmem S8x4096 .f32) (harg11 : arg11.IsWhole) (arg12 : Memref sig .tc .vmem S1x32x128x128 .f32) (harg12 : arg12.IsWhole) (arg13 : Memref sig .tc .vmem S32x128x128 .f32) (harg13 : arg13.IsWhole) (hc0 : cond0_0 i) (hc1 : cond0_1 i)
    (x0 : Vec F S8x2048 .f32) (x1 : Vec F S8x2048 .f32) (x2 : Vec F S8x4096 .f32) (x3 : Vec F S8x4096 .f32) (x4 : Vec F S1x1x8x64 .f32) (x5 : Vec F S1x1x1x32x8 .f32) (x6 : Vec F S1x1x32x128x128 .f32) (x7 : Vec F S1x128 .f32)  (h : Fin 32) (p q : Fin 128) :
    out0_A_9 c i arg3 harg3 arg4 harg4 arg5 harg5 arg6 harg6 arg7 harg7 arg8 harg8 arg9 harg9 arg10 harg10 arg11 harg11 arg12 harg12 arg13 harg13 hc0 hc1 x0 x1 x2 x3 x4 x5 x6 x7
        (ix4 (0 : Fin 1) h p q) = blockState x0 x1 x2 x4 x5 x6 h (ix2 p q) := by
  unfold out0_A_9
  rw [View.read_writes_junk_eq_canon]
  have e : ((kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7).2.1 : List (View.Piece (Elt F) S1x32x128x128 .f32)) =
      [(⟨Rect.unit ![0, 0, 0, 0] S1x32x128x128.size inb_S1x32x128x128_S1x32x128x128_0_0_0_0,
        k0_pay2 (arg13.view.readCov (kernelRun0_A.sl.HS0_33 c arg3 harg3 arg4 harg4 arg5 harg5 arg7 harg7 arg8 harg8 arg9
          harg9 arg13 x0 x1 x2 x4 x5 x6) (Rect.unit ![0, 0, 0] S32x128x128.size
            inb_S32x128x128_S32x128x128_0_0_0).toLoadRect)⟩ : View.Piece (Elt F) S1x32x128x128 .f32)] := by
    sl_kernel_rfl
  rw [e, View.canon_cons_unit_lit _ _ _ (by decide), View.readCov_eq_canon',
    state_pieces c arg3 harg3 arg4 harg4 arg5 harg5 arg6 harg6 arg7 harg7 arg8 harg8 arg9 harg9 arg10 harg10 arg13 x0 x1 x2 x3 x4 x5 x6 x7]
  have hG : View.canon ((List.ofFn fun k : Fin 32 => statePiece
        c arg3 harg3 arg4 harg4 arg5 harg5 arg6 harg6 arg7 harg7 arg8 harg8 arg9 harg9 arg10 harg10 arg13 x0 x1 x2 x3 x4 x5 x6 x7 (fromLast k)) ++ kernelRun0_A.sl.HS0_1 c arg9 harg9 x6) =
      fun y : S32x128x128.Idx => blockState x0 x1 x2 x4 x5 x6 (y 0) (ix2 (y 1) (y 2)) := by
    funext y
    refine View.canon_append_of_pieces (Val := Elt F) (e := .f32) (fun y : S32x128x128.Idx => blockState x0 x1 x2 x4 x5 x6 (y 0) (ix2 (y 1) (y 2)))
      _ _ ?_ y ?_
    · intro pc hpc x
      obtain ⟨k, rfl⟩ := List.mem_ofFn.mp hpc
      show storedState c arg3 harg3 arg4 harg4 arg5 harg5 arg6 harg6 arg7 harg7 arg8 harg8 arg9 harg9 arg10 harg10 arg13 x0 x1 x2 x3 x4 x5 x6 x7 (fromLast k) x = _
      rw [storedState_eq]
      have hx : x = ix3 (n0 := 1) (n1 := 128) (n2 := 128) (x 0) (x 1) (x 2) := by funext a; fin_cases a <;> rfl
      rw [hx]
      pointwise []
      show _ = (fun y : S32x128x128.Idx => blockState x0 x1 x2 x4 x5 x6 (y 0) (ix2 (y 1) (y 2)))
        ((stateRect (fromLast k)).emb x)
      exact (congrArg (fun y : S32x128x128.Idx => blockState x0 x1 x2 x4 x5 x6 (y 0) (ix2 (y 1) (y 2)))
        (stateRect_emb (fromLast k) x)).symm
    · refine ⟨statePiece c arg3 harg3 arg4 harg4 arg5 harg5 arg6 harg6 arg7 harg7 arg8 harg8 arg9 harg9 arg10 harg10 arg13 x0 x1 x2 x3 x4 x5 x6 x7 (y 0), List.mem_ofFn.mpr ⟨fromLast (y 0), ?_⟩, ?_⟩
      · congr 1
        have := (y 0).isLt
        apply Fin.ext
        simp only [fromLast]
        change 31 - (31 - (y 0).val) = (y 0).val
        change (y 0).val < 32 at this
        omega
      · show y ∈ (stateRect (y 0)).set
        refine (Rect.mem_set_unit (inb := inb_state (y 0))).mpr fun a => ?_
        have := (y a).isLt
        fin_cases a <;> simp [S1x128x128] <;> exact this
  rw [hG]
  unfold k0_pay2
  pointwise []

end Cert.Delta
-- ==== Proof.Delta.Scalar.lean ====
module

public import proofs.«01_k».proof.Proof.Delta.Blocks

/-! # One head of the gated delta rule, number by number

The rule written over plain functions of positions and channels, and the kernel's operations for one
head read at an index: they are that rule, with the kernel's own inverse in it. -/

@[expose] public section

set_option maxRecDepth 65536

noncomputable section

namespace Cert.Delta.Rule

open Idealize.ShloMosaic

variable {n : ℕ}

/-- The decay from position `j` to position `i`. -/
def decay (G : Fin n → EReal) (i j : Fin n) : EReal := if j ≤ i then Ideal.exp (G i - G j) else 0

/-- The strictly lower triangular system of the chunk. -/
def system (k : Fin n → Fin 128 → EReal) (β G : Fin n → EReal) (i j : Fin n) : EReal :=
  if j < i then (∑ d, (k i d * β i) * k j d) * decay G i j else 0

/-- The corrected values, with `T` for the inverse of one plus the system. -/
def corrected (T : Fin n → Fin n → EReal) (k v : Fin n → Fin 128 → EReal) (β G : Fin n → EReal)
    (s : Fin 128 → Fin 128 → EReal) (i : Fin n) (d : Fin 128) : EReal :=
  (∑ j, T i j * (v j d * β j)) - ∑ e, (∑ j, T i j * (k j e * β j * Ideal.exp (G j))) * s e d

/-- The output of the attention before its norm. -/
def raw (T : Fin n → Fin n → EReal) (q k v : Fin n → Fin 128 → EReal) (β G : Fin n → EReal)
    (s : Fin 128 → Fin 128 → EReal) (i : Fin n) (d : Fin 128) : EReal :=
  (∑ e, (q i e * Ideal.exp (G i)) * s e d)
    + ∑ j, (if j ≤ i then (∑ e, q i e * k j e) * decay G i j else 0) * corrected T k v β G s j d

/-- The norm over the channels, the scale and the gate. -/
def normed (o : Fin 128 → EReal) (ng : Fin 128 → EReal) (z : Fin 128 → EReal) (d : Fin 128) : EReal :=
  o d * Ideal.rsqrt (Ideal.div (∑ e, o e * o e) (Ideal.ofBits .f32 0x43000000#32) + Ideal.ofBits .f32 0x358637BD#32)
    * ng d * (z d * Ideal.logistic (z d))

/-- The state after the chunk, whose last position is `l`. -/
def state (l : Fin n) (T : Fin n → Fin n → EReal) (k v : Fin n → Fin 128 → EReal) (β G : Fin n → EReal)
    (s : Fin 128 → Fin 128 → EReal) (e d : Fin 128) : EReal :=
  s e d * Ideal.exp (G l) + ∑ i, (k i e * Ideal.exp (G l - G i)) * corrected T k v β G s i d

end Cert.Delta.Rule

namespace Cert.Delta

open Cert.KernelIdeal Cert.KernelIdeal.Gen
open Idealize.ShloMosaic Idealize.ShloMosaic.TcCoe Idealize.SL.Sem

/-! ## The masks at an index -/

/-- The mask of the diagonal and below. -/
theorem atOrBelow_at (i j : Fin 8) : atOrBelow (ix2 i j) = if j ≤ i then 1#1 else 0#1 := by
  revert i j; decide +kernel

/-- The mask strictly below the diagonal. -/
theorem below_at (i j : Fin 8) : below (ix2 i j) = if j < i then 1#1 else 0#1 := by
  revert i j; decide +kernel

/-- The mask of the diagonal blocks of size two. -/
theorem sameBlock2_at (i j : Fin 8) : sameBlock 2#32 (ix2 i j) = if i.val / 2 = j.val / 2 then 1#1 else 0#1 := by
  revert i j; decide +kernel

/-- The mask of the lower left quarters of the diagonal blocks of size four … -/
theorem lowerHalf2_at (i j : Fin 8) : lowerHalf 4#32 2#32 (ix2 i j)
    = if i.val / (2 * 2) = j.val / (2 * 2) ∧ i.val / 2 % 2 = 1 ∧ j.val / 2 % 2 = 0 then 1#1 else 0#1 := by
  revert i j; decide +kernel

/-- … and of size eight. -/
theorem lowerHalf4_at (i j : Fin 8) : lowerHalf 8#32 4#32 (ix2 i j)
    = if i.val / (2 * 4) = j.val / (2 * 4) ∧ i.val / 4 % 2 = 1 ∧ j.val / 4 % 2 = 0 then 1#1 else 0#1 := by
  revert i j; decide +kernel

/-- Where row and column agree. -/
theorem eq_at (i j : Fin 8) : cmpi .eq rowIx colIx (ix2 i j) = if i = j then 1#1 else 0#1 := by
  revert i j; decide +kernel

/-- The kernel's identity matrix. -/
theorem identity_at (i j : Fin 8) : identity (F := Ideal) (ix2 i j) = if i = j then 1 else 0 := by
  unfold identity
  pointwise []
  have e : IntOp.cmpi .eq (BitVec.ofNat 32 i.val) (BitVec.ofNat 32 j.val) = if i = j then 1#1 else 0#1 := by
    revert i j; decide +kernel
  rw [e]
  by_cases h : i = j
  · rw [if_pos h, if_pos h]
    show (((BitVec.setWidth 32 1#1).toInt : ℝ) : EReal) = 1
    norm_num
  · rw [if_neg h, if_neg h]
    show (((BitVec.setWidth 32 0#1).toInt : ℝ) : EReal) = 0
    norm_num

/-- A masked matrix at an index. -/
theorem masked_at (p : IVec S8x8 1) (x : FVec Ideal S8x8 .f32) (i j : Fin 8) :
    masked p x (ix2 i j) = if p (ix2 i j) = 1#1 then x (ix2 i j) else 0 := by
  unfold masked
  pointwise []
  rfl

/-- A product of two small square matrices. -/
theorem mul8_at (a b : FVec Ideal S8x8 .f32) (i j : Fin 8) :
    mul8 a b (ix2 i j) = ∑ k, a (ix2 i k) * b (ix2 k j) := by
  unfold mul8
  pointwise []

/-- A small square matrix times rows. -/
theorem mulRows_at (a : FVec Ideal S8x8 .f32) (b : FVec Ideal S8x128 .f32) (i : Fin 8) (d : Fin 128) :
    mulRows a b (ix2 i d) = ∑ k, a (ix2 i k) * b (ix2 k d) := by
  unfold mulRows
  pointwise []

/-- Inner products of rows. -/
theorem innerRows_at (a b : FVec Ideal S8x128 .f32) (i j : Fin 8) :
    innerRows a b (ix2 i j) = ∑ d, a (ix2 i d) * b (ix2 j d) := by
  unfold innerRows
  pointwise []

/-- Rows scaled by a column. -/
theorem scaleRows_at (a : FVec Ideal S8x128 .f32) (c : FVec Ideal S8x1 .f32) (i : Fin 8) (d : Fin 128) :
    scaleRows a c (ix2 i d) = a (ix2 i d) * c (ix2 i 0) := by
  unfold scaleRows
  pointwise []

/-- A masked matrix at an index, where the mask decides a proposition. -/
theorem masked_if {p : IVec S8x8 1} (x : FVec Ideal S8x8 .f32) {i j : Fin 8} {P : Prop} [Decidable P]
    (h : p (ix2 i j) = if P then 1#1 else 0#1) : masked p x (ix2 i j) = if P then x (ix2 i j) else 0 := by
  rw [masked_at, h]
  by_cases hP : P
  · rw [if_pos hP, if_pos hP, if_pos rfl]
  · rw [if_neg hP, if_neg hP, if_neg (by decide)]

/-- The kernel's decay between two rows. -/
theorem decayOf_at (g : FVec Ideal S8x1 .f32) (gr : FVec Ideal S1x8 .f32) (hg : ∀ j, gr (ix2 0 j) = g (ix2 j 0))
    (i j : Fin 8) : decayOf g gr (ix2 i j) = Rule.decay (fun i => g (ix2 i 0)) i j := by
  unfold decayOf Rule.decay
  rw [masked_if _ (atOrBelow_at i j)]
  by_cases h : j ≤ i
  · rw [if_pos h, if_pos h]
    rw [show ∀ x : FVec Ideal S8x8 .f32, exp x (ix2 i j) = Ideal.exp (x (ix2 i j)) from fun _ => rfl, masked_if _ (atOrBelow_at i j), if_pos h]
    pointwise []
    rw [hg j]
  · rw [if_neg h, if_neg h]

/-- The kernel's strictly lower triangular matrix. -/
theorem systemOf_at (k : FVec Ideal S8x128 .f32) (g b : FVec Ideal S8x1 .f32) (gr : FVec Ideal S1x8 .f32)
    (hg : ∀ j, gr (ix2 0 j) = g (ix2 j 0)) (i j : Fin 8) :
    systemOf (scaleRows k b) k (decayOf g gr) (ix2 i j)
      = Rule.system (fun i d => k (ix2 i d)) (fun i => b (ix2 i 0)) (fun i => g (ix2 i 0)) i j := by
  unfold systemOf Rule.system
  rw [masked_if _ (below_at i j)]
  congr 1
  show innerRows _ _ (ix2 i j) * decayOf g gr (ix2 i j) = _
  rw [innerRows_at, decayOf_at g gr hg]
  simp only [scaleRows_at]

/-- The first rows of the products with the old state. -/
theorem throughState_keys (t : FVec Ideal S8x8 .f32) (kb q : FVec Ideal S8x128 .f32) (g : FVec Ideal S8x1 .f32)
    (s : FVec Ideal S128x128 .f32) (i : Fin 8) (d : Fin 128) :
    extractStridedSlice S8x128 ![0, 0] (throughState t kb q g s) slices_S16x128_o0_0_S8x128 (ix2 i d)
      = ∑ e, (∑ j, t (ix2 i j) * (kb (ix2 j e) * Ideal.exp (g (ix2 j 0)))) * s (ix2 e d) := by
  unfold throughState
  pointwise []
  simp only [mulRows_at, scaleRows_at]
  rfl

/-- What the old state answers to the decayed queries. -/
theorem throughState_queries (t : FVec Ideal S8x8 .f32) (kb q : FVec Ideal S8x128 .f32) (g : FVec Ideal S8x1 .f32)
    (s : FVec Ideal S128x128 .f32) (i : Fin 8) (d : Fin 128) :
    extractStridedSlice S8x128 ![8, 0] (throughState t kb q g s) slices_S16x128_o8_0_S8x128 (ix2 i d)
      = ∑ e, (q (ix2 i e) * Ideal.exp (g (ix2 i 0))) * s (ix2 e d) := by
  unfold throughState
  pointwise []
  simp only [scaleRows_at]
  rfl

/-- The gated norm of a row. -/
theorem gatedNorm_at (o : FVec Ideal S8x128 .f32) (ng : FVec Ideal S1x128 .f32) (z : FVec Ideal S8x128 .f32)
    (i : Fin 8) (d : Fin 128) : gatedNorm o ng z (ix2 i d)
      = Rule.normed (fun e => o (ix2 i e)) (fun e => ng (ix2 0 e)) (fun e => z (ix2 i e)) d := by
  unfold gatedNorm Rule.normed
  pointwise []

/-- The new state from the corrected values. -/
theorem newState_at (s : FVec Ideal S128x128 .f32) (g : FVec Ideal S8x1 .f32) (k vn : FVec Ideal S8x128 .f32)
    (e d : Fin 128) : newState s g k vn (ix2 e d)
      = s (ix2 e d) * Ideal.exp (g (ix2 7 0))
        + ∑ i : Fin 8, (k (ix2 i e) * Ideal.exp (g (ix2 7 0) - g (ix2 i 0))) * vn (ix2 i d) := by
  unfold newState scaleRows lastGate
  pointwise []

/-! ## One head at an index -/

section Head

variable (q k v z : FVec Ideal S8x128 .f32) (g b : FVec Ideal S8x1 .f32) (gr : FVec Ideal S1x8 .f32)
  (s : FVec Ideal S128x128 .f32) (ng : FVec Ideal S1x128 .f32)

/-- The inverse the kernel computes, over plain positions. -/
def kernelInverse (i j : Fin 8) : EReal := headInverse k g b gr (ix2 i j)

/-- A head's corrected values. -/
theorem headCorrected_at (i : Fin 8) (d : Fin 128) : headCorrected q k v g b gr s (ix2 i d)
    = Rule.corrected (kernelInverse k g b gr) (fun i d => k (ix2 i d)) (fun i d => v (ix2 i d))
        (fun i => b (ix2 i 0)) (fun i => g (ix2 i 0)) (fun e d => s (ix2 e d)) i d := by
  have e : headCorrected q k v g b gr s (ix2 i d)
      = mulRows (headInverse k g b gr) (scaleRows v b) (ix2 i d)
        - extractStridedSlice S8x128 ![0, 0] (throughState (headInverse k g b gr) (scaleRows k b) q g s)
            slices_S16x128_o0_0_S8x128 (ix2 i d) := rfl
  rw [e, throughState_keys, mulRows_at]
  simp only [scaleRows_at]
  rfl

/-- A head's outputs are the rule's, for the inverse the kernel computes. -/
theorem headOut_at (hg : ∀ j, gr (ix2 0 j) = g (ix2 j 0)) (i : Fin 8) (d : Fin 128) :
    headOut q k v z g b gr s ng (ix2 i d)
      = Rule.normed (Rule.raw (kernelInverse k g b gr) (fun i d => q (ix2 i d)) (fun i d => k (ix2 i d))
          (fun i d => v (ix2 i d)) (fun i => b (ix2 i 0)) (fun i => g (ix2 i 0)) (fun e d => s (ix2 e d)) i)
          (fun e => ng (ix2 0 e)) (fun e => z (ix2 i e)) d := by
  unfold headOut
  rw [gatedNorm_at]
  congr 1
  funext d
  have e : rawOut q k (decayOf g gr) (headThrough q k g b gr s) (headCorrected q k v g b gr s) (ix2 i d)
      = extractStridedSlice S8x128 ![8, 0] (throughState (headInverse k g b gr) (scaleRows k b) q g s)
            slices_S16x128_o8_0_S8x128 (ix2 i d)
        + mulRows (masked atOrBelow (mulf (innerRows q k) (decayOf g gr))) (headCorrected q k v g b gr s) (ix2 i d) := rfl
  rw [e, throughState_queries, mulRows_at]
  unfold Rule.raw
  congr 1
  refine Finset.sum_congr rfl fun j _ => ?_
  rw [headCorrected_at, masked_if _ (atOrBelow_at i j),
    show ∀ x y : FVec Ideal S8x8 .f32, mulf x y (ix2 i j) = x (ix2 i j) * y (ix2 i j) from fun _ _ => rfl,
    innerRows_at, decayOf_at g gr hg]

/-- A head's new state is the rule's, for the inverse the kernel computes. -/
theorem headState_at (e d : Fin 128) : headState q k v g b gr s (ix2 e d)
    = Rule.state 7 (kernelInverse k g b gr) (fun i d => k (ix2 i d)) (fun i d => v (ix2 i d))
        (fun i => b (ix2 i 0)) (fun i => g (ix2 i 0)) (fun e d => s (ix2 e d)) e d := by
  unfold headState Rule.state
  rw [newState_at]
  simp only [headCorrected_at]

end Head

end Cert.Delta

end
-- ==== Proof.Delta.Solve.lean ====
module

public import proofs.«01_k».proof.Proof.Delta.Scalar

/-! # The kernel's inverse is forward substitution

On real keys and write strengths and falling gates the chunk's system is a real strictly lower triangular matrix, so the
kernel's doubling and the reference's forward substitution leave the same inverse. -/

@[expose] public section

set_option maxRecDepth 65536

noncomputable section

namespace Cert.Delta.Rule

open Idealize.ShloMosaic

variable {n : ℕ}

/-- Forward substitution, row by row. -/
def forward (m : Fin n → Fin n → EReal) : ℕ → Fin n → Fin n → EReal
  | 0 => fun i j => if i = j then 1 else 0
  | k + 1 => fun i j => if i.val = k + 1 then (if i = j then 1 else 0) - ∑ a, m i a * forward m k a j else forward m k i j

/-- A sum of real numbers is that real number. -/
theorem coe_sum {ι : Type} (s : Finset ι) (f : ι → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- A product of matrices of real numbers. -/
theorem coe_mul_apply (A B : Matrix (Fin n) (Fin n) ℝ) (i j : Fin n) :
    (((A * B) i j : ℝ) : EReal) = ∑ a, (A i a : EReal) * (B a j : EReal) := by
  rw [Matrix.mul_apply, coe_sum]
  exact Finset.sum_congr rfl fun a _ => EReal.coe_mul _ _

/-- The identity matrix of real numbers. -/
theorem coe_one_apply (i j : Fin n) :
    (((1 : Matrix (Fin n) (Fin n) ℝ) i j : ℝ) : EReal) = if i = j then 1 else 0 := by
  rw [Matrix.one_apply]; split <;> simp

/-- Forward substitution on real numbers. -/
theorem forward_coe (M : Matrix (Fin n) (Fin n) ℝ) (k : ℕ) (i j : Fin n) :
    forward (fun i j => (M i j : EReal)) k i j = ((Cert.Inverse.forward M k i j : ℝ) : EReal) := by
  induction k generalizing i j with
  | zero => exact (coe_one_apply i j).symm
  | succ k ih =>
    rw [Cert.Inverse.forward_succ]
    unfold forward
    split
    · rw [EReal.coe_sub, coe_one_apply, coe_mul_apply]
      simp only [ih]
    · exact ih i j

/-- Accumulated gates: none is positive, and none is above an earlier one. They may be minus infinity. -/
structure Falling (G : Fin n → EReal) : Prop where
  /-- No gate is positive. -/
  nonpos : ∀ i, G i ≤ 0
  /-- No gate is above an earlier one. -/
  antitone : ∀ i j, j ≤ i → G i ≤ G j

/-- The exponential of anything but infinity is real. -/
theorem exp_real {x : EReal} (hx : x ≠ ⊤) : ∃ r : ℝ, Ideal.exp x = (r : EReal) := by
  induction x with
  | bot => exact ⟨0, rfl⟩
  | top => exact absurd rfl hx
  | coe r => exact ⟨Real.exp r, rfl⟩

/-- From an earlier gate to a later one the step isn't infinity: where the earlier is minus infinity, so is the later. -/
theorem Falling.sub_ne_top {G : Fin n → EReal} (hG : Falling G) {i j : Fin n} (h : j ≤ i) : G i - G j ≠ ⊤ := by
  have h0 := hG.nonpos j
  have h1 := hG.nonpos i
  have h2 := hG.antitone i j h
  generalize G i = x at *
  generalize G j = y at *
  induction y with
  | top => simp at h0
  | bot => rw [le_bot_iff.mp h2, sub_eq_add_neg, EReal.bot_add]; exact bot_ne_top
  | coe s =>
    induction x with
    | top => simp at h1
    | bot => rw [sub_eq_add_neg, EReal.bot_add]; exact bot_ne_top
    | coe r => rw [← EReal.coe_sub]; exact EReal.coe_ne_top _

/-- So the decay between accumulated gates is real. -/
theorem decay_real {G : Fin n → EReal} (hG : Falling G) (i j : Fin n) : ∃ r : ℝ, decay G i j = (r : EReal) := by
  unfold decay
  split
  · exact exp_real (hG.sub_ne_top ‹_›)
  · exact ⟨0, rfl⟩

/-- The system of real keys and write strengths and falling gates is real and strictly lower triangular. -/
theorem system_real {k : Fin n → Fin 128 → EReal} {β G : Fin n → EReal} (hk : ∀ i d, ∃ x : ℝ, k i d = (x : EReal))
    (hb : ∀ i, ∃ x : ℝ, β i = (x : EReal)) (hG : Falling G) :
    ∃ M : Matrix (Fin n) (Fin n) ℝ, Cert.Inverse.StrictLower M ∧ system k β G = fun i j => (M i j : EReal) := by
  choose k' hk using hk
  choose b' hb using hb
  choose D hD using decay_real hG
  refine ⟨fun i j => if j < i then (∑ d, (k' i d * b' i) * k' j d) * D i j else 0, fun i j h => if_neg (not_lt.mpr h), ?_⟩
  funext i j
  unfold system
  beta_reduce
  by_cases h : j < i
  · rw [if_pos h, if_pos h, EReal.coe_mul, coe_sum, hD]
    simp only [EReal.coe_mul, hk, hb]
  · rw [if_neg h, if_neg h]; rfl

end Cert.Delta.Rule

namespace Cert.Delta

open Cert.KernelIdeal Cert.KernelIdeal.Gen
open Idealize.ShloMosaic Idealize.ShloMosaic.TcCoe Idealize.SL.Sem

/-- An 8 by 8 array holds the real matrix `A`. -/
def Holds (a : FVec Ideal S8x8 .f32) (A : Matrix (Fin 8) (Fin 8) ℝ) : Prop := ∀ i j, a (ix2 i j) = ((A i j : ℝ) : EReal)

/-- Products of real matrices are taken entry by entry. -/
theorem Holds.mul {a b : FVec Ideal S8x8 .f32} {A B : Matrix (Fin 8) (Fin 8) ℝ} (ha : Holds a A) (hb : Holds b B) :
    Holds (mul8 a b) (A * B) := fun i j => by
  rw [mul8_at, Rule.coe_mul_apply]
  exact Finset.sum_congr rfl fun k _ => by rw [ha, hb]

/-- Differences too. -/
theorem Holds.sub {a b : FVec Ideal S8x8 .f32} {A B : Matrix (Fin 8) (Fin 8) ℝ} (ha : Holds a A) (hb : Holds b B) :
    Holds (subf a b) (A - B) := fun i j => by
  have e : subf a b (ix2 i j) = a (ix2 i j) - b (ix2 i j) := rfl
  rw [e, ha, hb, ← EReal.coe_sub]; rfl

/-- The kernel's identity is the real one. -/
theorem holds_identity : Holds identity 1 := fun i j => by rw [identity_at, Rule.coe_one_apply]

/-- The inverse of the diagonal blocks of size two. -/
theorem Holds.start {m : FVec Ideal S8x8 .f32} {M : Matrix (Fin 8) (Fin 8) ℝ} (h : Holds m M) :
    Holds (inverse2 m) (1 - Cert.Inverse.blockPart 2 M) := by
  refine holds_identity.sub fun i j => ?_
  rw [masked_if _ (sameBlock2_at i j), h]
  unfold Cert.Inverse.blockPart
  split <;> rfl

/-- One doubling of the block size. -/
theorem Holds.doubled {m t : FVec Ideal S8x8 .f32} {M T : Matrix (Fin 8) (Fin 8) ℝ} {p : IVec S8x8 1} {s : ℕ}
    (hp : ∀ i j : Fin 8, p (ix2 i j)
      = if i.val / (2 * s) = j.val / (2 * s) ∧ i.val / s % 2 = 1 ∧ j.val / s % 2 = 0 then 1#1 else 0#1)
    (hm : Holds m M) (ht : Holds t T) : Holds (doubled p m t) (T - T * Cert.Inverse.offPart s M * T) := by
  refine ht.sub ((ht.mul fun i j => ?_).mul ht)
  rw [masked_if _ (hp i j), hm]
  unfold Cert.Inverse.offPart
  split <;> rfl

/-- The kernel's inverse of a real strictly lower triangular system is forward substitution. -/
theorem inverseOf_at {m : FVec Ideal S8x8 .f32} {M : Matrix (Fin 8) (Fin 8) ℝ} (hM : Cert.Inverse.StrictLower M)
    (h : Holds m M) (i j : Fin 8) : inverseOf m (ix2 i j) = Rule.forward (fun i j => (M i j : EReal)) 7 i j := by
  have h3 := Holds.doubled lowerHalf4_at h (Holds.doubled lowerHalf2_at h h.start)
  have hi := (((Cert.Inverse.Inverts.start hM).step hM).step hM)
  have hT := hi.2
  have hfull : Cert.Inverse.blockPart (2 * (2 * 2)) M = M := by
    funext i j
    exact if_pos (by omega)
  rw [hfull] at hT
  rw [Rule.forward_coe, ← Cert.Inverse.eq_forward hM 7 (by norm_num) hT]
  exact h3 i j

/-- The kernel's inverse for one head with real keys and write strengths. -/
theorem kernelInverse_eq (k : FVec Ideal S8x128 .f32) (g b : FVec Ideal S8x1 .f32) (gr : FVec Ideal S1x8 .f32)
    (hg : ∀ j, gr (ix2 0 j) = g (ix2 j 0))
    (hk : ∀ i d, ∃ x : ℝ, k (ix2 i d) = (x : EReal)) (hb : ∀ i, ∃ x : ℝ, b (ix2 i 0) = (x : EReal))
    (hG : Rule.Falling fun i => g (ix2 i 0)) :
    kernelInverse k g b gr = Rule.forward
      (Rule.system (fun i d => k (ix2 i d)) (fun i => b (ix2 i 0)) (fun i => g (ix2 i 0))) 7 := by
  obtain ⟨M, hM, e'⟩ := Rule.system_real hk hb hG
  funext i j
  rw [e']
  exact inverseOf_at hM (fun i j => by rw [systemOf_at k g b gr hg, e']) i j

end Cert.Delta

end
-- ==== Proof.Delta.Reference.lean ====
module

public import proofs.«01_k».proof.Proof.Delta.Solve

/-! # The reference at an index

Every stage of the reference read at a batch entry, a head, a position and a channel: its two results are the
rule of the head's own numbers, with forward substitution for the inverse. -/

@[expose] public section

set_option maxRecDepth 65536

noncomputable section

namespace Cert.Delta.Ref

open Cert.ReferenceIdeal Cert.ReferenceIdeal.Read
open Idealize.ShloMosaic Idealize.ShloMosaic.TcCoe Idealize.SL.Sem

/-- Row `i` of batch entry `b` among all rows. -/
def row (b : Fin 128) (i : Fin 8) : Fin 1024 := ⟨8 * b.val + i.val, by omega⟩

/-- Row `i` of batch entry `b` behind the prompt's rows. -/
def rowAfter (b : Fin 128) (i : Fin 8) : Fin 9216 := ⟨8192 + (8 * b.val + i.val), by omega⟩

/-- Channel `d` of the query head of value head `h`. -/
def colQ (h : Fin 32) (d : Fin 128) : Fin 8192 := ⟨128 * (h.val / 2) + d.val, by omega⟩
/-- Channel `d` of the key head of value head `h`. -/
def colK (h : Fin 32) (d : Fin 128) : Fin 8192 := ⟨2048 + (128 * (h.val / 2) + d.val), by omega⟩
/-- Channel `d` of the values of head `h`. -/
def colV (h : Fin 32) (d : Fin 128) : Fin 8192 := ⟨4096 + (128 * h.val + d.val), by omega⟩
/-- Channel `d` of the output gate of head `h`. -/
def colZ (h : Fin 32) (d : Fin 128) : Fin 12288 := ⟨8192 + (128 * h.val + d.val), by omega⟩
/-- Channel `d` of the output of head `h`. -/
def colO (h : Fin 32) (d : Fin 128) : Fin 4096 := ⟨128 * h.val + d.val, by omega⟩

variable (x0 : Vec Ideal S1024x8192 .f32) (x1 : Vec Ideal S9216x12288 .f32) (x2 : Vec Ideal S1024x128 .f32)
  (x3 : Vec Ideal S2x128x32x128x128 .f32) (x4 x5 : Vec Ideal S32 .f32) (x6 : Vec Ideal S128 .f32)
  (b : Fin 128) (h : Fin 32)

/-- The head's queries. -/
def q (i : Fin 8) (d : Fin 128) : EReal := x0 (ix2 (row b i) (colQ h d))
/-- The head's keys. -/
def k (i : Fin 8) (d : Fin 128) : EReal := x0 (ix2 (row b i) (colK h d))
/-- The head's values. -/
def v (i : Fin 8) (d : Fin 128) : EReal := x0 (ix2 (row b i) (colV h d))
/-- The head's output gates. -/
def z (i : Fin 8) (d : Fin 128) : EReal := x1 (ix2 (rowAfter b i) (colZ h d))
/-- The head's old state. -/
def s (e d : Fin 128) : EReal := x3 (ix5 0 b h e d)
/-- The head's write strengths. -/
def β (i : Fin 8) : EReal := val_main_v38 (F := Ideal) x2 (ix3 b h i)
/-- The head's accumulated gates. -/
def G (i : Fin 8) : EReal := val_main_v45 (F := Ideal) x2 x4 x5 (ix3 b h i)

/-- The reshape that splits the rows by batch entry. -/
theorem split_rows (i : Fin 8) (c : Fin 8192) : idx_main_v0 (ix3 b i c) = ix2 (row b i) c := by
  refine funext fun a => Fin.ext ?_
  match a with
  | ⟨0, _⟩ => dsimp [idx_main_v0, ix3, ix2, row]; omega
  | ⟨1, _⟩ => dsimp [idx_main_v0, ix3, ix2, row]; omega

/-- The reshape that splits the channels by query head. -/
theorem split_heads (i : Fin 8) (g : Fin 16) (d : Fin 128) :
    idx_main_v2 (ix4 b i g d) = ix3 b i (⟨128 * g.val + d.val, by omega⟩ : Fin 2048) := by
  refine funext fun a => Fin.ext ?_
  match a with
  | ⟨0, _⟩ => dsimp [idx_main_v2, ix4, ix3]; omega
  | ⟨1, _⟩ => dsimp [idx_main_v2, ix4, ix3]; omega
  | ⟨2, _⟩ => dsimp [idx_main_v2, ix4, ix3]; omega

/-- The reshape that lays each query head out twice. -/
theorem repeat_heads (i : Fin 8) (d : Fin 128) :
    idx_main_v4 (ix4 b i h d) = ix5 b i (⟨h.val / 2, by omega⟩ : Fin 16) (⟨h.val % 2, by omega⟩ : Fin 2) d := by
  refine funext fun a => Fin.ext ?_
  match a with
  | ⟨0, _⟩ => dsimp [idx_main_v4, ix4, ix5]; omega
  | ⟨1, _⟩ => dsimp [idx_main_v4, ix4, ix5]; omega
  | ⟨2, _⟩ => dsimp [idx_main_v4, ix4, ix5]; omega
  | ⟨3, _⟩ => dsimp [idx_main_v4, ix4, ix5]; omega
  | ⟨4, _⟩ => dsimp [idx_main_v4, ix4, ix5]; omega

/-- The query head a value head reads. -/
theorem query_head (i : Fin 8) (d : Fin 128) :
    idx_main_v2 (idx_main_v3 (idx_main_v4 (idx_main_v34 (ix4 b h i d))))
      = ix3 b i (⟨128 * (h.val / 2) + d.val, by omega⟩ : Fin 2048) := by
  have e1 : idx_main_v34 (ix4 b h i d) = ix4 b i h d := by
    refine funext fun a => ?_
    match a with
    | ⟨0, _⟩ => rfl
    | ⟨1, _⟩ => rfl
    | ⟨2, _⟩ => rfl
    | ⟨3, _⟩ => rfl
  have e2 : idx_main_v3 (ix5 b i (⟨h.val / 2, by omega⟩ : Fin 16) (⟨h.val % 2, by omega⟩ : Fin 2) d)
      = ix4 b i (⟨h.val / 2, by omega⟩ : Fin 16) d := by
    refine funext fun a => ?_
    match a with
    | ⟨0, _⟩ => rfl
    | ⟨1, _⟩ => rfl
    | ⟨2, _⟩ => rfl
    | ⟨3, _⟩ => rfl
  rw [e1, repeat_heads, e2, split_heads]

/-- The queries, split by head, are rows and columns of the first argument. -/
theorem q_at (i : Fin 8) (d : Fin 128) : val_main_v34 (F := Ideal) x0 (ix4 b h i d) = q x0 b h i d := by
  rw [val_main_v34_apply, val_main_v4_apply, val_main_v3_apply, val_main_v2_apply, val_main_v1_apply, val_main_v0_apply,
    query_head]
  have e : idx_main_v1 (ix3 b i (⟨128 * (h.val / 2) + d.val, by omega⟩ : Fin 2048)) = ix3 b i (colQ h d) := by
    refine funext fun a => ?_
    match a with
    | ⟨0, _⟩ => rfl
    | ⟨1, _⟩ => rfl
    | ⟨2, _⟩ => rfl
  rw [e, split_rows]
  rfl

/-- … and the keys … -/
theorem k_at (i : Fin 8) (d : Fin 128) : val_main_v35 (F := Ideal) x0 (ix4 b h i d) = k x0 b h i d := by
  rw [val_main_v35_apply, val_main_v8_apply, val_main_v7_apply, val_main_v6_apply, val_main_v5_apply, val_main_v0_apply]
  have e : idx_main_v5 (idx_main_v6 (idx_main_v7 (idx_main_v8 (idx_main_v35 (ix4 b h i d))))) = ix3 b i (colK h d) := by
    rw [show idx_main_v6 (idx_main_v7 (idx_main_v8 (idx_main_v35 (ix4 b h i d))))
      = idx_main_v2 (idx_main_v3 (idx_main_v4 (idx_main_v34 (ix4 b h i d)))) from rfl, query_head]
    refine funext fun a => ?_
    match a with
    | ⟨0, _⟩ => rfl
    | ⟨1, _⟩ => rfl
    | ⟨2, _⟩ => rfl
  rw [e, split_rows]
  rfl

/-- … and the values. -/
theorem v_at (i : Fin 8) (d : Fin 128) : val_main_v36 (F := Ideal) x0 (ix4 b h i d) = v x0 b h i d := by
  rw [val_main_v36_apply, val_main_v10_apply, val_main_v9_apply, val_main_v0_apply]
  refine congrArg x0 (funext fun a => Fin.ext ?_)
  match a with
  | ⟨0, _⟩ => dsimp [idx_main_v36, idx_main_v10, idx_main_v9, idx_main_v0, ix4, ix2, row, rowAfter, colV]; omega
  | ⟨1, _⟩ => dsimp [idx_main_v36, idx_main_v10, idx_main_v9, idx_main_v0, ix4, ix2, row, rowAfter, colV]; omega

/-- The output gates, split by head, are rows and columns of the second argument. -/
theorem z_at (i : Fin 8) (d : Fin 128) : val_main_v12 (F := Ideal) x1 (ix4 b i h d) = z x1 b h i d := by
  rw [val_main_v12_apply, val_main_v11_apply]
  refine congrArg x1 (funext fun a => Fin.ext ?_)
  match a with
  | ⟨0, _⟩ => dsimp [idx_main_v12, idx_main_v11, ix4, ix2, row, rowAfter, colZ]; omega
  | ⟨1, _⟩ => dsimp [idx_main_v12, idx_main_v11, ix4, ix2, row, rowAfter, colZ]; omega

/-- The old states are the fourth argument's. -/
theorem s_at (e d : Fin 128) : val_main_v33 (F := Ideal) x3 (ix4 b h e d) = s x3 b h e d := by
  pointwise [val_main_v33, val_main_v32]
  rfl

/-- The masks. -/
theorem incl_at (i j : Fin 8) : val_main_v41 (F := Ideal) (ix2 i j) = if j ≤ i then 1#1 else 0#1 := by
  revert i j; decide +kernel
/-- The mask strictly below the diagonal. -/
theorem strict_at (i j : Fin 8) : val_main_v42 (F := Ideal) (ix2 i j) = if j < i then 1#1 else 0#1 := by
  revert i j; decide +kernel

/-- The identity matrix. -/
theorem eye_at (i j : Fin 8) : val_main_v44 (F := Ideal) (ix2 i j) = if i = j then 1 else 0 := by
  pointwise [val_main_v44, val_main_v43, val_main_v39, val_main_v40]
  have e : IntOp.cmpi .eq (BitVec.ofNat 32 i.val) (BitVec.ofNat 32 j.val) = if i = j then 1#1 else 0#1 := by
    revert i j; decide +kernel
  rw [e]
  by_cases h : i = j
  · rw [if_pos h, if_pos h]
    show (((1#1 : BitVec 1).toNat : ℝ) : EReal) = 1
    norm_num
  · rw [if_neg h, if_neg h]
    show (((0#1 : BitVec 1).toNat : ℝ) : EReal) = 0
    norm_num

/-- A selection by a mask that decides a proposition. -/
theorem select_if {P : Prop} [Decidable P] {c : BitVec 1} (h : c = if P then 1#1 else 0#1) (x y : EReal) :
    Scalar.select c x y = if P then x else y := by
  rw [h]
  by_cases hP : P
  · rw [if_pos hP, if_pos hP]; rfl
  · rw [if_neg hP, if_neg hP]; rfl

/-- The constant zero. -/
theorem zero_at : constant (F := Ideal) S_ FTy.f32 0#32 ix0 = (0 : EReal) := by
  pointwise []

/-- The reference's decay between two rows of a head. -/
theorem decay_at (i j : Fin 8) :
    val_main_v53 (F := Ideal) x2 x4 x5 (ix4 b h i j) = Rule.decay (G x2 x4 x5 b h) i j := by
  pointwise [val_main_v53, val_main_call3_v0, val_main_call3_v1, val_main_call3_v2, val_main_cst_2, val_main_v52,
    val_main_v51, val_main_call2_v0, val_main_call2_v1, val_main_call2_v2, val_main_cst_1, val_main_v50, val_main_v49,
    val_main_v48, val_main_v47, val_main_v46]
  rw [select_if (incl_at i j), select_if (incl_at i j), id_eq, zero_at]
  unfold Rule.decay G
  split <;> rfl

/-- The strictly lower triangular matrix the reference solves with. -/
theorem system_at (i j : Fin 8) :
    val_main_v59 (F := Ideal) x0 x2 x4 x5 (ix4 b h i j)
      = Rule.system (k x0 b h) (β x2 b h) (G x2 x4 x5 b h) i j := by
  pointwise [val_main_v59, val_main_call4_v0, val_main_call4_v1, val_main_call4_v2, val_main_cst_3, val_main_v58,
    val_main_v57, val_main_v56, val_main_v55, val_main_v54]
  rw [select_if (strict_at i j), id_eq, zero_at, decay_at]
  simp only [k_at]
  rfl

/-- The head's system. -/
abbrev M (i j : Fin 8) : EReal := Rule.system (k x0 b h) (β x2 b h) (G x2 x4 x5 b h) i j

/-- One row of the forward substitution. -/
theorem forward_step {m t : Fin 8 → Fin 8 → EReal} (n : ℕ) {i j : Fin 8} {c : BitVec 1} {E : EReal}
    (hc : c = if i.val = n + 1 then 1#1 else 0#1) (hE : E = if i = j then 1 else 0)
    (ht : ∀ i j, t i j = Rule.forward m n i j) :
    Scalar.select c (E - ∑ a, m i a * t a j) (t i j) = Rule.forward m (n + 1) i j := by
  rw [select_if hc, hE]
  simp only [ht]
  rfl

/-- Before the first substitution the solution is the identity's first row … -/
theorem solved0 (i j : Fin 8) : val_main_v60 (F := Ideal) (ix4 b h i j) = Rule.forward (M x0 x2 x4 x5 b h) 0 i j := by
  pointwise [val_main_v60]
  exact eye_at i j

/-- … and after substitution 1 the forward substitution of as many rows. -/
theorem solved1 (i j : Fin 8) : val_main_v67 (F := Ideal) x0 x2 x4 x5 (ix4 b h i j)
    = Rule.forward (M x0 x2 x4 x5 b h) 1 i j := by
  pointwise [val_main_v67, val_main_call5_v0, val_main_v66, val_main_v65, val_main_v64, val_main_v63]
  simp only [system_at]
  refine forward_step 0 (t := fun i j => val_main_v60 (F := Ideal) (ix4 b h i j)) ?_ (eye_at i j)
    (solved0 x0 x2 x4 x5 b h)
  revert i j; decide +kernel

/-- … and after substitution 2 the forward substitution of as many rows. -/
theorem solved2 (i j : Fin 8) : val_main_v74 (F := Ideal) x0 x2 x4 x5 (ix4 b h i j)
    = Rule.forward (M x0 x2 x4 x5 b h) 2 i j := by
  pointwise [val_main_v74, val_main_call6_v0, val_main_v73, val_main_v72, val_main_v71, val_main_v70]
  simp only [system_at]
  refine forward_step 1 (t := fun i j => val_main_v67 (F := Ideal) x0 x2 x4 x5 (ix4 b h i j)) ?_ (eye_at i j)
    (solved1 x0 x2 x4 x5 b h)
  revert i j; decide +kernel

/-- … and after substitution 3 the forward substitution of as many rows. -/
theorem solved3 (i j : Fin 8) : val_main_v81 (F := Ideal) x0 x2 x4 x5 (ix4 b h i j)
    = Rule.forward (M x0 x2 x4 x5 b h) 3 i j := by
  pointwise [val_main_v81, val_main_call7_v0, val_main_v80, val_main_v79, val_main_v78, val_main_v77]
  simp only [system_at]
  refine forward_step 2 (t := fun i j => val_main_v74 (F := Ideal) x0 x2 x4 x5 (ix4 b h i j)) ?_ (eye_at i j)
    (solved2 x0 x2 x4 x5 b h)
  revert i j; decide +kernel

/-- … and after substitution 4 the forward substitution of as many rows. -/
theorem solved4 (i j : Fin 8) : val_main_v88 (F := Ideal) x0 x2 x4 x5 (ix4 b h i j)
    = Rule.forward (M x0 x2 x4 x5 b h) 4 i j := by
  pointwise [val_main_v88, val_main_call8_v0, val_main_v87, val_main_v86, val_main_v85, val_main_v84]
  simp only [system_at]
  refine forward_step 3 (t := fun i j => val_main_v81 (F := Ideal) x0 x2 x4 x5 (ix4 b h i j)) ?_ (eye_at i j)
    (solved3 x0 x2 x4 x5 b h)
  revert i j; decide +kernel

/-- … and after substitution 5 the forward substitution of as many rows. -/
theorem solved5 (i j : Fin 8) : val_main_v95 (F := Ideal) x0 x2 x4 x5 (ix4 b h i j)
    = Rule.forward (M x0 x2 x4 x5 b h) 5 i j := by
  pointwise [val_main_v95, val_main_call9_v0, val_main_v94, val_main_v93, val_main_v92, val_main_v91]
  simp only [system_at]
  refine forward_step 4 (t := fun i j => val_main_v88 (F := Ideal) x0 x2 x4 x5 (ix4 b h i j)) ?_ (eye_at i j)
    (solved4 x0 x2 x4 x5 b h)
  revert i j; decide +kernel

/-- … and after substitution 6 the forward substitution of as many rows. -/
theorem solved6 (i j : Fin 8) : val_main_v102 (F := Ideal) x0 x2 x4 x5 (ix4 b h i j)
    = Rule.forward (M x0 x2 x4 x5 b h) 6 i j := by
  pointwise [val_main_v102, val_main_call10_v0, val_main_v101, val_main_v100, val_main_v99, val_main_v98]
  simp only [system_at]
  refine forward_step 5 (t := fun i j => val_main_v95 (F := Ideal) x0 x2 x4 x5 (ix4 b h i j)) ?_ (eye_at i j)
    (solved5 x0 x2 x4 x5 b h)
  revert i j; decide +kernel

/-- … and after substitution 7 the forward substitution of as many rows. -/
theorem solved7 (i j : Fin 8) : val_main_v109 (F := Ideal) x0 x2 x4 x5 (ix4 b h i j)
    = Rule.forward (M x0 x2 x4 x5 b h) 7 i j := by
  pointwise [val_main_v109, val_main_call11_v0, val_main_v108, val_main_v107, val_main_v106, val_main_v105]
  simp only [system_at]
  refine forward_step 6 (t := fun i j => val_main_v102 (F := Ideal) x0 x2 x4 x5 (ix4 b h i j)) ?_ (eye_at i j)
    (solved6 x0 x2 x4 x5 b h)
  revert i j; decide +kernel

/-- The inverse the reference computes. -/
abbrev T : Fin 8 → Fin 8 → EReal := Rule.forward (M x0 x2 x4 x5 b h) 7

/-- The corrected values. -/
theorem corrected_at (i : Fin 8) (d : Fin 128) : val_main_v120 (F := Ideal) x0 x2 x3 x4 x5 (ix4 b h i d)
    = Rule.corrected (T x0 x2 x4 x5 b h) (k x0 b h) (v x0 b h) (β x2 b h) (G x2 x4 x5 b h) (s x3 b h) i d := by
  pointwise [val_main_v120, val_main_v119, val_main_v118, val_main_v117, val_main_v116, val_main_v115, val_main_v114,
    val_main_v113, val_main_v112, val_main_v111, val_main_v110, val_main_v56, val_main_v55, val_main_v54]
  simp only [solved7, k_at, v_at, s_at]
  rfl

/-- The outputs before the norm. -/
theorem raw_at (i : Fin 8) (d : Fin 128) : val_main_v130 (F := Ideal) x0 x2 x3 x4 x5 (ix4 b h i d)
    = Rule.raw (T x0 x2 x4 x5 b h) (q x0 b h) (k x0 b h) (v x0 b h) (β x2 b h) (G x2 x4 x5 b h) (s x3 b h) i d := by
  pointwise [val_main_v130, val_main_v129, val_main_v128, val_main_v127, val_main_v126, val_main_v125, val_main_v124,
    val_main_v123, val_main_call12_v0, val_main_call12_v1, val_main_call12_v2, val_main_cst_10, val_main_v122, val_main_v121]
  simp only [select_if (incl_at i _), id_eq, zero_at, decay_at, corrected_at, q_at, k_at, s_at]
  rfl

/-- The new state. -/
theorem state_at (e d : Fin 128) : val_main_v145 (F := Ideal) x0 x2 x3 x4 x5 (ix4 b h e d)
    = Rule.state 7 (T x0 x2 x4 x5 b h) (k x0 b h) (v x0 b h) (β x2 b h) (G x2 x4 x5 b h) (s x3 b h) e d := by
  pointwise [val_main_v145, val_main_v144, val_main_v143, val_main_v142, val_main_v141, val_main_v140, val_main_v139,
    val_main_v138, val_main_v137, val_main_v136, val_main_v135, val_main_v134, val_main_v133, val_main_v132, val_main_v131]
  simp only [corrected_at, k_at, s_at]
  rfl

/-- The outputs, normed and gated. -/
theorem normed_at (i : Fin 8) (d : Fin 128) : val_main_v161 (F := Ideal) x0 x1 x2 x3 x4 x5 x6 (ix4 b i h d)
    = Rule.normed (Rule.raw (T x0 x2 x4 x5 b h) (q x0 b h) (k x0 b h) (v x0 b h) (β x2 b h) (G x2 x4 x5 b h) (s x3 b h) i)
        (fun d => x6 (ix1 d)) (z x1 b h i) d := by
  pointwise [val_main_v161, val_main_v160, val_main_call13_v5, val_main_call13_v4, val_main_call13_cst_0,
    val_main_call13_v3, val_main_call13_v2, val_main_call13_cst, val_main_call13_v1, val_main_call13_v0,
    val_main_v159, val_main_v158, val_main_v157, val_main_v156, val_main_v155, val_main_v154,
    val_main_v153, val_main_v152, val_main_cst_13, val_main_v151, val_main_v150, val_main_cst_12, val_main_v149,
    val_main_v148, val_main_cst_11, val_main_v147, val_main_v146]
  simp only [raw_at, z_at]
  rfl

/-- The last reshape of the reference. -/
theorem out_at (i : Fin 8) (d : Fin 128) : val_main_v162 (F := Ideal) x0 x1 x2 x3 x4 x5 x6 (ix2 (row b i) (colO h d))
    = val_main_v161 (F := Ideal) x0 x1 x2 x3 x4 x5 x6 (ix4 b i h d) := by
  rw [val_main_v162_apply]
  refine congrArg _ (funext fun a => Fin.ext ?_)
  match a with
  | ⟨0, _⟩ => dsimp [idx_main_v162, ix4, ix2, row, colO]; omega
  | ⟨1, _⟩ => dsimp [idx_main_v162, ix4, ix2, row, colO]; omega
  | ⟨2, _⟩ => dsimp [idx_main_v162, ix4, ix2, row, colO]; omega
  | ⟨3, _⟩ => dsimp [idx_main_v162, ix4, ix2, row, colO]; omega

end Cert.Delta.Ref

end
-- ==== Proof.Delta.Gates.lean ====
module

public import proofs.«01_k».proof.Proof.Delta.Reference

/-! # The gates the host prepares

Kernel and reference accumulate the same gates over a chunk and take the same write strengths; only the layouts
differ. The accumulated gates fall. -/

@[expose] public section

set_option maxRecDepth 65536

noncomputable section

namespace Cert.Delta.Rule

open Idealize.ShloMosaic

variable {w : ℕ}

/-- The running sum over a chunk, as a window of its length that ends at the position. -/
def accumulate (f : Fin (w + 1) → EReal) (i : Fin (w + 1)) : EReal :=
  (List.finRange (w + 1)).foldl (fun r n => r + if hn : w ≤ i.val + n.val then f ⟨i.val + n.val - w, by omega⟩ else 0) 0

/-- A fold over as many positions. -/
theorem foldl_cast {N M : ℕ} (e : N = M) (g : EReal → Fin N → EReal) (v : EReal) :
    (List.finRange N).foldl g v = (List.finRange M).foldl (fun r n => g r (n.cast e.symm)) v := by
  subst e; rfl

/-- The running sum adds the entries up to the position. -/
theorem accumulate_eq (f : Fin (w + 1) → EReal) (i : Fin (w + 1)) : accumulate f i = ∑ j, if j ≤ i then f j else 0 := by
  have fold : ∀ (N : ℕ) (g : Fin N → EReal), (List.finRange N).foldl (fun r n => r + g n) 0 = ∑ n, g n := fun N g => by
    rw [Fin.sum_univ_def, List.sum_eq_foldl, List.foldl_map]
  refine (fold _ (fun n => if hn : w ≤ i.val + n.val then f ⟨i.val + n.val - w, by omega⟩ else 0)).trans ?_
  refine Finset.sum_bij_ne_zero (fun n _ h => ⟨i.val + n.val - w, by have := n.isLt; have := i.isLt; omega⟩) (fun _ _ _ => Finset.mem_univ _) ?_ ?_ ?_
  · intro a _ ha b _ hb e
    have ha' : w ≤ i.val + a.val := by by_contra hn; exact ha (dif_neg hn)
    have hb' : w ≤ i.val + b.val := by by_contra hn; exact hb (dif_neg hn)
    have e' : i.val + a.val - w = i.val + b.val - w := congrArg Fin.val e
    exact Fin.ext (by omega)
  · intro j _ hj
    have hji : j ≤ i := by by_contra hn; exact hj (if_neg hn)
    rw [if_pos hji] at hj
    rw [Fin.le_def] at hji
    have e : (⟨i.val + (w + j.val - i.val) - w, by omega⟩ : Fin (w + 1)) = j := Fin.ext (by show i.val + (w + j.val - i.val) - w = j.val; omega)
    refine ⟨⟨w + j.val - i.val, by omega⟩, Finset.mem_univ _, ?_, e⟩
    rw [dif_pos (show w ≤ i.val + (w + j.val - i.val) by omega)]
    exact fun h0 => hj ((congrArg f e).symm.trans h0)
  · intro n _ hn
    have hn' : w ≤ i.val + n.val := by by_contra h; exact hn (dif_neg h)
    have := n.isLt
    rw [dif_pos hn', if_pos (Fin.le_def.mpr (show i.val + n.val - w ≤ i.val by omega))]

/-- Running sums of entries that aren't positive fall. -/
theorem accumulate_falling {f : Fin (w + 1) → EReal} (hf : ∀ i, f i ≤ 0) : Falling (accumulate f) where
  nonpos i := by
    rw [accumulate_eq]
    refine Finset.sum_nonpos fun j _ => ?_
    split
    · exact hf j
    · exact le_rfl
  antitone i j h := by
    rw [accumulate_eq, accumulate_eq]
    refine Finset.sum_le_sum fun a _ => ?_
    by_cases ha : a ≤ j
    · rw [if_pos ha, if_pos (ha.trans h)]
    · rw [if_neg ha]
      split
      · exact hf a
      · exact le_rfl

end Cert.Delta.Rule

namespace Cert.Delta.Ref

open Cert.ReferenceIdeal Cert.ReferenceIdeal.Read
open Idealize.ShloMosaic Idealize.ShloMosaic.TcCoe Idealize.SL.Sem

/-- The reference's running sum at an index. -/
theorem scan_at (x : Vec Ideal S128x32x8 .f32) (v : Vec Ideal S_ .f32) (hv : v ix0 = (0 : EReal))
    (hw : S128x32x8.ReduceWindows ![1, 1, 8] ![1, 1, 1] ![0, 0, 7] ![0, 0, 0] S128x32x8) (hu : 0 < S_.numel)
    (b : Fin 128) (h : Fin 32) (i : Fin 8) :
    Host.reduceWindowAdd (F := Ideal) (φ := .f32) (t := S128x32x8) ![1, 1, 8] ![1, 1, 1] ![0, 0, 7] ![0, 0, 0] x v hw hu (ix3 b h i)
      = Rule.accumulate (fun n => x (ix3 b h n)) i := by
  have hN : (⟨3, ![1, 1, 8]⟩ : Shape).numel = 8 := by decide
  have hv' : v (Shape.Idx.first hu) = (0 : EReal) := by
    rw [← hv]; exact congrArg v (Subsingleton.elim _ _)
  show Host.reduceWindow (· + ·) ![1, 1, 8] ![1, 1, 1] ![0, 0, 7] ![0, 0, 0] x (fun _ : (⟨0, ![]⟩ : Shape).Idx => v (Shape.Idx.first hu)) hw hu (ix3 b h i) = _
  unfold Host.reduceWindow Rule.accumulate
  dsimp only
  rw [hv']
  refine (Rule.foldl_cast hN _ _).trans ?_
  congr 1
  funext r n
  congr 1
  obtain ⟨p, hp⟩ : ∃ p, p = (⟨3, ![1, 1, 8]⟩ : Shape).rowMajor.symm (n.cast hN.symm) := ⟨_, rfl⟩
  have hpn : ((⟨3, ![1, 1, 8]⟩ : Shape).rowMajor p).val = n.val := by rw [hp, Equiv.apply_symm_apply]; rfl
  rw [Shape.rowMajor_val_three] at hpn
  have h0 : (p 0).val < 1 := (p 0).isLt
  have h1 : (p 1).val < 1 := (p 1).isLt
  have h2 : (p 2).val = n.val := by
    have : ((p 0).val * 1 + (p 1).val) * 8 + (p 2).val = n.val := hpn
    omega
  obtain ⟨w, hw'⟩ : ∃ w : Fin 3 → ℕ, ∀ a, (p a).val = w a := ⟨_, fun _ => rfl⟩
  subst hp
  simp only [hw'] at *
  by_cases hn : 7 ≤ i.val + n.val
  · rw [dif_pos hn]
    refine (dif_pos fun a => ?_).trans (congrArg x (funext fun a => Fin.ext ?_))
    · match a with
      | ⟨0, _⟩ => show 0 ≤ b.val * 1 + w 0 ∧ b.val * 1 + w 0 - 0 < 128; omega
      | ⟨1, _⟩ => show 0 ≤ h.val * 1 + w 1 ∧ h.val * 1 + w 1 - 0 < 32; omega
      | ⟨2, _⟩ => show 7 ≤ i.val * 1 + w 2 ∧ i.val * 1 + w 2 - 7 < 8; omega
    · match a with
      | ⟨0, _⟩ => show b.val * 1 + w 0 - 0 = b.val; omega
      | ⟨1, _⟩ => show h.val * 1 + w 1 - 0 = h.val; omega
      | ⟨2, _⟩ => show i.val * 1 + w 2 - 7 = i.val + n.val - 7; omega
  · rw [dif_neg hn]
    refine dif_neg fun hin => hn ?_
    have : 7 ≤ i.val * 1 + w 2 := (hin 2).1
    omega

end Cert.Delta.Ref

namespace Cert.Delta

open Cert.KernelIdeal Cert.KernelIdeal.Gen
open Idealize.ShloMosaic Idealize.ShloMosaic.TcCoe Idealize.SL.Sem

/-- The kernel's running sum at an index. -/
theorem scan_at (x : Vec Ideal S128x1x8x32 .f32) (v : Vec Ideal S_ .f32) (hv : v ix0 = (0 : EReal))
    (hw : S128x1x8x32.ReduceWindows ![1, 1, 8, 1] ![1, 1, 1, 1] ![0, 0, 7, 0] ![0, 0, 0, 0] S128x1x8x32) (hu : 0 < S_.numel)
    (b : Fin 128) (h : Fin 32) (i : Fin 8) :
    Host.reduceWindowAdd (F := Ideal) (φ := .f32) (t := S128x1x8x32) ![1, 1, 8, 1] ![1, 1, 1, 1] ![0, 0, 7, 0] ![0, 0, 0, 0] x v hw hu (ix4 b 0 i h)
      = Rule.accumulate (fun n => x (ix4 b 0 n h)) i := by
  have hN : (⟨4, ![1, 1, 8, 1]⟩ : Shape).numel = 8 := by decide
  have hv' : v (Shape.Idx.first hu) = (0 : EReal) := by
    rw [← hv]; exact congrArg v (Subsingleton.elim _ _)
  show Host.reduceWindow (· + ·) ![1, 1, 8, 1] ![1, 1, 1, 1] ![0, 0, 7, 0] ![0, 0, 0, 0] x (fun _ : (⟨0, ![]⟩ : Shape).Idx => v (Shape.Idx.first hu)) hw hu (ix4 b (0 : Fin 1) i h) = _
  unfold Host.reduceWindow Rule.accumulate
  dsimp only
  rw [hv']
  refine (Rule.foldl_cast hN _ _).trans ?_
  congr 1
  funext r n
  congr 1
  obtain ⟨p, hp⟩ : ∃ p, p = (⟨4, ![1, 1, 8, 1]⟩ : Shape).rowMajor.symm (n.cast hN.symm) := ⟨_, rfl⟩
  have hpn : ((⟨4, ![1, 1, 8, 1]⟩ : Shape).rowMajor p).val = n.val := by rw [hp, Equiv.apply_symm_apply]; rfl
  rw [Shape.rowMajor_val_four] at hpn
  have h0 : (p 0).val < 1 := (p 0).isLt
  have h1 : (p 1).val < 1 := (p 1).isLt
  have h3 : (p 3).val < 1 := (p 3).isLt
  have h2 : (p 2).val = n.val := by
    have : (((p 0).val * 1 + (p 1).val) * 8 + (p 2).val) * 1 + (p 3).val = n.val := hpn
    omega
  obtain ⟨w, hw'⟩ : ∃ w : Fin 4 → ℕ, ∀ a, (p a).val = w a := ⟨_, fun _ => rfl⟩
  subst hp
  simp only [hw'] at *
  by_cases hn : 7 ≤ i.val + n.val
  · rw [dif_pos hn]
    refine (dif_pos fun a => ?_).trans (congrArg x (funext fun a => Fin.ext ?_))
    · match a with
      | ⟨0, _⟩ => show 0 ≤ b.val * 1 + w 0 ∧ b.val * 1 + w 0 - 0 < 128; omega
      | ⟨1, _⟩ => show 0 ≤ 0 * 1 + w 1 ∧ 0 * 1 + w 1 - 0 < 1; omega
      | ⟨2, _⟩ => show 7 ≤ i.val * 1 + w 2 ∧ i.val * 1 + w 2 - 7 < 8; omega
      | ⟨3, _⟩ => show 0 ≤ h.val * 1 + w 3 ∧ h.val * 1 + w 3 - 0 < 32; omega
    · match a with
      | ⟨0, _⟩ => show b.val * 1 + w 0 - 0 = b.val; omega
      | ⟨1, _⟩ => show 0 * 1 + w 1 - 0 = 0; omega
      | ⟨2, _⟩ => show i.val * 1 + w 2 - 7 = i.val + n.val - 7; omega
      | ⟨3, _⟩ => show h.val * 1 + w 3 - 0 = h.val; omega
  · rw [dif_neg hn]
    refine dif_neg fun hin => hn ?_
    have : 7 ≤ i.val * 1 + w 2 := (hin 2).1
    omega

end Cert.Delta

end
-- ==== Proof.Delta.Host.lean ====
module

public import proofs.«01_k».proof.Proof.Delta.Gates

/-! # What the host hands the call

The terms the host computes before the call, and that they are the reference's gates and write strengths in another
layout. -/

@[expose] public section

set_option maxRecDepth 65536

noncomputable section

namespace Cert.Delta

open Cert.KernelIdeal Cert.KernelIdeal.Gen
open Idealize.ShloMosaic Idealize.ShloMosaic.TcCoe Idealize.SL.Sem

/-- A constant over every row and head. -/
def everywhere (v : BitVec 32) : FVec Ideal S1024x32 .f32 :=
  broadcastInDim S1024x32 ![] bcast_S_S1024x32 (constant (F := Ideal) S_ .f32 v)

/-- The write strengths: a logistic of the first 32 columns. -/
def strengths (x2 : FVec Ideal S1024x128 .f32) : FVec Ideal S1024x32 .f32 :=
  Host.divf (everywhere 0x3F800000#32) (addf (everywhere 0x3F800000#32)
    (Host.exp (Host.negf (extractStridedSlice S1024x32 ![0, 0] x2 slices_S1024x128_S1024x32_0_0))))

/-- The next 32 columns with the bias of the step size added. -/
def shifted (x2 : FVec Ideal S1024x128 .f32) (x5 : FVec Ideal S32 .f32) : FVec Ideal S1024x32 .f32 :=
  addf (extractStridedSlice S1024x32 ![0, 32] x2 slices_S1024x128_S1024x32_0_32)
    (broadcastInDim S1024x32 ![0, 1] bcast_S1x32_S1024x32_0_1 (broadcastInDim S1x32 ![1] bcast_S32_S1x32_1 x5))

/-- The softplus, with its branch for a difference that isn't itself. -/
def softplus (y : FVec Ideal S1024x32 .f32) : FVec Ideal S1024x32 .f32 :=
  select (cmpf .une (subf y (everywhere 0#32)) (subf y (everywhere 0#32))) (addf y (everywhere 0#32))
    (addf (maximumf y (everywhere 0#32)) (Host.log1p (Host.exp (Host.negf (Host.absf (subf y (everywhere 0#32)))))))

/-- The logarithm of each step's decay. -/
def steps (x2 : FVec Ideal S1024x128 .f32) (x4 x5 : FVec Ideal S32 .f32) : FVec Ideal S1024x32 .f32 :=
  mulf (broadcastInDim S1024x32 ![0, 1] bcast_S1x32_S1024x32_0_1 (broadcastInDim S1x32 ![1] bcast_S32_S1x32_1
    (Host.negf (Host.exp x4)))) (softplus (shifted x2 x5))

/-- The steps by batch entry. -/
def split (x2 : FVec Ideal S1024x128 .f32) (x4 x5 : FVec Ideal S32 .f32) : FVec Ideal S128x1x8x32 .f32 :=
  shapeCast S128x1x8x32 (steps x2 x4 x5) shapeCasts_S1024x32_S128x1x8x32

/-- Their running sums over a batch entry's rows. -/
def summed (x2 : FVec Ideal S1024x128 .f32) (x4 x5 : FVec Ideal S32 .f32) : FVec Ideal S128x1x8x32 .f32 :=
  Host.reduceWindowAdd (F := Ideal) (φ := .f32) (t := S128x1x8x32) ![1, 1, 8, 1] ![1, 1, 1, 1] ![0, 0, 7, 0] ![0, 0, 0, 0]
    (split x2 x4 x5) (broadcastInDim S_ ![] bcast_S_S_ (constant (F := Ideal) S_ .f32 0#32))
    reduceWindows_S128x1x8x32_S128x1x8x32_w1s1p0_0_w1s1p0_0_w8s1p7_0_w1s1p0_0 h_S_

/-- Gates and write strengths side by side, one column a head. -/
def columns (x2 : FVec Ideal S1024x128 .f32) (x4 x5 : FVec Ideal S32 .f32) : FVec Ideal S128x1x8x64 .f32 :=
  transpose S128x1x8x64 [0, 2, 1, 3] (concatenate S128x8x1x64 3
    [⟨S128x8x1x32, shapeCast S128x8x1x32 (summed x2 x4 x5) shapeCasts_S128x1x8x32_S128x8x1x32⟩,
     ⟨S128x8x1x32, shapeCast S128x8x1x32 (strengths x2) shapeCasts_S1024x32_S128x8x1x32⟩]
    concatenates_S128x8x1x32_S128x8x1x32_S128x8x1x64_d3) transposes_S128x8x1x64_S128x1x8x64_0_2_1_3

/-- The gates again, one row a head. -/
def rows (x2 : FVec Ideal S1024x128 .f32) (x4 x5 : FVec Ideal S32 .f32) : FVec Ideal S128x1x1x32x8 .f32 :=
  transpose S128x1x1x32x8 [0, 3, 1, 4, 2]
    (shapeCast S128x1x8x1x32 (summed x2 x4 x5) shapeCasts_S128x1x8x32_S128x1x8x1x32)
    transposes_S128x1x8x1x32_S128x1x1x32x8_0_3_1_4_2

variable (m : (ℓ : Loc nD τ sig) → Buf (Elt Ideal) ℓ) (c : Dev nD)

/-- The convolved queries, keys and values. -/
abbrev arg0 : Vec Ideal S1024x8192 .f32 := m ((c : Thread nD τ).loc main_arg0)
/-- The projected rows, whose last columns gate the output. -/
abbrev arg1 : Vec Ideal S9216x12288 .f32 := m ((c : Thread nD τ).loc main_arg1)
/-- The columns gates and write strengths come from. -/
abbrev arg2 : Vec Ideal S1024x128 .f32 := m ((c : Thread nD τ).loc main_arg2)
/-- The old states. -/
abbrev arg3 : Vec Ideal S2x128x32x128x128 .f32 := m ((c : Thread nD τ).loc main_arg3)
/-- The logarithms of the decay rates. -/
abbrev arg4 : Vec Ideal S32 .f32 := m ((c : Thread nD τ).loc main_arg4)
/-- The biases of the step sizes. -/
abbrev arg5 : Vec Ideal S32 .f32 := m ((c : Thread nD τ).loc main_arg5)
/-- The weights of the norm. -/
abbrev arg6 : Vec Ideal S128 .f32 := m ((c : Thread nD τ).loc main_arg6)

/-- The columns as the call gets them. -/
theorem columns_eq : (V m c main_v22 : Vec Ideal S128x1x8x64 .f32) = columns (arg2 m c) (arg4 m c) (arg5 m c) := by
  unfold_abbrev_sides
  simp only [hostOps0, hostOps0_1, hostOps0_2, hostOps0_3, hostOps0_4, List.flatten_cons, List.flatten_nil,
    List.append_nil, List.cons_append, List.nil_append]
  after_results
  rfl

/-- The rows as the call gets them. -/
theorem rows_eq : (V m c main_v24 : Vec Ideal S128x1x1x32x8 .f32) = rows (arg2 m c) (arg4 m c) (arg5 m c) := by
  unfold_abbrev_sides
  simp only [hostOps0, hostOps0_1, hostOps0_2, hostOps0_3, hostOps0_4, List.flatten_cons, List.flatten_nil,
    List.append_nil, List.cons_append, List.nil_append]
  after_results
  rfl

/-- The weights of the norm as one row. -/
theorem norm_eq : (V m c main_v25 : Vec Ideal S1x128 .f32) = shapeCast S1x128 (arg6 m c) shapeCasts_S128_S1x128 := by
  unfold_abbrev_sides
  simp only [hostOps0, hostOps0_1, hostOps0_2, hostOps0_3, hostOps0_4, List.flatten_cons, List.flatten_nil,
    List.append_nil, List.cons_append, List.nil_append]
  after_results
  rfl

end Cert.Delta

end
-- ==== Proof.Delta.HostAt.lean ====
module

public import proofs.«01_k».proof.Proof.Delta.Host

/-! # The host's gates at an index

Gates and write strengths of kernel and reference are the same functions of the same arguments. -/

@[expose] public section

set_option maxRecDepth 65536

noncomputable section

namespace Cert.Delta.Rule

open Idealize.ShloMosaic

/-- A write strength: the logistic of its column. -/
def strength (x : EReal) : EReal := Ideal.div 1 (1 + Ideal.exp (-x))

/-- One step's gate: the decay rate times the softplus of the step size. -/
def step (a y : EReal) : EReal :=
  -Ideal.exp a * (max y 0 + Ideal.log1p (Ideal.exp (-FloatOps.absf (F := Ideal) (φ := .f32) y)))

end Cert.Delta.Rule

namespace Cert.Delta

open Cert.KernelIdeal Cert.KernelIdeal.Gen
open Idealize.ShloMosaic Idealize.ShloMosaic.TcCoe Idealize.SL.Sem

variable (x2 : FVec Ideal S1024x128 .f32) (x4 x5 : FVec Ideal S32 .f32) (b : Fin 128) (i : Fin 8) (h : Fin 32)

/-- Row `8 b + i`, however it is written. -/
theorem row_eq (e : b.val * 8 + i.val < 1024) : (⟨b.val * 8 + i.val, e⟩ : Fin 1024) = Ref.row b i :=
  Fin.ext (by show b.val * 8 + i.val = 8 * b.val + i.val; omega)

/-- The kernel's write strengths at an index. -/
theorem strengths_at (r : Fin 1024) : strengths x2 (ix2 r h) = Rule.strength (x2 (ix2 r ⟨h.val, by omega⟩)) := by
  pointwise [strengths, everywhere]
  rfl

/-- The kernel's steps at an index. -/
theorem steps_at (r : Fin 1024) :
    steps x2 x4 x5 (ix2 r h) = Rule.step (x4 (ix1 h)) (x2 (ix2 r ⟨32 + h.val, by omega⟩) + x5 (ix1 h)) := by
  pointwise [steps, softplus, shifted, everywhere]
  rw [if_neg (fun hne => hne rfl)]
  rfl

/-- The running sums are of the steps of one batch entry and head. -/
theorem summed_at : summed x2 x4 x5 (ix4 b 0 i h) = Rule.accumulate (fun n => steps x2 x4 x5 (ix2 (Ref.row b n) h)) i := by
  refine (scan_at _ _ (by pointwise []) _ _ b h i).trans (congrArg (fun f => Rule.accumulate f i) (funext fun n => ?_))
  pointwise [split]
  rw [row_eq]

/-- A gate column. -/
theorem columns_gate : columns x2 x4 x5 (ix4 b 0 i ⟨h.val, by omega⟩) = summed x2 x4 x5 (ix4 b 0 i h) := by
  pointwise [columns]

/-- A column of write strengths. -/
theorem columns_strength : columns x2 x4 x5 (ix4 b 0 i ⟨32 + h.val, by omega⟩) = strengths x2 (ix2 (Ref.row b i) h) := by
  pointwise [columns]
  rw [row_eq]

/-- A gate row. -/
theorem rows_gate : rows x2 x4 x5 (ix5 b 0 0 h i) = summed x2 x4 x5 (ix4 b 0 i h) := by
  pointwise [rows]

end Cert.Delta

namespace Cert.Delta.Ref

open Cert.ReferenceIdeal Cert.ReferenceIdeal.Read
open Idealize.ShloMosaic Idealize.ShloMosaic.TcCoe Idealize.SL.Sem

variable (x2 : FVec Ideal S1024x128 .f32) (x4 x5 : FVec Ideal S32 .f32) (b : Fin 128) (i : Fin 8) (h : Fin 32)

/-- The reference's write strengths at an index. -/
theorem β_at : β x2 b h i = Rule.strength (x2 (ix2 (row b i) ⟨h.val, by omega⟩)) := by
  unfold β
  pointwise [val_main_v38, val_main_v22, val_main_v21, val_main_v20, val_main_v19, val_main_v18, val_main_v17,
    val_main_v14, val_main_v13, val_main_cst_0, val_main_cst]
  rw [row_eq]
  rfl

/-- The reference's steps at an index. -/
theorem steps_at : val_main_v37 (F := Ideal) x2 x4 x5 (ix3 b h i)
    = Rule.step (x4 (ix1 h)) (x2 (ix2 (row b i) ⟨32 + h.val, by omega⟩) + x5 (ix1 h)) := by
  pointwise [val_main_v37, val_main_v31, val_main_v30, val_main_v29, val_main_v28, val_main_v27, val_main_v26,
    val_main_v25, val_main_v24, val_main_v23, val_main_v16, val_main_v15, val_main_call0_v11, val_main_call0_v10,
    val_main_call0_v9, val_main_call0_v8, val_main_call0_v7, val_main_call0_v6, val_main_call0_v5, val_main_call0_v4,
    val_main_call0_v3, val_main_call0_v2, val_main_call0_v1, val_main_call0_v0, val_main_call0_cst]
  rw [if_neg (fun hne => hne rfl), row_eq]
  rfl

/-- The reference's gates are running sums of its steps. -/
theorem G_at : G x2 x4 x5 b h i = Rule.accumulate (fun n => val_main_v37 (F := Ideal) x2 x4 x5 (ix3 b h n)) i :=
  scan_at _ _ (by pointwise [val_main_call1_call0_v0, val_main_call1_call0_cst]) _ _ b h i

end Cert.Delta.Ref

namespace Cert.Delta

open Cert.KernelIdeal Cert.KernelIdeal.Gen
open Idealize.ShloMosaic Idealize.ShloMosaic.TcCoe Idealize.SL.Sem

variable (x2 : FVec Ideal S1024x128 .f32) (x4 x5 : FVec Ideal S32 .f32) (b : Fin 128) (i : Fin 8) (h : Fin 32)

/-- The kernel's gates are the reference's. -/
theorem summed_eq : summed x2 x4 x5 (ix4 b 0 i h) = Ref.G x2 x4 x5 b h i := by
  rw [summed_at, Ref.G_at]
  refine congrArg (fun f => Rule.accumulate f i) (funext fun n => ?_)
  rw [steps_at, Ref.steps_at]

/-- The kernel's write strengths are the reference's. -/
theorem strengths_eq : strengths x2 (ix2 (Ref.row b i) h) = Ref.β x2 b h i := by
  rw [strengths_at, Ref.β_at]

end Cert.Delta

namespace Cert.Delta.Rule

open Idealize.ShloMosaic

/-- An exponential isn't negative. -/
theorem exp_nonneg (x : EReal) : 0 ≤ Ideal.exp x := by
  induction x with
  | bot => exact le_rfl
  | top => exact le_top
  | coe r => exact EReal.coe_nonneg.mpr (Real.exp_pos r).le

/-- A write strength is real, of an infinite column too. -/
theorem strength_real (x : EReal) : ∃ r : ℝ, strength x = (r : EReal) := by
  unfold strength
  have h := exp_nonneg (-x)
  generalize Ideal.exp (-x) = t at h
  induction t with
  | bot => simp at h
  | top =>
    refine ⟨0, ?_⟩
    have e : (1 : EReal) + ⊤ = ⊤ := rfl
    unfold Ideal.div
    rw [e, if_neg EReal.top_ne_zero, EReal.inv_top, mul_zero]; rfl
  | coe r =>
    have hr : 0 ≤ r := EReal.coe_nonneg.mp h
    have h1 : (1 : EReal) + (r : EReal) = ((1 + r : ℝ) : EReal) := rfl
    have h2 : (1 + r : ℝ) ≠ 0 := by positivity
    refine ⟨1 * (1 + r)⁻¹, ?_⟩
    rw [h1]
    unfold Ideal.div
    rw [if_neg (by exact_mod_cast h2), ← EReal.coe_inv]
    rfl

/-- A softplus isn't negative. -/
theorem log1p_nonneg {t : EReal} (h : 0 ≤ t) : 0 ≤ Ideal.log1p t := by
  induction t with
  | bot => simp at h
  | top => exact le_top
  | coe r =>
    have hr : 0 ≤ r := EReal.coe_nonneg.mp h
    have hp : ¬ (1 + r) ≤ 0 := not_le.mpr (by positivity)
    have e : Ideal.log1p (r : EReal) = ((Real.log (1 + r) : ℝ) : EReal) := by
      show Ideal.log (((1 + r) : ℝ) : EReal) = _
      exact if_neg hp
    rw [e]
    exact EReal.coe_nonneg.mpr (Real.log_nonneg (by linarith))

/-- A step's gate isn't positive. -/
theorem step_nonpos (a y : EReal) : step a y ≤ 0 := by
  unfold step
  rw [EReal.neg_mul]
  exact (EReal.neg_le_neg_iff.mpr
    (mul_nonneg (exp_nonneg a) (add_nonneg (le_max_right _ _) (log1p_nonneg (exp_nonneg _))))).trans_eq neg_zero

/-- So accumulated gates fall. -/
theorem accumulated_falling {l : ℕ} (a : EReal) (y : Fin (l + 1) → EReal) : Falling (accumulate fun n => step a (y n)) :=
  accumulate_falling fun n => step_nonpos a (y n)

end Cert.Delta.Rule

end
-- ==== Proof.Delta.Finite.lean ====
module

public import proofs.«01_k».proof.Proof.Delta.HostAt
public import Idealize.ShloMosaic.Lib.ReduceAll

/-! # What the precondition says

Every key is real. -/

@[expose] public section

set_option maxRecDepth 65536

noncomputable section

namespace Cert.Delta

open Cert.Pre_finite_keys
open Idealize.ShloMosaic Idealize.ShloMosaic.TcCoe Idealize.SL.Sem

/-- The side conditions of the precondition's operations. -/
theorem preFacts : Cert.Pre_finite_keys.Facts where
  slices_S1024x8192_S1024x2048_0_2048 := by decide
  bcast_S_S1024x2048 := by decide
  reducesTo_S1024x2048_S_d0_1 := by decide
  h_S_ := by decide

/-- A magnitude below infinity is a real number's. -/
theorem real_of_abs_lt {x : EReal} (hx : Ideal.cmp CmpFPredicate.olt (max x (-x)) ⊤ = 1#1) : ∃ r : ℝ, x = (r : EReal) := by
  have hlt : max x (-x) < ⊤ := by
    by_contra hn
    simp [Ideal.cmp, hn] at hx
  induction x with
  | bot => simp at hlt
  | top => simp at hlt
  | coe r => exact ⟨r, rfl⟩

/-- The bits of infinity. -/
theorem infinity_at : FloatOps.ofBits (F := Ideal) .f32 0x7F800000#32 = (⊤ : EReal) := by
  show Ideal.ieee 8 23 0x7F800000#32 = ⊤
  simp [Ideal.ieee]

/-- An array all of whose magnitudes are below infinity is real. -/
theorem real_of_all {S : Shape} {axes : List (Fin S.rank)} (x : FVec Ideal S .f32) (hb : S_.BroadcastsInDim S (![] : Fin 0 → Fin S.rank))
    (hr : S.ReducesTo axes S_) (hu : 0 < S_.numel)
    (e : Host.reduce IntOp.andi (cmpf .olt (Host.absf x) (broadcastInDim S ![] hb (constant (F := Ideal) S_ .f32 0x7F800000#32)))
      (constantI S_ 1 1#1) hr hu ix0 = 1#1) (i : S.Idx) : ∃ r : ℝ, x i = (r : EReal) := by
  have : Subsingleton S_.Idx := ⟨fun a b => funext fun k => k.elim0⟩
  have h := Host.reduce_andi_all _ _ hr hu ix0 e i
  refine real_of_abs_lt ?_
  rw [← infinity_at]
  exact h

/-- What the precondition says of the keys. -/
theorem real_of_pre [Facts] (x0 : FVec Ideal S1024x8192 .f32) (x1 : FVec Ideal S9216x12288 .f32) (x2 : FVec Ideal S1024x128 .f32)
    (x3 : FVec Ideal S2x128x32x128x128 .f32) (x4 x5 : FVec Ideal S32 .f32) (x6 : FVec Ideal S128 .f32)
    (e : fn (F := Ideal) x0 x1 x2 x3 x4 x5 x6 = fun _ => 1#1) (i : Fin 1024) (d : Fin 2048) :
    ∃ r : ℝ, x0 (ix2 i ⟨2048 + d.val, by omega⟩) = (r : EReal) := by
  obtain ⟨r, hr⟩ := real_of_all _ _ _ _ (congrFun e ix0) (ix2 i d)
  refine ⟨r, Eq.trans ?_ hr⟩
  pointwise []

end Cert.Delta

end
-- ==== Proof.Delta.Reads.lean ====
module

public import proofs.«01_k».proof.Proof.Delta.Finite

/-! # The blocks a grid point reads

Point `b` reads batch entry `b` of every operand: each head's operands are the reference's for that entry and head. -/

@[expose] public section

set_option maxRecDepth 65536

noncomputable section

namespace Cert.Delta

open Cert.KernelIdeal Cert.KernelIdeal.Gen
open Idealize.ShloMosaic Idealize.ShloMosaic.TcCoe Idealize.SL.Sem

/-! ## A head's operands in the blocks -/

/-- An array of one matrix, read as the matrix. -/
theorem shapeCast_one (w : Vec Ideal S1x128x128 .f32) (e d : Fin 128) :
    shapeCast S128x128 w shapeCasts_S1x128x128_S128x128 (ix2 e d) = w (ix3 0 e d) := by
  pointwise []

/-- The states of one entry, read as such. -/
theorem shapeCast_states (x : Vec Ideal S1x1x32x128x128 .f32) (h : Fin 32) (e d : Fin 128) :
    shapeCast S32x128x128 (shapeCast S32x128x128 x shapeCasts_S1x1x32x128x128_S32x128x128) shapeCasts_S32x128x128_S32x128x128
      (ix3 h e d) = x (ix5 0 0 h e d) := by
  pointwise []

section Operands

variable (h : Fin 32) (i : Fin 8) (d : Fin 128)

/-- A query or key. -/
theorem keyOf_at (x : Vec Ideal S8x2048 .f32) : keyOf x h (ix2 i d) = x (ix2 i ⟨128 * (h.val / 2) + d.val, by omega⟩) := by
  refine congrArg x (funext fun a => Fin.ext ?_)
  match a with
  | ⟨0, _⟩ => show 0 + 1 * i.val = i.val; omega
  | ⟨1, _⟩ => show 128 * (h.val / 2) + 1 * d.val = 128 * (h.val / 2) + d.val; omega

/-- A value or output gate. -/
theorem valueOf_at (x : Vec Ideal S8x4096 .f32) : valueOf x h (ix2 i d) = x (ix2 i ⟨128 * h.val + d.val, by omega⟩) := by
  refine congrArg x (funext fun a => Fin.ext ?_)
  match a with
  | ⟨0, _⟩ => show 0 + 1 * i.val = i.val; omega
  | ⟨1, _⟩ => show 128 * h.val + 1 * d.val = 128 * h.val + d.val; omega

/-- An accumulated gate of the column. -/
theorem gateOf_at (x : Vec Ideal S1x1x8x64 .f32) : gateOf x h (ix2 i 0) = x (ix4 0 0 i ⟨h.val, by omega⟩) := by
  show extractStridedSlice S8x1 ![0, h.val] (shapeCast S8x64 x shapeCasts_S1x1x8x64_S8x64) _ (ix2 i 0) = _
  pointwise []

/-- A write strength. -/
theorem strengthOf_at (x : Vec Ideal S1x1x8x64 .f32) : strengthOf x h (ix2 i 0) = x (ix4 0 0 i ⟨32 + h.val, by omega⟩) := by
  show extractStridedSlice S8x1 ![0, 32 + h.val] (shapeCast S8x64 x shapeCasts_S1x1x8x64_S8x64) _ (ix2 i 0) = _
  pointwise []

/-- An accumulated gate of the row. -/
theorem gateRowOf_at (x : Vec Ideal S1x1x1x32x8 .f32) : gateRowOf x h (ix2 0 i) = x (ix5 0 0 0 h i) := by
  show extractStridedSlice S1x8 ![h.val, 0] (shapeCast S32x8 x shapeCasts_S1x1x1x32x8_S32x8) _ (ix2 0 i) = _
  pointwise []

/-- An entry of the old state. -/
theorem stateOf_at (x : Vec Ideal S1x1x32x128x128 .f32) (e : Fin 128) : stateOf x h (ix2 e d) = x (ix5 0 0 h e d) := by
  unfold stateOf
  rw [shapeCast_one]
  have e2 : View.ld (Val := Elt Ideal) (e' := .f32) (k0_pay3 x) (stateRect h) (ix3 0 e d) = k0_pay3 x (ix3 h e d) := by
    refine congrArg (k0_pay3 x) (funext fun a => Fin.ext ?_)
    match a with
    | ⟨0, _⟩ => show h.val + 1 * 0 = h.val; omega
    | ⟨1, _⟩ => show 0 + 1 * e.val = e.val; omega
    | ⟨2, _⟩ => show 0 + 1 * d.val = d.val; omega
  rw [e2]
  exact shapeCast_states x h e d

/-- A weight of the norm. -/
theorem normOf_at (x : Vec Ideal S1x128 .f32) : k0_pay9 x (ix2 0 d) = x (ix2 0 d) := by
  show shapeCast S1x128 x shapeCasts_S1x128_S1x128 (ix2 0 d) = _
  pointwise []

end Operands

/-! ## The blocks -/

/-- Which block each window stages at a point. -/
theorem index_facts : ∀ t : Fin grid0.N, win0_0.index t 0 = t.val ∧ win0_0.index t 1 = 0
    ∧ win0_1.index t 0 = t.val ∧ win0_1.index t 1 = 1
    ∧ win0_2.index t 0 = t.val ∧ win0_2.index t 1 = 1
    ∧ win0_3.index t 0 = 1024 + t.val ∧ win0_3.index t 1 = 2
    ∧ win0_4.index t 0 = t.val ∧ win0_4.index t 1 = 0 ∧ win0_4.index t 2 = 0 ∧ win0_4.index t 3 = 0
    ∧ win0_5.index t 0 = t.val ∧ win0_5.index t 1 = 0 ∧ win0_5.index t 2 = 0 ∧ win0_5.index t 3 = 0 ∧ win0_5.index t 4 = 0 := by
  decide +kernel

/-- … and the windows of the states, the norm and the results. -/
theorem index_facts' : ∀ t : Fin grid0.N, win0_6.index t 0 = 0 ∧ win0_6.index t 1 = t.val ∧ win0_6.index t 2 = 0
    ∧ win0_6.index t 3 = 0 ∧ win0_6.index t 4 = 0
    ∧ win0_7.index t 0 = 0 ∧ win0_7.index t 1 = 0
    ∧ win0_8.index t 0 = t.val ∧ win0_8.index t 1 = 0
    ∧ win0_9.index t 0 = t.val ∧ win0_9.index t 1 = 0 ∧ win0_9.index t 2 = 0 ∧ win0_9.index t 3 = 0 := by
  decide +kernel

variable (m : (ℓ : Loc nD τ sig) → Buf (Elt Ideal) ℓ) (c : Dev nD) (t : Fin cfg0.N)

/-- The batch entry a grid point handles. -/
def entry : Fin 128 := ⟨t.val, t.isLt⟩

variable (h : Fin 32) (i : Fin 8) (d e : Fin 128)

/-- The queries a point reads. -/
theorem query_read : queryOf (iblk m c 0 t : Vec Ideal S8x2048 .f32) h (ix2 i d) = Ref.q (arg0 m c) (entry t) h i d := by
  obtain ⟨e0, e1, -⟩ := index_facts t
  refine (keyOf_at h i d _).trans ?_
  unfold iblk
  rw [View.read_apply]
  show m ((c : Thread nD τ).loc main_arg0) _ = m ((c : Thread nD τ).loc main_arg0) _
  congr 1
  funext a
  apply Fin.ext
  match a with
  | ⟨0, _⟩ => show win0_0.index t 0 * 8 + 1 * i.val = 8 * t.val + i.val; rw [e0]; omega
  | ⟨1, _⟩ => show win0_0.index t 1 * 2048 + 1 * (128 * (h.val / 2) + d.val) = 128 * (h.val / 2) + d.val; rw [e1]; omega

/-- The keys a point reads. -/
theorem key_read : keyOf (iblk m c 1 t : Vec Ideal S8x2048 .f32) h (ix2 i d) = Ref.k (arg0 m c) (entry t) h i d := by
  obtain ⟨-, -, e0, e1, -⟩ := index_facts t
  refine (keyOf_at h i d _).trans ?_
  unfold iblk
  rw [View.read_apply]
  show m ((c : Thread nD τ).loc main_arg0) _ = m ((c : Thread nD τ).loc main_arg0) _
  congr 1
  funext a
  apply Fin.ext
  match a with
  | ⟨0, _⟩ => show win0_1.index t 0 * 8 + 1 * i.val = 8 * t.val + i.val; rw [e0]; omega
  | ⟨1, _⟩ => show win0_1.index t 1 * 2048 + 1 * (128 * (h.val / 2) + d.val) = 2048 + (128 * (h.val / 2) + d.val); rw [e1]; omega

/-- The values a point reads. -/
theorem value_read : valueOf (iblk m c 2 t : Vec Ideal S8x4096 .f32) h (ix2 i d) = Ref.v (arg0 m c) (entry t) h i d := by
  obtain ⟨-, -, -, -, e0, e1, -⟩ := index_facts t
  refine (valueOf_at h i d _).trans ?_
  unfold iblk
  rw [View.read_apply]
  show m ((c : Thread nD τ).loc main_arg0) _ = m ((c : Thread nD τ).loc main_arg0) _
  congr 1
  funext a
  apply Fin.ext
  match a with
  | ⟨0, _⟩ => show win0_2.index t 0 * 8 + 1 * i.val = 8 * t.val + i.val; rw [e0]; omega
  | ⟨1, _⟩ => show win0_2.index t 1 * 4096 + 1 * (128 * h.val + d.val) = 4096 + (128 * h.val + d.val); rw [e1]; omega

/-- The output gates a point reads. -/
theorem outgate_read : valueOf (iblk m c 3 t : Vec Ideal S8x4096 .f32) h (ix2 i d) = Ref.z (arg1 m c) (entry t) h i d := by
  obtain ⟨-, -, -, -, -, -, e0, e1, -⟩ := index_facts t
  refine (valueOf_at h i d _).trans ?_
  unfold iblk
  rw [View.read_apply]
  show m ((c : Thread nD τ).loc main_arg1) _ = m ((c : Thread nD τ).loc main_arg1) _
  congr 1
  funext a
  apply Fin.ext
  match a with
  | ⟨0, _⟩ => show win0_3.index t 0 * 8 + 1 * i.val = 8192 + (8 * t.val + i.val); rw [e0]; omega
  | ⟨1, _⟩ => show win0_3.index t 1 * 4096 + 1 * (128 * h.val + d.val) = 8192 + (128 * h.val + d.val); rw [e1]; omega

/-- The block of columns is the point's entry of them. -/
theorem column_read (j : Fin 64) : (iblk m c 4 t : Vec Ideal S1x1x8x64 .f32) (ix4 0 0 i j)
    = columns (arg2 m c) (arg4 m c) (arg5 m c) (ix4 (entry t) 0 i j) := by
  obtain ⟨-, -, -, -, -, -, -, -, e0, e1, e2, e3, -⟩ := index_facts t
  unfold iblk
  rw [View.read_apply]
  refine (congrFun (columns_eq m c) _).trans (congrArg (columns (arg2 m c) (arg4 m c) (arg5 m c)) ?_)
  funext a
  apply Fin.ext
  match a with
  | ⟨0, _⟩ => show win0_4.index t 0 * 1 + 1 * 0 = t.val; rw [e0]; omega
  | ⟨1, _⟩ => show win0_4.index t 1 * 1 + 1 * 0 = 0; rw [e1]
  | ⟨2, _⟩ => show win0_4.index t 2 * 8 + 1 * i.val = i.val; rw [e2]; omega
  | ⟨3, _⟩ => show win0_4.index t 3 * 64 + 1 * j.val = j.val; rw [e3]; omega

/-- The accumulated gates a point reads as a column. -/
theorem gate_read : gateOf (iblk m c 4 t : Vec Ideal S1x1x8x64 .f32) h (ix2 i 0)
    = Ref.G (arg2 m c) (arg4 m c) (arg5 m c) (entry t) h i := by
  refine (gateOf_at h i _).trans ((column_read m c t i _).trans ((columns_gate _ _ _ _ _ _).trans (summed_eq _ _ _ _ _ _)))

/-- The write strengths a point reads. -/
theorem strength_read : strengthOf (iblk m c 4 t : Vec Ideal S1x1x8x64 .f32) h (ix2 i 0)
    = Ref.β (arg2 m c) (entry t) h i := by
  refine (strengthOf_at h i _).trans ((column_read m c t i _).trans ((columns_strength _ _ _ _ _ _).trans (strengths_eq _ _ _ _)))

/-- The accumulated gates a point reads as a row. -/
theorem row_read : gateRowOf (iblk m c 5 t : Vec Ideal S1x1x1x32x8 .f32) h (ix2 0 i)
    = Ref.G (arg2 m c) (arg4 m c) (arg5 m c) (entry t) h i := by
  obtain ⟨-, -, -, -, -, -, -, -, -, -, -, -, e0, e1, e2, e3, e4⟩ := index_facts t
  refine (gateRowOf_at h i _).trans (Eq.trans ?_ ((rows_gate _ _ _ _ _ _).trans (summed_eq _ _ _ _ _ _)))
  unfold iblk
  rw [View.read_apply]
  refine (congrFun (rows_eq m c) _).trans (congrArg (rows (arg2 m c) (arg4 m c) (arg5 m c)) ?_)
  funext a
  apply Fin.ext
  match a with
  | ⟨0, _⟩ => show win0_5.index t 0 * 1 + 1 * 0 = t.val; rw [e0]; omega
  | ⟨1, _⟩ => show win0_5.index t 1 * 1 + 1 * 0 = 0; rw [e1]
  | ⟨2, _⟩ => show win0_5.index t 2 * 1 + 1 * 0 = 0; rw [e2]
  | ⟨3, _⟩ => show win0_5.index t 3 * 32 + 1 * h.val = h.val; rw [e3]; omega
  | ⟨4, _⟩ => show win0_5.index t 4 * 8 + 1 * i.val = i.val; rw [e4]; omega

/-- The old state a point reads. -/
theorem state_read : stateOf (iblk m c 6 t : Vec Ideal S1x1x32x128x128 .f32) h (ix2 e d) = Ref.s (arg3 m c) (entry t) h e d := by
  obtain ⟨e0, e1, e2, e3, e4, -⟩ := index_facts' t
  refine (stateOf_at h d _ e).trans ?_
  unfold iblk
  rw [View.read_apply]
  show m ((c : Thread nD τ).loc main_arg3) _ = m ((c : Thread nD τ).loc main_arg3) _
  congr 1
  funext a
  apply Fin.ext
  match a with
  | ⟨0, _⟩ => show win0_6.index t 0 * 1 + 1 * 0 = 0; rw [e0]
  | ⟨1, _⟩ => show win0_6.index t 1 * 1 + 1 * 0 = t.val; rw [e1]; omega
  | ⟨2, _⟩ => show win0_6.index t 2 * 32 + 1 * h.val = h.val; rw [e2]; omega
  | ⟨3, _⟩ => show win0_6.index t 3 * 128 + 1 * e.val = e.val; rw [e3]; omega
  | ⟨4, _⟩ => show win0_6.index t 4 * 128 + 1 * d.val = d.val; rw [e4]; omega

/-- The weights of the norm a point reads. -/
theorem norm_read : k0_pay9 (iblk m c 7 t : Vec Ideal S1x128 .f32) (ix2 0 d) = arg6 m c (ix1 d) := by
  obtain ⟨-, -, -, -, -, e0, e1, -⟩ := index_facts' t
  refine (normOf_at d _).trans (Eq.trans (b := shapeCast S1x128 (arg6 m c) shapeCasts_S128_S1x128 (ix2 0 d)) ?_ (by pointwise []))
  unfold iblk
  rw [View.read_apply]
  refine (congrFun (norm_eq m c) _).trans (congrArg (shapeCast S1x128 (arg6 m c) shapeCasts_S128_S1x128) ?_)
  funext a
  apply Fin.ext
  match a with
  | ⟨0, _⟩ => show win0_7.index t 0 * 1 + 1 * 0 = 0; rw [e0]
  | ⟨1, _⟩ => show win0_7.index t 1 * 128 + 1 * d.val = d.val; rw [e1]; omega

end Cert.Delta

end
-- ==== Proof.Delta.Values.lean ====
module

public import proofs.«01_k».proof.Proof.Delta.Reads

/-! # What the kernel leaves in its two results

A grid point leaves, head by head, the reference's outputs and new states of its batch entry. -/

@[expose] public section

set_option maxRecDepth 65536

noncomputable section

namespace Cert.Delta

open Cert.KernelIdeal Cert.KernelIdeal.Gen
open Idealize.ShloMosaic Idealize.ShloMosaic.TcCoe Idealize.SL.Sem

variable (m : (ℓ : Loc nD τ sig) → Buf (Elt Ideal) ℓ) (c : Dev nD)

/-- What the claim assumes of a device's arguments: every key is a real number. -/
structure Real : Prop where
  /-- The keys are columns 2048 to 4095 of the array of queries, keys and values. -/
  keys : ∀ (i : Fin 1024) (d : Fin 2048), ∃ r : ℝ, arg0 m c (ix2 i ⟨2048 + d.val, by omega⟩) = r

variable {m c}

/-- A head's keys are real numbers. -/
theorem Real.key (hr : Real m c) (i : Fin 1024) (h : Fin 32) (d : Fin 128) : ∃ r : ℝ, arg0 m c (ix2 i (Ref.colK h d)) = r :=
  hr.keys i ⟨128 * (h.val / 2) + d.val, by omega⟩

variable (m c) in
/-- The accumulated gates fall. -/
theorem gates_falling (b : Fin 128) (h : Fin 32) : Rule.Falling (Ref.G (arg2 m c) (arg4 m c) (arg5 m c) b h) := by
  have e : Ref.G (arg2 m c) (arg4 m c) (arg5 m c) b h = Rule.accumulate
      fun n => Rule.step (arg4 m c (ix1 h)) (arg2 m c (ix2 (Ref.row b n) ⟨32 + h.val, by omega⟩) + arg5 m c (ix1 h)) := by
    funext i
    rw [Ref.G_at]
    exact congrArg (fun f => Rule.accumulate f i) (funext fun n => Ref.steps_at _ _ _ _ _ _)
  rw [e]
  exact Rule.accumulated_falling _ _

variable (m c) in
/-- The write strengths are real numbers. -/
theorem strength_real (b : Fin 128) (h : Fin 32) (i : Fin 8) : ∃ r : ℝ, Ref.β (arg2 m c) b h i = r := by
  rw [Ref.β_at]
  exact Rule.strength_real _

/-- At a point, a head's inverse is the reference's solution. -/
theorem inverse_at (hr : Real m c) (t : Fin cfg0.N) (h : Fin 32) :
    kernelInverse (keyOf (iblk m c 1 t : Vec Ideal S8x2048 .f32) h) (gateOf (iblk m c 4 t : Vec Ideal S1x1x8x64 .f32) h)
      (strengthOf (iblk m c 4 t : Vec Ideal S1x1x8x64 .f32) h) (gateRowOf (iblk m c 5 t : Vec Ideal S1x1x1x32x8 .f32) h)
      = Ref.T (arg0 m c) (arg2 m c) (arg4 m c) (arg5 m c) (entry t) h := by
  rw [kernelInverse_eq _ _ _ _ (fun j => (row_read m c t h j).trans (gate_read m c t h j).symm)
    (fun i d => (key_read m c t h i d).symm ▸ hr.key _ _ _)
    (fun i => (strength_read m c t h i).symm ▸ strength_real m c _ _ _)
    (by simp only [gate_read]; exact gates_falling m c _ _)]
  simp only [key_read, strength_read, gate_read]

/-- Head `h`'s outputs at a point are the reference's. -/
theorem blockOut_at (hr : Real m c) (t : Fin cfg0.N) (h : Fin 32) (i : Fin 8) (d : Fin 128) :
    blockOut (iblk m c 0 t : Vec Ideal S8x2048 .f32) (iblk m c 1 t : Vec Ideal S8x2048 .f32) (iblk m c 2 t : Vec Ideal S8x4096 .f32)
      (iblk m c 3 t : Vec Ideal S8x4096 .f32) (iblk m c 4 t : Vec Ideal S1x1x8x64 .f32) (iblk m c 5 t : Vec Ideal S1x1x1x32x8 .f32)
      (iblk m c 6 t : Vec Ideal S1x1x32x128x128 .f32) (iblk m c 7 t : Vec Ideal S1x128 .f32) h (ix2 i d)
      = Cert.ReferenceIdeal.Read.val_main_v162 (arg0 m c) (arg1 m c) (arg2 m c) (arg3 m c) (arg4 m c) (arg5 m c) (arg6 m c)
          (ix2 (Ref.row (entry t) i) (Ref.colO h d)) := by
  rw [Ref.out_at, Ref.normed_at]
  unfold blockOut
  rw [headOut_at _ _ _ _ _ _ _ _ _ (fun j => (row_read m c t h j).trans (gate_read m c t h j).symm), inverse_at hr]
  simp only [query_read, key_read, value_read, outgate_read, strength_read, gate_read, state_read, norm_read]

/-- Head `h`'s new state at a point is the reference's. -/
theorem blockState_at (hr : Real m c) (t : Fin cfg0.N) (h : Fin 32) (e d : Fin 128) :
    blockState (iblk m c 0 t : Vec Ideal S8x2048 .f32) (iblk m c 1 t : Vec Ideal S8x2048 .f32) (iblk m c 2 t : Vec Ideal S8x4096 .f32)
      (iblk m c 4 t : Vec Ideal S1x1x8x64 .f32) (iblk m c 5 t : Vec Ideal S1x1x1x32x8 .f32)
      (iblk m c 6 t : Vec Ideal S1x1x32x128x128 .f32) h (ix2 e d)
      = Cert.ReferenceIdeal.Read.val_main_v145 (arg0 m c) (arg2 m c) (arg3 m c) (arg4 m c) (arg5 m c) (ix4 (entry t) h e d) := by
  rw [Ref.state_at]
  unfold blockState
  rw [headState_at, inverse_at hr]
  simp only [key_read, value_read, strength_read, gate_read, state_read]

/-! ## The arrays -/

variable (m c) in
/-- A point's output block, head by head. -/
theorem written_out (t : Fin cfg0.N) (h : Fin 32) (r : Fin 8) (d : Fin 128) :
    (outsAt0 m c t).1 (ix2 r ⟨128 * h.val + d.val, by omega⟩)
      = blockOut (iblk m c 0 t) (iblk m c 1 t) (iblk m c 2 t) (iblk m c 3 t) (iblk m c 4 t) (iblk m c 5 t) (iblk m c 6 t)
          (iblk m c 7 t) h (ix2 r d) :=
  out_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (hcond0_0 t) (hcond0_1 t)
    (iblk m c 0 t) (iblk m c 1 t) (iblk m c 2 t) (iblk m c 3 t) (iblk m c 4 t) (iblk m c 5 t) (iblk m c 6 t) (iblk m c 7 t) h r d

variable (m c) in
/-- A point's block of new states, head by head. -/
theorem written_state (t : Fin cfg0.N) (h : Fin 32) (e d : Fin 128) :
    (outsAt0 m c t).2 (ix4 (0 : Fin 1) h e d)
      = blockState (iblk m c 0 t) (iblk m c 1 t) (iblk m c 2 t) (iblk m c 4 t) (iblk m c 5 t) (iblk m c 6 t) h (ix2 e d) := by
  unfold outsAt0
  dsimp only
  exact state_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (hcond0_0 t) (hcond0_1 t)
    (iblk m c 0 t) (iblk m c 1 t) (iblk m c 2 t) (iblk m c 3 t) (iblk m c 4 t) (iblk m c 5 t) (iblk m c 6 t) (iblk m c 7 t) h e d

/-- What a point writes of the outputs is where the reference has the same rows. -/
theorem outputs_at (hr : Real m c) (t : Fin cfg0.N) (y : S8x4096.Idx) : (outsAt0 m c t).1 y
    = Cert.ReferenceIdeal.Read.val_main_v162 (arg0 m c) (arg1 m c) (arg2 m c) (arg3 m c) (arg4 m c) (arg5 m c) (arg6 m c)
        ((win0_8.blk t).view.emb y) := by
  obtain ⟨-, -, -, -, -, -, -, e0, e1, -⟩ := index_facts' t
  obtain ⟨r, h, d, rfl⟩ : ∃ (r : Fin 8) (h : Fin 32) (d : Fin 128), y = ix2 r ⟨128 * h.val + d.val, by omega⟩ := by
    idx_vars y
    refine ⟨y0, ⟨y1.val / 128, by omega⟩, ⟨y1.val % 128, by omega⟩, congrArg (ix2 y0) (Fin.ext ?_)⟩
    show y1.val = 128 * (y1.val / 128) + y1.val % 128
    omega
  refine (written_out m c t h r d).trans ((blockOut_at hr t h r d).trans (congrArg
    (Cert.ReferenceIdeal.Read.val_main_v162 (arg0 m c) (arg1 m c) (arg2 m c) (arg3 m c) (arg4 m c) (arg5 m c) (arg6 m c)) ?_))
  funext a
  apply Fin.ext
  match a with
  | ⟨0, _⟩ => show 8 * t.val + r.val = win0_8.index t 0 * 8 + 1 * r.val; rw [e0]; omega
  | ⟨1, _⟩ => show 128 * h.val + d.val = win0_8.index t 1 * 4096 + 1 * (128 * h.val + d.val); rw [e1]; omega

/-- What a point writes of the new states is the reference's states of its entry. -/
theorem states_at (hr : Real m c) (t : Fin cfg0.N) (y : S1x32x128x128.Idx) : (outsAt0 m c t).2 y
    = Cert.ReferenceIdeal.Read.val_main_v145 (arg0 m c) (arg2 m c) (arg3 m c) (arg4 m c) (arg5 m c)
        ((win0_9.blk t).view.emb y) := by
  obtain ⟨-, -, -, -, -, -, -, -, -, e0, e1, e2, e3⟩ := index_facts' t
  obtain ⟨h, e, d, rfl⟩ : ∃ (h : Fin 32) (e d : Fin 128), y = ix4 (0 : Fin 1) h e d := by
    idx_vars y
    exact ⟨y1, y2, y3, by rw [Subsingleton.elim y0 0]⟩
  refine (written_state m c t h e d).trans ((blockState_at hr t h e d).trans (congrArg
    (Cert.ReferenceIdeal.Read.val_main_v145 (arg0 m c) (arg2 m c) (arg3 m c) (arg4 m c) (arg5 m c)) ?_))
  funext a
  apply Fin.ext
  match a with
  | ⟨0, _⟩ => show t.val = win0_9.index t 0 * 1 + 1 * 0; rw [e0]; omega
  | ⟨1, _⟩ => show h.val = win0_9.index t 1 * 32 + 1 * h.val; rw [e1]; omega
  | ⟨2, _⟩ => show e.val = win0_9.index t 2 * 128 + 1 * e.val; rw [e2]; omega
  | ⟨3, _⟩ => show d.val = win0_9.index t 3 * 128 + 1 * d.val; rw [e3]; omega

/-- The outputs the call leaves are the reference's. -/
theorem outputs (hr : Real m c) : ((dats m 0 c).arrAt 8 cfg0.N : Vec Ideal S1024x4096 .f32)
    = Cert.ReferenceIdeal.Read.val_main_v162 (arg0 m c) (arg1 m c) (arg2 m c) (arg3 m c) (arg4 m c) (arg5 m c) (arg6 m c) := by
  refine (dats m 0 c).arrAt_eq_of_covers 8 _ (by decide +kernel) fun t hf y => ?_
  blk_simp
  rw [after0_8]
  exact outputs_at hr t y

/-- The new states the call leaves are the reference's. -/
theorem states (hr : Real m c) : ((dats m 0 c).arrAt 9 cfg0.N : Vec Ideal S128x32x128x128 .f32)
    = Cert.ReferenceIdeal.Read.val_main_v145 (arg0 m c) (arg2 m c) (arg3 m c) (arg4 m c) (arg5 m c) := by
  refine (dats m 0 c).arrAt_eq_of_covers 9 _ (by decide +kernel) fun t hf y => ?_
  blk_simp
  rw [after0_9]
  exact states_at hr t y

end Cert.Delta

end
-- ==== Proof.Delta.Claim.lean ====
module

public import proofs.«01_k».proof.Proof.Delta.Values
public import proofs.«01_k».proof.Proof.Gen.Kernel.Frame

/-! # The claims about the delta-rule step -/

@[expose] public section

set_option maxRecDepth 65536

noncomputable section

namespace Cert.Proof.Delta

open Cert.Delta
open Idealize.ShloMosaic Idealize.ShloMosaic.TcCoe Idealize.SL.Sem

/-- The kernel runs to completion and keeps its arguments. -/
theorem frame_kernel : Cert.quiescent_Kernel := fun m ρ _ => Kernel.Gen.frame m ρ

/-- … at the ideal instance too … -/
theorem frame_kernel_ideal : Cert.quiescent_KernelIdeal := fun m ρ _ => KernelIdeal.Gen.frame m ρ

/-- … and under the precondition. -/
theorem frame_kernel_ideal_pre :
    Cert.quiescent_KernelIdeal_pre_finite_keys (hPre_finite_keys := preFacts) :=
  fun m ρ _ => KernelIdeal.Gen.frame m ρ

/-- The reference runs to completion and keeps its arguments. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩) (ReferenceIdeal.Value.run m ρ)

/-- … and under the precondition. -/
theorem frame_reference_pre :
    Cert.quiescent_ReferenceIdeal_pre_finite_keys (hPre_finite_keys := preFacts) :=
  fun m ρ _ => frame_reference m ρ trivial

/-- The precondition makes a device's keys real. -/
theorem real_of_precondition (m : (ℓ : Loc KernelIdeal.nD KernelIdeal.τ KernelIdeal.sig) → Buf (Elt Ideal) ℓ)
    (hpre : Cert.Pre_KernelIdeal_finite_keys (hPre_finite_keys := preFacts) m)
    (c : Dev KernelIdeal.nD) : Cert.Delta.Real m c := by
  have := preFacts
  exact ⟨real_of_pre _ _ _ _ _ _ _ (hpre c)⟩

/-- The kernel leaves the reference's outputs and new states, as extended reals. -/
theorem algebraic :
    Cert.algebraic_KernelIdeal_ReferenceIdeal_pre_finite_keys (hPre_finite_keys := preFacts) := by
  intro m ρ m' ρ' hpre hagree
  refine ⟨fun c => (KernelIdeal.Gen.dats m 0 c).arrAt 8 KernelIdeal.cfg0.N,
    fun c => (KernelIdeal.Gen.dats m 0 c).arrAt 9 KernelIdeal.cfg0.N, KernelIdeal.Value.run_blocks (F := Ideal) m ρ, ?_⟩
  refine (θ_run _ _ _).mono (fun _ h c => ⟨(h c).1.trans ?_, (h c).2.1.trans ?_, (h c).2.2⟩)
    (ReferenceIdeal.Value.run (F := Ideal) m' ρ')
  · rw [ReferenceIdeal.Read.val_main_v162_eq]
    obtain ⟨a0, a1, a2, a3, a4, a5, a6⟩ := hagree c
    refine Eq.trans ?_ (outputs (real_of_precondition m hpre c)).symm
    exact congr (congr (congr (congr (congr (congr (congrArg ReferenceIdeal.Read.val_main_v162 a0) a1) a2) a3) a4) a5) a6
  · rw [ReferenceIdeal.Read.val_main_v145_eq]
    obtain ⟨a0, a1, a2, a3, a4, a5, a6⟩ := hagree c
    refine Eq.trans ?_ (states (real_of_precondition m hpre c)).symm
    exact congr (congr (congr (congr (congrArg ReferenceIdeal.Read.val_main_v145 a0) a2) a3) a4) a5

end Cert.Proof.Delta

end
-- ==== Proof.Prompt.Head.lean ====
module

public import proofs.«01_k».proof.Proof.Delta.Claim
public import proofs.«01_k».proof.Proof.Gen.Kernel5.Frame
public import proofs.«01_k».proof.Proof.Gen.Kernel5Ideal.Value
public import proofs.«01_k».proof.Proof.Gen.Reference5Ideal.Run

/-! # One head of the gated delta rule over a chunk of the prompt, as the kernel computes it

The body treats the 16 value heads of a group one after another, on chunks of 64 positions. This file
writes the operations once, for an arbitrary head, and states that the blocks the body stores are the
16 heads' results, on the first chunk, the last one, and those between. -/

@[expose] public section

set_option maxRecDepth 65536

noncomputable section

namespace Cert.Prompt

open Cert.Kernel5Ideal Cert.Kernel5Ideal.Gen
open Idealize.ShloMosaic Idealize.ShloMosaic.TcCoe Idealize.SL.Sem

variable {F : FTy → Type} [FloatOps F]

/-! ## The masks -/

/-- The row number of each entry of a 64 by 64 matrix. -/
abbrev rowIx : IVec S64x64 32 := iota .tc S64x64 32 [0] iota_S64x64_d0_w32

/-- The column number of each entry of a 64 by 64 matrix. -/
abbrev colIx : IVec S64x64 32 := iota .tc S64x64 32 [1] iota_S64x64_d1_w32

/-- The quotient, rounded down, of every entry by `k`. -/
def floorDiv (x : IVec S64x64 32) (k : BitVec 32) : IVec S64x64 32 :=
  select (andi
      (cmpi .ne
        (subi (extui 32 (cmpi .sgt x (broadcast S64x64 0#32)) natLt_1_32)
          (extui 32 (cmpi .slt x (broadcast S64x64 0#32)) natLt_1_32))
        (broadcast S64x64 (Scalar.subi (Scalar.extui (Scalar.cmpi .sgt k 0#32)) (Scalar.extui (Scalar.cmpi .slt k 0#32)))))
      (cmpi .ne (remsi x (broadcast S64x64 k)) (broadcast S64x64 0#32)))
    (subi (divsi x (broadcast S64x64 k)) (broadcast S64x64 1#32)) (divsi x (broadcast S64x64 k))

/-- The divisor 2, guarded against zero. -/
def two : BitVec 32 := Scalar.select (Scalar.cmpi .eq 2#32 0#32) 1#32 2#32

/-- The remainder modulo 2 of every entry. -/
def modTwo (x : IVec S64x64 32) : IVec S64x64 32 :=
  select (andi
      (xori (cmpi .slt (remsi x (broadcast S64x64 two)) (broadcast S64x64 0#32))
        (broadcastTo S64x64 (broadcast S64x64 (Scalar.cmpi .slt two 0#32)) broadcasts_S64x64_S64x64))
      (cmpi .ne (remsi x (broadcast S64x64 two)) (broadcast S64x64 0#32)))
    (addi (remsi x (broadcast S64x64 two)) (broadcast S64x64 two)) (remsi x (broadcast S64x64 two))

/-- Row and column lie in the same block of `k`. -/
def sameBlock (k : BitVec 32) : IVec S64x64 1 := cmpi .eq (floorDiv rowIx k) (floorDiv colIx k)

/-- The lower left half of each block of `k2 = 2 k`: row in the odd half, column in the even half. -/
def lowerHalf (k2 k : BitVec 32) : IVec S64x64 1 :=
  andi (andi (sameBlock k2) (cmpi .eq (modTwo (floorDiv rowIx k)) (broadcast S64x64 1#32)))
    (cmpi .eq (modTwo (floorDiv colIx k)) (broadcast S64x64 0#32))

/-- Row at or below the diagonal. -/
def atOrBelow : IVec S64x64 1 := cmpi .sge rowIx colIx

/-- Row strictly below the diagonal. -/
def below : IVec S64x64 1 := cmpi .sgt rowIx colIx

/-- The identity matrix. -/
def identity : FVec F S64x64 .f32 := sitofp .f32 (extui 32 (cmpi .eq rowIx colIx) natLt_1_32)

/-- The entries a mask selects, zero elsewhere. -/
def masked (p : IVec S64x64 1) (x : FVec F S64x64 .f32) : FVec F S64x64 .f32 :=
  select p x (broadcast S64x64 (Scalar.ofBits .f32 0x00000000#32))

/-! ## The operations of one head -/

/-- The product of two 64 by 64 matrices. -/
def mul64 (a b : FVec F S64x64 .f32) : FVec F S64x64 .f32 :=
  matmul dot_S64x64_S64x64_S64x64_1_0_0_1_n_n none (truncf .bf16 a bitsLt_bf16_f32) (truncf .bf16 b bitsLt_bf16_f32)
    (constant S64x64 .f32 0x00000000#32)

/-- A 64 by 64 matrix times 64 rows. -/
def mulRows (a : FVec F S64x64 .f32) (b : FVec F S64x128 .f32) : FVec F S64x128 .f32 :=
  matmul dot_S64x64_S64x128_S64x128_1_0_0_1_n_n none (truncf .bf16 a bitsLt_bf16_f32) (truncf .bf16 b bitsLt_bf16_f32)
    (constant S64x128 .f32 0x00000000#32)

/-- The inner products of the rows of two arrays. -/
def innerRows (a b : FVec F S64x128 .f32) : FVec F S64x64 .f32 :=
  matmul dot_S64x128_S64x128_S64x64_1_1_0_0_n_n none (truncf .bf16 a bitsLt_bf16_f32) (truncf .bf16 b bitsLt_bf16_f32)
    (constant S64x64 .f32 0x00000000#32)

/-- Every row scaled by its entry of a column. -/
def scaleRows (a : FVec F S64x128 .f32) (c : FVec F S64x1 .f32) : FVec F S64x128 .f32 :=
  mulf a (broadcastTo S64x128 c broadcasts_S64x1_S64x128)

/-- The decay between every two positions of the chunk: the exponential of the difference of the
    accumulated gates, at or below the diagonal. -/
def decayOf (g : FVec F S64x1 .f32) (gr : FVec F S1x64 .f32) : FVec F S64x64 .f32 :=
  masked atOrBelow (exp (masked atOrBelow
    (subf (broadcastTo S64x64 g broadcasts_S64x1_S64x64) (broadcastTo S64x64 gr broadcasts_S1x64_S64x64))))

/-- The strictly lower triangular matrix whose unit triangular system the chunk solves. -/
def systemOf (kb k : FVec F S64x128 .f32) (dec : FVec F S64x64 .f32) : FVec F S64x64 .f32 :=
  masked below (mulf (innerRows kb k) dec)

/-- The inverse on the diagonal blocks of 2. -/
def inverse2 (m : FVec F S64x64 .f32) : FVec F S64x64 .f32 := subf identity (masked (sameBlock 2#32) m)

/-- One doubling of the blocks on which the inverse is known. -/
def doubled (p : IVec S64x64 1) (m t : FVec F S64x64 .f32) : FVec F S64x64 .f32 :=
  subf t (mul64 (mul64 t (masked p m)) t)

/-- The inverse of the unit triangular matrix, by doubling the blocks five times. -/
def inverseOf (m : FVec F S64x64 .f32) : FVec F S64x64 .f32 :=
  doubled (lowerHalf 64#32 32#32) m (doubled (lowerHalf 32#32 16#32) m (doubled (lowerHalf 16#32 8#32) m
    (doubled (lowerHalf 8#32 4#32) m (doubled (lowerHalf 4#32 2#32) m (inverse2 m)))))

/-- The products with the old state: of the solved keys (rows 0 to 63) and of the decayed queries
    (rows 64 to 127). -/
def throughState (t : FVec F S64x64 .f32) (kb q : FVec F S64x128 .f32) (g : FVec F S64x1 .f32)
    (s : FVec F S128x128 .f32) : FVec F S128x128 .f32 :=
  matmul dot_S128x128_S128x128_S128x128_1_0_0_1_n_n none
    (truncf .bf16 (concatenate S128x128 0 [⟨S64x128, mulRows t (scaleRows kb (exp g))⟩, ⟨S64x128, scaleRows q (exp g)⟩]
      concatenates_S64x128_S64x128_S128x128_d0) bitsLt_bf16_f32)
    (truncf .bf16 s bitsLt_bf16_f32) (constant S128x128 .f32 0x00000000#32)

/-- The values as the delta rule corrects them. -/
def correctedOf (t : FVec F S64x64 .f32) (v : FVec F S64x128 .f32) (b : FVec F S64x1 .f32) (ws : FVec F S128x128 .f32) :
    FVec F S64x128 .f32 :=
  subf (mulRows t (scaleRows v b)) (extractStridedSlice S64x128 ![0, 0] ws slices_S128x128_o0_0_S64x128)

/-- The head's attention output before its norm. -/
def rawOut (q k : FVec F S64x128 .f32) (dec : FVec F S64x64 .f32) (ws : FVec F S128x128 .f32) (vn : FVec F S64x128 .f32) :
    FVec F S64x128 .f32 :=
  addf (extractStridedSlice S64x128 ![64, 0] ws slices_S128x128_o64_0_S64x128)
    (mulRows (masked atOrBelow (mulf (innerRows q k) dec)) vn)

/-- The output normalised over the head's channels, scaled, and gated. -/
def gatedNorm (o : FVec F S64x128 .f32) (ng : FVec F S1x128 .f32) (z : FVec F S64x128 .f32) : FVec F S64x128 .f32 :=
  mulf (mulf (mulf o (broadcastTo S64x128
      (rsqrt (addf (divf (shapeCast S64x1 (multiReduction .add [1] S64 (mulf o o) 0x00000000#32 reduces_S64x128_S64 (.inl rfl) rfl)
          shapeCasts_S64_S64x1) (broadcast S64x1 (Scalar.ofBits .f32 0x43000000#32)))
        (broadcast S64x1 (Scalar.ofBits .f32 0x358637BD#32)))) broadcasts_S64x1_S64x128))
      (broadcastTo S64x128 ng broadcasts_S1x128_S64x128)) (mulf z (logistic z))

/-- The last position's accumulated gate. -/
def lastGate (g : FVec F S64x1 .f32) : FVec F S1x1 .f32 := extractStridedSlice S1x1 ![63, 0] g slices_S64x1_o63_0_S1x1

/-- The head's state after the chunk. -/
def newState (s : FVec F S128x128 .f32) (g : FVec F S64x1 .f32) (k vn : FVec F S64x128 .f32) : FVec F S128x128 .f32 :=
  addf (mulf s (broadcastTo S128x128 (exp (lastGate g)) broadcasts_S1x1_S128x128))
    (matmul dot_S64x128_S64x128_S128x128_0_0_1_1_n_n none
      (truncf .bf16 (scaleRows k (exp (subf (broadcastTo S64x1 (lastGate g) broadcasts_S1x1_S64x1) g))) bitsLt_bf16_f32)
      (truncf .bf16 vn bitsLt_bf16_f32) (constant S128x128 .f32 0x00000000#32))

/-! ## One head's results from its operands -/

/-- The head's inverse, from its keys, gates (as a column and as a row) and write strengths. -/
def headInverse (k : FVec F S64x128 .f32) (g b : FVec F S64x1 .f32) (gr : FVec F S1x64 .f32) : FVec F S64x64 .f32 :=
  inverseOf (systemOf (scaleRows k b) k (decayOf g gr))

/-- The head's products with its old state. -/
def headThrough (q k : FVec F S64x128 .f32) (g b : FVec F S64x1 .f32) (gr : FVec F S1x64 .f32)
    (s : FVec F S128x128 .f32) : FVec F S128x128 .f32 :=
  throughState (headInverse k g b gr) (scaleRows k b) q g s

/-- The head's corrected values. -/
def headCorrected (q k v : FVec F S64x128 .f32) (g b : FVec F S64x1 .f32) (gr : FVec F S1x64 .f32)
    (s : FVec F S128x128 .f32) : FVec F S64x128 .f32 :=
  correctedOf (headInverse k g b gr) v b (headThrough q k g b gr s)

/-- The head's output. -/
def headOut (q k v z : FVec F S64x128 .f32) (g b : FVec F S64x1 .f32) (gr : FVec F S1x64 .f32)
    (s : FVec F S128x128 .f32) (ng : FVec F S1x128 .f32) : FVec F S64x128 .f32 :=
  gatedNorm (rawOut q k (decayOf g gr) (headThrough q k g b gr s) (headCorrected q k v g b gr s)) ng z

/-- The head's new state. -/
def headState (q k v : FVec F S64x128 .f32) (g b : FVec F S64x1 .f32) (gr : FVec F S1x64 .f32)
    (s : FVec F S128x128 .f32) : FVec F S128x128 .f32 :=
  newState s g k (headCorrected q k v g b gr s)

/-! ## The 16 heads' stores -/

/-- Head `h`'s lanes lie inside the array of values. -/
theorem inb_value (h : Fin 16) : ∀ a, (![0, 128 * h.val] : Fin 2 → Nat) a + S64x128.size a ≤ S64x2048.size a := by
  have := h.isLt; intro a; fin_cases a <;> simp [S64x128, S64x2048] <;> omega

/-- The key head of value head `h` lies inside the array of keys. -/
theorem inb_key (h : Fin 16) : ∀ a, (![0, 128 * (h.val / 2)] : Fin 2 → Nat) a + S64x128.size a ≤ S64x1024.size a := by
  have := h.isLt; intro a; fin_cases a <;> simp [S64x128, S64x1024] <;> omega

/-- Head `h`'s state lies inside the array of states. -/
theorem inb_state (h : Fin 16) : ∀ a, (![h.val, 0, 0] : Fin 3 → Nat) a + S1x128x128.size a ≤ S16x128x128.size a := by
  have := h.isLt; intro a; fin_cases a <;> simp [S1x128x128, S16x128x128] <;> omega

/-- The lanes of value head `h`. -/
abbrev valueRect (h : Fin 16) : Rect S64x2048 := Rect.unit ![0, 128 * h.val] S64x128.size (inb_value h)

/-- The lanes of the key head of value head `h`. -/
abbrev keyRect (h : Fin 16) : Rect S64x1024 := Rect.unit ![0, 128 * (h.val / 2)] S64x128.size (inb_key h)

/-- The state of head `h`. -/
abbrev stateRect (h : Fin 16) : Rect S16x128x128 := Rect.unit ![h.val, 0, 0] S1x128x128.size (inb_state h)

/-- Column `j` lies inside the array of columns. -/
theorem slices_col (j : Fin 32) : S64x32.Slices ![0, j.val] S64x1 :=
  ⟨rfl, by have := j.isLt; intro a; fin_cases a <;> simp [S64x1, S64x32] <;> omega⟩

/-- Row `h` lies inside the array of rows. -/
theorem slices_row (h : Fin 16) : S16x64.Slices ![h.val, 0] S1x64 :=
  ⟨rfl, by have := h.isLt; intro a; fin_cases a <;> simp [S1x64, S16x64] <;> omega⟩

section Stores

variable (q k v z : Fin 16 → FVec F S64x128 .f32) (cols : FVec F S64x32 .f32) (rows : FVec F S16x64 .f32)
  (st : Fin 16 → FVec F S1x128x128 .f32) (ng : FVec F S1x128 .f32)

/-- What head `h` stores as its output, over its loads. -/
def storedOut (h : Fin 16) : FVec F S64x128 .bf16 :=
  truncf .bf16 (headOut (q h) (k h) (v h) (z h)
    (extractStridedSlice S64x1 ![0, h.val] cols (slices_col ⟨h.val, by omega⟩))
    (extractStridedSlice S64x1 ![0, 16 + h.val] cols (slices_col ⟨16 + h.val, by omega⟩))
    (extractStridedSlice S1x64 ![h.val, 0] rows (slices_row h))
    (shapeCast S128x128 (st h) shapeCasts_S1x128x128_S128x128) ng) bitsLt_bf16_f32

/-- What head `h` stores as its new state, over its loads. -/
def storedState (h : Fin 16) : FVec F S1x128x128 .f32 :=
  shapeCast S1x128x128 (headState (q h) (k h) (v h)
    (extractStridedSlice S64x1 ![0, h.val] cols (slices_col ⟨h.val, by omega⟩))
    (extractStridedSlice S64x1 ![0, 16 + h.val] cols (slices_col ⟨16 + h.val, by omega⟩))
    (extractStridedSlice S1x64 ![h.val, 0] rows (slices_row h))
    (shapeCast S128x128 (st h) shapeCasts_S1x128x128_S128x128)) shapeCasts_S128x128_S1x128x128

end Stores

/-- Head `15 - k`: the stores are listed last first. -/
def fromLast (k : Fin 16) : Fin 16 := ⟨15 - k.val, by omega⟩

/-- The blocks of the output, one for each head's values `f`. -/
def outPieces (f : Fin 16 → FVec F S64x128 .bf16) : List (View.Piece (Elt F) S64x2048 .bf16) :=
  List.ofFn fun k : Fin 16 => ⟨valueRect (fromLast k), f (fromLast k)⟩

/-- The blocks of the states, one for each head's values `f`. -/
def statePieces (f : Fin 16 → FVec F S1x128x128 .f32) : List (View.Piece (Elt F) S16x128x128 .f32) :=
  List.ofFn fun k : Fin 16 => ⟨stateRect (fromLast k), f (fromLast k)⟩

section Pieces

variable (c : Dev nD) (i : grid0.Coords) (arg3 : Memref sig .tc .vmem S64x1024 .f32) (harg3 : arg3.IsWhole) (arg4 : Memref sig .tc .vmem S64x1024 .f32) (harg4 : arg4.IsWhole) (arg5 : Memref sig .tc .vmem S64x2048 .f32) (harg5 : arg5.IsWhole) (arg6 : Memref sig .tc .vmem S64x2048 .f32) (harg6 : arg6.IsWhole) (arg7 : Memref sig .tc .vmem S1x1x64x32 .f32) (harg7 : arg7.IsWhole) (arg8 : Memref sig .tc .vmem S1x1x1x16x64 .f32) (harg8 : arg8.IsWhole)
  (arg9 : Memref sig .tc .vmem S1x1x16x128x128 .f32) (harg9 : arg9.IsWhole) (arg10 : Memref sig .tc .vmem S1x128 .f32) (harg10 : arg10.IsWhole) (arg11 : Memref sig .tc .vmem S64x2048 .bf16) (harg11 : arg11.IsWhole) (arg12 : Memref sig .tc .vmem S1x16x128x128 .f32) (harg12 : arg12.IsWhole) (arg13 : Memref sig .tc .vmem S16x128x128 .f32) (harg13 : arg13.IsWhole)
  (x0 x1 : Vec F S64x1024 .f32) (x2 x3 : Vec F S64x2048 .f32) (x4 : Vec F S1x1x64x32 .f32) (x5 : Vec F S1x1x1x16x64 .f32)
  (x6 : Vec F S1x1x16x128x128 .f32) (x7 : Vec F S1x128 .f32) (xs0 : Vec F S16x128x128 .f32)

/-- The outputs the heads store, over the loads of their operands and the states `st` they find. -/
def loadedOut (st : Fin 16 → FVec F S1x128x128 .f32) : Fin 16 → FVec F S64x128 .bf16 :=
  storedOut (fun h => View.readAt (Elt F) arg3.view (keyRect h).toLoadRect (harg3.unread x0))
        (fun h => View.readAt (Elt F) arg4.view (keyRect h).toLoadRect (harg4.unread x1))
        (fun h => View.readAt (Elt F) arg5.view (valueRect h).toLoadRect (harg5.unread x2))
        (fun h => View.readAt (Elt F) arg6.view (valueRect h).toLoadRect (harg6.unread x3))
        (kernelRun0_A.sl.r c arg7 harg7 x4) (kernelRun0_A.sl.r_1 c arg8 harg8 x5)
        st
        (kernelRun0_A.sl.r_2 c arg10 harg10 x7)

/-- The new states the heads store, over the same loads. -/
def loadedState (st : Fin 16 → FVec F S1x128x128 .f32) : Fin 16 → FVec F S1x128x128 .f32 :=
  storedState (fun h => View.readAt (Elt F) arg3.view (keyRect h).toLoadRect (harg3.unread x0))
        (fun h => View.readAt (Elt F) arg4.view (keyRect h).toLoadRect (harg4.unread x1))
        (fun h => View.readAt (Elt F) arg5.view (valueRect h).toLoadRect (harg5.unread x2))
        (kernelRun0_A.sl.r c arg7 harg7 x4) (kernelRun0_A.sl.r_1 c arg8 harg8 x5)
        st

/-- The states the heads find on the first chunk: those the body has just copied from the argument. -/
def firstStates (h : Fin 16) : FVec F S1x128x128 .f32 :=
  arg13.view.readCov (kernelRun0_A.sl.HS0_1 c arg9 harg9 x6) (stateRect h).toLoadRect

/-- The states the heads find on a later chunk: those the chunk before left. -/
def laterStates (h : Fin 16) : FVec F S1x128x128 .f32 :=
  View.readAt (Elt F) arg13.view (stateRect h).toLoadRect (harg13.unread xs0)

set_option maxHeartbeats 4000000 in
/-- On the first chunk: the outputs. -/
theorem out_pieces_A (hc0 : cond0_0 i) (hc1 : ¬ cond0_1 i) :
    (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7).1 =
      outPieces (loadedOut c arg3 harg3 arg4 harg4 arg5 harg5 arg6 harg6 arg7 harg7 arg8 harg8 arg10 harg10 x0 x1 x2 x3 x4 x5 x7
        (firstStates c arg9 harg9 arg13 x6)) := by
  sl_kernel_rfl

set_option maxHeartbeats 4000000 in
/-- On the first chunk: the states. -/
theorem state_pieces_A (hc0 : cond0_0 i) (hc1 : ¬ cond0_1 i) :
    (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1 =
      statePieces (loadedState c arg3 harg3 arg4 harg4 arg5 harg5 arg7 harg7 arg8 harg8 x0 x1 x2 x4 x5
        (firstStates c arg9 harg9 arg13 x6)) ++ kernelRun0_A.sl.HS0_1 c arg9 harg9 x6 := by
  sl_kernel_rfl

set_option maxHeartbeats 4000000 in
/-- Between the first and the last chunk: the outputs. -/
theorem out_pieces_B (hc0 : ¬ cond0_0 i) (hc1 : ¬ cond0_1 i) :
    (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).1 =
      outPieces (loadedOut c arg3 harg3 arg4 harg4 arg5 harg5 arg6 harg6 arg7 harg7 arg8 harg8 arg10 harg10 x0 x1 x2 x3 x4 x5 x7
        (laterStates arg13 harg13 xs0)) := by
  sl_kernel_rfl

set_option maxHeartbeats 4000000 in
/-- Between the first and the last chunk: the states. -/
theorem state_pieces_B (hc0 : ¬ cond0_0 i) (hc1 : ¬ cond0_1 i) :
    (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).2.2.1 =
      statePieces (loadedState c arg3 harg3 arg4 harg4 arg5 harg5 arg7 harg7 arg8 harg8 x0 x1 x2 x4 x5
        (laterStates arg13 harg13 xs0)) := by
  sl_kernel_rfl

set_option maxHeartbeats 4000000 in
/-- On the last chunk: the outputs. -/
theorem out_pieces_C (hc0 : ¬ cond0_0 i) (hc1 : cond0_1 i) :
    (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).1 =
      outPieces (loadedOut c arg3 harg3 arg4 harg4 arg5 harg5 arg6 harg6 arg7 harg7 arg8 harg8 arg10 harg10 x0 x1 x2 x3 x4 x5 x7
        (laterStates arg13 harg13 xs0)) := by
  sl_kernel_rfl

set_option maxHeartbeats 4000000 in
/-- On the last chunk: the states. -/
theorem state_pieces_C (hc0 : ¬ cond0_0 i) (hc1 : cond0_1 i) :
    (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).2.2.1 =
      statePieces (loadedState c arg3 harg3 arg4 harg4 arg5 harg5 arg7 harg7 arg8 harg8 x0 x1 x2 x4 x5
        (laterStates arg13 harg13 xs0)) := by
  sl_kernel_rfl

end Pieces

end Cert.Prompt
-- ==== Proof.Prompt.Blocks.lean ====
module

public import proofs.«01_k».proof.Proof.Prompt.Head
public import Idealize.ShloMosaic.Lib.Pointwise
public import Idealize.ShloMosaic.Lib.Tactic
public import Idealize.ShloMosaic.Lib.Pipeline.ValueKit
public import Idealize.ShloMosaic.Lib.Pipeline.CanonAppend

/-! # What one chunk of the prompt writes, head by head -/

@[expose] public section

set_option maxRecDepth 65536

noncomputable section

namespace Cert.Prompt

open Cert.Kernel5Ideal Cert.Kernel5Ideal.Gen
open Idealize.ShloMosaic Idealize.ShloMosaic.TcCoe Idealize.SL.Sem

variable {F : FTy → Type} [FloatOps F]

/-! ## A head's operands -/

/-- Head `h`'s lanes of a block of queries, or of keys. -/
def keyOf (x : Vec F S64x1024 .f32) (h : Fin 16) : FVec F S64x128 .f32 := View.ld x (keyRect h)

/-- Head `h`'s lanes of a block of values, or of output gates. -/
def valueOf (x : Vec F S64x2048 .f32) (h : Fin 16) : FVec F S64x128 .f32 := View.ld x (valueRect h)

/-- Head `h`'s state among the states of the group. -/
def heldState (x : Vec F S16x128x128 .f32) (h : Fin 16) : FVec F S1x128x128 .f32 := View.ld x (stateRect h)

/-- Head `h`'s output from the blocks a grid point reads and the states it finds. -/
def blockOut (x0 x1 : Vec F S64x1024 .f32) (x2 x3 : Vec F S64x2048 .f32) (x4 : Vec F S1x1x64x32 .f32)
    (x5 : Vec F S1x1x1x16x64 .f32) (x7 : Vec F S1x128 .f32) (xs : Vec F S16x128x128 .f32) : Fin 16 → FVec F S64x128 .bf16 :=
  storedOut (keyOf x0) (keyOf x1) (valueOf x2) (valueOf x3) (k0_pay7 x4) (k0_pay8 x5) (heldState xs) (k0_pay9 x7)

/-- Head `h`'s new state from the blocks a grid point reads and the states it finds. -/
def blockState (x0 x1 : Vec F S64x1024 .f32) (x2 : Vec F S64x2048 .f32) (x4 : Vec F S1x1x64x32 .f32)
    (x5 : Vec F S1x1x1x16x64 .f32) (xs : Vec F S16x128x128 .f32) : Fin 16 → FVec F S1x128x128 .f32 :=
  storedState (keyOf x0) (keyOf x1) (valueOf x2) (k0_pay7 x4) (k0_pay8 x5) (heldState xs)

/-! ## The pieces at an index -/

/-- The output block at row `r` and lane `d` of head `h`. -/
theorem canon_out (f : Fin 16 → FVec F S64x128 .bf16) (h : Fin 16) (r : Fin 64) (d : Fin 128) :
    View.canon (outPieces f) (ix2 r ⟨128 * h.val + d.val, by omega⟩) = f h (ix2 r d) := by
  refine View.canon_ofFn_unit_eq_of_forall (Val := Elt F) (e := .bf16) (S := S64x2048) (fun k => ![0, 128 * (fromLast k).val]) S64x128.size
    (fun k => inb_value (fromLast k)) (fun k => f (fromLast k)) _ _ ?_ ?_
  · refine ⟨fromLast h, fun a => ?_⟩
    have := r.isLt; have := d.isLt; have := h.isLt
    fin_cases a <;> simp [fromLast, S64x128] <;> omega
  · intro k x hx
    have h0 := hx 0
    have h1 := hx 1
    have hxl : (x 1 : Nat) < 128 := (x 1).isLt
    simp at h0 h1
    have hk : fromLast k = h := by apply Fin.ext; have := d.isLt; omega
    subst hk
    show f (fromLast k) x = f (fromLast k) _
    congr 1
    funext a
    fin_cases a
    · exact Fin.ext h0.symm
    · apply Fin.ext; simp; omega

/-- Where head `h`'s state lies in the array of states. -/
theorem stateRect_emb (h : Fin 16) (x : (stateRect h).shape.Idx) :
    (stateRect h).emb x = (ix3 h (x 1) (x 2) : S16x128x128.Idx) := by
  have h0 : (x 0 : Nat) = 0 := by have h := (x 0).isLt; change (x 0 : Nat) < 1 at h; omega
  funext a
  apply Fin.ext
  rw [Rect.emb_apply]
  fin_cases a <;> simp [h0]

/-- The states at an index: the heads' states cover whatever was stored before. -/
theorem canon_states (f : Fin 16 → FVec F S1x128x128 .f32) (rest : List (View.Piece (Elt F) S16x128x128 .f32))
    (y : S16x128x128.Idx) : View.canon (statePieces f ++ rest) y = f (y 0) (ix3 0 (y 1) (y 2)) := by
  refine View.canon_append_of_pieces (Val := Elt F) (e := .f32) (fun y : S16x128x128.Idx => f (y 0) (ix3 0 (y 1) (y 2)))
    _ _ ?_ y ?_
  · intro pc hpc x
    obtain ⟨k, rfl⟩ := List.mem_ofFn.mp hpc
    have h0 : x 0 = (0 : Fin 1) := Subsingleton.elim (α := Fin 1) _ _
    have hx : x = ix3 (n0 := 1) (n1 := 128) (n2 := 128) 0 (x 1) (x 2) := by
      funext a
      match a with
      | ⟨0, _⟩ => exact h0
      | ⟨1, _⟩ => rfl
      | ⟨2, _⟩ => rfl
    refine (congrArg (f (fromLast k)) hx).trans ?_
    exact (congrArg (fun y : S16x128x128.Idx => f (y 0) (ix3 0 (y 1) (y 2))) (stateRect_emb (fromLast k) x)).symm
  · refine ⟨⟨stateRect (y 0), f (y 0)⟩, List.mem_ofFn.mpr ⟨fromLast (y 0), ?_⟩, ?_⟩
    · have e : fromLast (fromLast (y 0)) = y 0 := by
        have := (y 0).isLt
        apply Fin.ext
        simp only [fromLast]
        change 15 - (15 - (y 0).val) = (y 0).val
        change (y 0).val < 16 at this
        omega
      rw [e]
    · show y ∈ (stateRect (y 0)).set
      refine (Rect.mem_set_unit (inb := inb_state (y 0))).mpr fun a => ?_
      have := (y a).isLt
      fin_cases a <;> simp [S1x128x128] <;> exact this

/-! ## The loads are the operands -/

section Loads

variable (c : Dev nD) (i : grid0.Coords) (arg3 : Memref sig .tc .vmem S64x1024 .f32) (harg3 : arg3.IsWhole) (arg4 : Memref sig .tc .vmem S64x1024 .f32) (harg4 : arg4.IsWhole) (arg5 : Memref sig .tc .vmem S64x2048 .f32) (harg5 : arg5.IsWhole) (arg6 : Memref sig .tc .vmem S64x2048 .f32) (harg6 : arg6.IsWhole) (arg7 : Memref sig .tc .vmem S1x1x64x32 .f32) (harg7 : arg7.IsWhole) (arg8 : Memref sig .tc .vmem S1x1x1x16x64 .f32) (harg8 : arg8.IsWhole)
  (arg9 : Memref sig .tc .vmem S1x1x16x128x128 .f32) (harg9 : arg9.IsWhole) (arg10 : Memref sig .tc .vmem S1x128 .f32) (harg10 : arg10.IsWhole) (arg11 : Memref sig .tc .vmem S64x2048 .bf16) (harg11 : arg11.IsWhole) (arg12 : Memref sig .tc .vmem S1x16x128x128 .f32) (harg12 : arg12.IsWhole) (arg13 : Memref sig .tc .vmem S16x128x128 .f32) (harg13 : arg13.IsWhole)
  (x0 x1 : Vec F S64x1024 .f32) (x2 x3 : Vec F S64x2048 .f32) (x4 : Vec F S1x1x64x32 .f32) (x5 : Vec F S1x1x1x16x64 .f32)
  (x6 : Vec F S1x1x16x128x128 .f32) (x7 : Vec F S1x128 .f32) (xs0 : Vec F S16x128x128 .f32)

/-- The columns as loaded. -/
theorem loaded_cols : kernelRun0_A.sl.r c arg7 harg7 x4 = k0_pay7 x4 := by
  have e : kernelRun0_A.sl.r c arg7 harg7 x4 = k0_pay7 (View.ld (arg7.view.read (Elt F) (harg7.unread x4))
      (Rect.unit ![0, 0, 0, 0] S1x1x64x32.size inb_S1x1x64x32_S1x1x64x32_0_0_0_0)) := by sl_kernel_rfl
  rw [e, Memref.IsWhole.read_unread, View.ld_unit_lit _ _ (by decide)]

/-- The rows as loaded. -/
theorem loaded_rows : kernelRun0_A.sl.r_1 c arg8 harg8 x5 = k0_pay8 x5 := by
  have e : kernelRun0_A.sl.r_1 c arg8 harg8 x5 = k0_pay8 (View.ld (arg8.view.read (Elt F) (harg8.unread x5))
      (Rect.unit ![0, 0, 0, 0, 0] S1x1x1x16x64.size inb_S1x1x1x16x64_S1x1x1x16x64_0_0_0_0_0)) := by sl_kernel_rfl
  rw [e, Memref.IsWhole.read_unread, View.ld_unit_lit _ _ (by decide)]

/-- The norm's scales as loaded. -/
theorem loaded_norm : kernelRun0_A.sl.r_2 c arg10 harg10 x7 = k0_pay9 x7 := by
  have e : kernelRun0_A.sl.r_2 c arg10 harg10 x7 = k0_pay9 (View.ld (arg10.view.read (Elt F) (harg10.unread x7))
      (Rect.unit ![0, 0] S1x128.size inb_S1x128_S1x128_0_0)) := by sl_kernel_rfl
  rw [e, Memref.IsWhole.read_unread, View.ld_unit_lit _ _ (by decide)]

/-- On the first chunk the heads find the states of the argument. -/
theorem firstStates_eq : firstStates c arg9 harg9 arg13 x6 = heldState (k0_pay3 x6) := by
  have h : View.canon (kernelRun0_A.sl.HS0_1 c arg9 harg9 x6) = k0_pay3 x6 := by
    have e : kernelRun0_A.sl.HS0_1 c arg9 harg9 x6 = [(⟨Rect.unit ![0, 0, 0] S16x128x128.size
        inb_S16x128x128_S16x128x128_0_0_0, k0_pay3 (View.ld (arg9.view.read (Elt F) (harg9.unread x6))
          (Rect.unit ![0, 0, 0, 0, 0] S1x1x16x128x128.size inb_S1x1x16x128x128_S1x1x16x128x128_0_0_0_0_0))⟩ :
        View.Piece (Elt F) S16x128x128 .f32)] := by sl_kernel_rfl
    rw [e, View.canon_cons_unit_lit _ _ _ (by decide), Memref.IsWhole.read_unread,
      View.ld_unit_lit _ _ (by decide)]
  funext h'
  unfold firstStates heldState
  rw [View.readCov_eq_canon', h]

/-- On a later chunk they find what the chunk before left. -/
theorem laterStates_eq : laterStates arg13 harg13 xs0 = heldState xs0 := by
  funext h
  unfold laterStates heldState
  rw [View.readAt_eq_ld, Memref.IsWhole.read_unread]

/-- The outputs over the loads are those over the blocks. -/
theorem loadedOut_eq (xs : Vec F S16x128x128 .f32) :
    loadedOut c arg3 harg3 arg4 harg4 arg5 harg5 arg6 harg6 arg7 harg7 arg8 harg8 arg10 harg10 x0 x1 x2 x3 x4 x5 x7 (heldState xs)
      = blockOut x0 x1 x2 x3 x4 x5 x7 xs := by
  unfold loadedOut blockOut keyOf valueOf
  rw [loaded_cols, loaded_rows, loaded_norm]
  simp only [View.readAt_eq_ld, Memref.IsWhole.read_unread]

/-- The new states too. -/
theorem loadedState_eq (xs : Vec F S16x128x128 .f32) :
    loadedState c arg3 harg3 arg4 harg4 arg5 harg5 arg7 harg7 arg8 harg8 x0 x1 x2 x4 x5 (heldState xs)
      = blockState x0 x1 x2 x4 x5 xs := by
  unfold loadedState blockState keyOf valueOf
  rw [loaded_cols, loaded_rows]
  simp only [View.readAt_eq_ld, Memref.IsWhole.read_unread]

/-! ## What a chunk leaves -/

/-- The first chunk: its outputs. -/
theorem out_at_A (hc0 : cond0_0 i) (hc1 : ¬ cond0_1 i) (h : Fin 16) (r : Fin 64) (d : Fin 128) :
    out0_A_8 c i arg3 harg3 arg4 harg4 arg5 harg5 arg6 harg6 arg7 harg7 arg8 harg8 arg9 harg9 arg10 harg10 arg11 harg11 arg12 harg12 arg13 harg13 hc0 hc1 x0 x1 x2 x3 x4 x5 x6 x7
        (ix2 r ⟨128 * h.val + d.val, by omega⟩) = blockOut x0 x1 x2 x3 x4 x5 x7 (k0_pay3 x6) h (ix2 r d) := by
  unfold out0_A_8
  rw [View.read_writes_junk_eq_canon, out_pieces_A, canon_out, firstStates_eq, loadedOut_eq]

/-- The first chunk: the states it leaves. -/
theorem state_at_A (hc0 : cond0_0 i) (hc1 : ¬ cond0_1 i) (y : S16x128x128.Idx) :
    sout0_A_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 y
      = blockState x0 x1 x2 x4 x5 (k0_pay3 x6) (y 0) (ix3 0 (y 1) (y 2)) := by
  unfold sout0_A_0
  rw [View.read_writes_junk_eq_canon, state_pieces_A]

  rw [canon_states, firstStates_eq, loadedState_eq]

/-- A chunk between the first and the last: its outputs. -/
theorem out_at_B (hc0 : ¬ cond0_0 i) (hc1 : ¬ cond0_1 i) (h : Fin 16) (r : Fin 64) (d : Fin 128) :
    out0_B_8 c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0
        (ix2 r ⟨128 * h.val + d.val, by omega⟩) = blockOut x0 x1 x2 x3 x4 x5 x7 xs0 h (ix2 r d) := by
  unfold out0_B_8
  rw [View.read_writes_junk_eq_canon, out_pieces_B, canon_out, laterStates_eq, loadedOut_eq]

/-- A chunk between the first and the last: the states it leaves. -/
theorem state_at_B (hc0 : ¬ cond0_0 i) (hc1 : ¬ cond0_1 i) (y : S16x128x128.Idx) :
    sout0_B_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 y
      = blockState x0 x1 x2 x4 x5 xs0 (y 0) (ix3 0 (y 1) (y 2)) := by
  unfold sout0_B_0
  rw [View.read_writes_junk_eq_canon, state_pieces_B]
  rw [← List.append_nil (statePieces _)]
  rw [canon_states, laterStates_eq, loadedState_eq]

/-- The last chunk: its outputs. -/
theorem out_at_C (hc0 : ¬ cond0_0 i) (hc1 : cond0_1 i) (h : Fin 16) (r : Fin 64) (d : Fin 128) :
    out0_C_8 c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0
        (ix2 r ⟨128 * h.val + d.val, by omega⟩) = blockOut x0 x1 x2 x3 x4 x5 x7 xs0 h (ix2 r d) := by
  unfold out0_C_8
  rw [View.read_writes_junk_eq_canon, out_pieces_C, canon_out, laterStates_eq, loadedOut_eq]

/-- The last chunk: the states it leaves. -/
theorem state_at_C (hc0 : ¬ cond0_0 i) (hc1 : cond0_1 i) (y : S16x128x128.Idx) :
    sout0_C_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 y
      = blockState x0 x1 x2 x4 x5 xs0 (y 0) (ix3 0 (y 1) (y 2)) := by
  unfold sout0_C_0
  rw [View.read_writes_junk_eq_canon, state_pieces_C]
  rw [← List.append_nil (statePieces _)]
  rw [canon_states, laterStates_eq, loadedState_eq]

/-- The last chunk: the states it writes to the result. -/
theorem result_at (hc0 : ¬ cond0_0 i) (hc1 : cond0_1 i) (h : Fin 16) (p q : Fin 128) :
    out0_C_9 c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 (ix4 (0 : Fin 1) h p q)
      = blockState x0 x1 x2 x4 x5 xs0 h (ix3 0 p q) := by
  unfold out0_C_9
  rw [View.read_writes_junk_eq_canon]
  have e : (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0).2.1 =
      [(⟨Rect.unit ![0, 0, 0, 0] S1x16x128x128.size inb_S1x16x128x128_S1x16x128x128_0_0_0_0,
        k0_pay2 (arg13.view.readCov (statePieces (loadedState c arg3 harg3 arg4 harg4 arg5 harg5 arg7 harg7 arg8 harg8 x0 x1 x2 x4 x5
          (laterStates arg13 harg13 xs0))) (Rect.unit ![0, 0, 0] S16x128x128.size
            inb_S16x128x128_S16x128x128_0_0_0).toLoadRect)⟩ : View.Piece (Elt F) S1x16x128x128 .f32)] := by
    sl_kernel_rfl
  have hG (f : Fin 16 → FVec F S1x128x128 .f32) : View.canon (statePieces f) = fun y : S16x128x128.Idx => f (y 0) (ix3 0 (y 1) (y 2)) := by
    funext y
    rw [← List.append_nil (statePieces f)]
    exact canon_states f [] y
  rw [e, View.canon_cons_unit_lit _ _ _ (by decide), View.readCov_eq_canon', hG, laterStates_eq, loadedState_eq]
  unfold k0_pay2
  pointwise []

end Loads

end Cert.Prompt
-- ==== Proof.Prompt.Scalar.lean ====
module

public import proofs.«01_k».proof.Proof.Prompt.Blocks

/-! # One head of a chunk, number by number

The kernel's operations for one head read at an index: they are the rule, on 64 positions, with the
kernel's own inverse in it. -/

@[expose] public section

set_option maxRecDepth 65536

noncomputable section

namespace Cert.Prompt

open Cert.Kernel5Ideal Cert.Kernel5Ideal.Gen Cert.Delta
open Idealize.ShloMosaic Idealize.ShloMosaic.TcCoe Idealize.SL.Sem

/-! ## The masks at an index -/

/-- The mask of the diagonal and below. -/
theorem atOrBelow_at (i j : Fin 64) : atOrBelow (ix2 i j) = if j ≤ i then 1#1 else 0#1 := by
  revert i j; decide +kernel

/-- The mask strictly below the diagonal. -/
theorem below_at (i j : Fin 64) : below (ix2 i j) = if j < i then 1#1 else 0#1 := by
  revert i j; decide +kernel

/-- The mask of the diagonal blocks of size two. -/
theorem sameBlock2_at (i j : Fin 64) : sameBlock 2#32 (ix2 i j) = if i.val / 2 = j.val / 2 then 1#1 else 0#1 := by
  revert i j; decide +kernel

/-- The masks of the lower left quarters of the diagonal blocks, for every size the kernel doubles. -/
theorem lowerHalf_at (i j : Fin 64) (s : ℕ) (hs : s ∈ [2, 4, 8, 16, 32]) : lowerHalf (BitVec.ofNat 32 (2 * s)) (BitVec.ofNat 32 s) (ix2 i j)
    = if i.val / (2 * s) = j.val / (2 * s) ∧ i.val / s % 2 = 1 ∧ j.val / s % 2 = 0 then 1#1 else 0#1 := by
  revert i j s; decide +kernel

/-- The kernel's identity matrix. -/
theorem identity_at (i j : Fin 64) : identity (F := Ideal) (ix2 i j) = if i = j then 1 else 0 := by
  unfold identity
  pointwise []
  have e : IntOp.cmpi .eq (BitVec.ofNat 32 i.val) (BitVec.ofNat 32 j.val) = if i = j then 1#1 else 0#1 := by
    revert i j; decide +kernel
  rw [e]
  by_cases h : i = j
  · rw [if_pos h, if_pos h]
    show (((BitVec.setWidth 32 1#1).toInt : ℝ) : EReal) = 1
    norm_num
  · rw [if_neg h, if_neg h]
    show (((BitVec.setWidth 32 0#1).toInt : ℝ) : EReal) = 0
    norm_num

/-- A masked matrix at an index. -/
theorem masked_at (p : IVec S64x64 1) (x : FVec Ideal S64x64 .f32) (i j : Fin 64) :
    masked p x (ix2 i j) = if p (ix2 i j) = 1#1 then x (ix2 i j) else 0 := by
  unfold masked
  pointwise []
  rfl

/-- A product of two small square matrices. -/
theorem mul64_at (a b : FVec Ideal S64x64 .f32) (i j : Fin 64) :
    mul64 a b (ix2 i j) = ∑ k, a (ix2 i k) * b (ix2 k j) := by
  unfold mul64
  pointwise []

/-- A small square matrix times rows. -/
theorem mulRows_at (a : FVec Ideal S64x64 .f32) (b : FVec Ideal S64x128 .f32) (i : Fin 64) (d : Fin 128) :
    mulRows a b (ix2 i d) = ∑ k, a (ix2 i k) * b (ix2 k d) := by
  unfold mulRows
  pointwise []

/-- Inner products of rows. -/
theorem innerRows_at (a b : FVec Ideal S64x128 .f32) (i j : Fin 64) :
    innerRows a b (ix2 i j) = ∑ d, a (ix2 i d) * b (ix2 j d) := by
  unfold innerRows
  pointwise []

/-- Rows scaled by a column. -/
theorem scaleRows_at (a : FVec Ideal S64x128 .f32) (c : FVec Ideal S64x1 .f32) (i : Fin 64) (d : Fin 128) :
    scaleRows a c (ix2 i d) = a (ix2 i d) * c (ix2 i 0) := by
  unfold scaleRows
  pointwise []

/-- A masked matrix at an index, where the mask decides a proposition. -/
theorem masked_if {p : IVec S64x64 1} (x : FVec Ideal S64x64 .f32) {i j : Fin 64} {P : Prop} [Decidable P]
    (h : p (ix2 i j) = if P then 1#1 else 0#1) : masked p x (ix2 i j) = if P then x (ix2 i j) else 0 := by
  rw [masked_at, h]
  by_cases hP : P
  · rw [if_pos hP, if_pos hP, if_pos rfl]
  · rw [if_neg hP, if_neg hP, if_neg (by decide)]

/-- The kernel's decay between two rows. -/
theorem decayOf_at (g : FVec Ideal S64x1 .f32) (gr : FVec Ideal S1x64 .f32) (hg : ∀ j, gr (ix2 0 j) = g (ix2 j 0))
    (i j : Fin 64) : decayOf g gr (ix2 i j) = Rule.decay (fun i => g (ix2 i 0)) i j := by
  unfold decayOf Rule.decay
  rw [masked_if _ (atOrBelow_at i j)]
  by_cases h : j ≤ i
  · rw [if_pos h, if_pos h]
    rw [show ∀ x : FVec Ideal S64x64 .f32, exp x (ix2 i j) = Ideal.exp (x (ix2 i j)) from fun _ => rfl, masked_if _ (atOrBelow_at i j), if_pos h]
    pointwise []
    rw [hg j]
  · rw [if_neg h, if_neg h]

/-- The kernel's strictly lower triangular matrix. -/
theorem systemOf_at (k : FVec Ideal S64x128 .f32) (g b : FVec Ideal S64x1 .f32) (gr : FVec Ideal S1x64 .f32)
    (hg : ∀ j, gr (ix2 0 j) = g (ix2 j 0)) (i j : Fin 64) :
    systemOf (scaleRows k b) k (decayOf g gr) (ix2 i j)
      = Rule.system (fun i d => k (ix2 i d)) (fun i => b (ix2 i 0)) (fun i => g (ix2 i 0)) i j := by
  unfold systemOf Rule.system
  rw [masked_if _ (below_at i j)]
  congr 1
  show innerRows _ _ (ix2 i j) * decayOf g gr (ix2 i j) = _
  rw [innerRows_at, decayOf_at g gr hg]
  simp only [scaleRows_at]

/-- The first rows of the products with the old state. -/
theorem throughState_keys (t : FVec Ideal S64x64 .f32) (kb q : FVec Ideal S64x128 .f32) (g : FVec Ideal S64x1 .f32)
    (s : FVec Ideal S128x128 .f32) (i : Fin 64) (d : Fin 128) :
    extractStridedSlice S64x128 ![0, 0] (throughState t kb q g s) slices_S128x128_o0_0_S64x128 (ix2 i d)
      = ∑ e, (∑ j, t (ix2 i j) * (kb (ix2 j e) * Ideal.exp (g (ix2 j 0)))) * s (ix2 e d) := by
  unfold throughState
  pointwise []
  simp only [mulRows_at, scaleRows_at]
  rfl

/-- What the old state answers to the decayed queries. -/
theorem throughState_queries (t : FVec Ideal S64x64 .f32) (kb q : FVec Ideal S64x128 .f32) (g : FVec Ideal S64x1 .f32)
    (s : FVec Ideal S128x128 .f32) (i : Fin 64) (d : Fin 128) :
    extractStridedSlice S64x128 ![64, 0] (throughState t kb q g s) slices_S128x128_o64_0_S64x128 (ix2 i d)
      = ∑ e, (q (ix2 i e) * Ideal.exp (g (ix2 i 0))) * s (ix2 e d) := by
  unfold throughState
  pointwise []
  simp only [scaleRows_at]
  rfl

/-- The gated norm of a row. -/
theorem gatedNorm_at (o : FVec Ideal S64x128 .f32) (ng : FVec Ideal S1x128 .f32) (z : FVec Ideal S64x128 .f32)
    (i : Fin 64) (d : Fin 128) : gatedNorm o ng z (ix2 i d)
      = Rule.normed (fun e => o (ix2 i e)) (fun e => ng (ix2 0 e)) (fun e => z (ix2 i e)) d := by
  unfold gatedNorm Rule.normed
  pointwise []

/-- The new state from the corrected values. -/
theorem newState_at (s : FVec Ideal S128x128 .f32) (g : FVec Ideal S64x1 .f32) (k vn : FVec Ideal S64x128 .f32)
    (e d : Fin 128) : newState s g k vn (ix2 e d)
      = s (ix2 e d) * Ideal.exp (g (ix2 63 0))
        + ∑ i : Fin 64, (k (ix2 i e) * Ideal.exp (g (ix2 63 0) - g (ix2 i 0))) * vn (ix2 i d) := by
  unfold newState scaleRows lastGate
  pointwise []

/-! ## One head at an index -/

section Head

variable (q k v z : FVec Ideal S64x128 .f32) (g b : FVec Ideal S64x1 .f32) (gr : FVec Ideal S1x64 .f32)
  (s : FVec Ideal S128x128 .f32) (ng : FVec Ideal S1x128 .f32)

/-- The inverse the kernel computes, over plain positions. -/
def kernelInverse (i j : Fin 64) : EReal := headInverse k g b gr (ix2 i j)

/-- A head's corrected values. -/
theorem headCorrected_at (i : Fin 64) (d : Fin 128) : headCorrected q k v g b gr s (ix2 i d)
    = Rule.corrected (kernelInverse k g b gr) (fun i d => k (ix2 i d)) (fun i d => v (ix2 i d))
        (fun i => b (ix2 i 0)) (fun i => g (ix2 i 0)) (fun e d => s (ix2 e d)) i d := by
  have e : headCorrected q k v g b gr s (ix2 i d)
      = mulRows (headInverse k g b gr) (scaleRows v b) (ix2 i d)
        - extractStridedSlice S64x128 ![0, 0] (throughState (headInverse k g b gr) (scaleRows k b) q g s)
            slices_S128x128_o0_0_S64x128 (ix2 i d) := rfl
  rw [e, throughState_keys, mulRows_at]
  simp only [scaleRows_at]
  rfl

/-- A head's outputs are the rule's, for the inverse the kernel computes. -/
theorem headOut_at (hg : ∀ j, gr (ix2 0 j) = g (ix2 j 0)) (i : Fin 64) (d : Fin 128) :
    headOut q k v z g b gr s ng (ix2 i d)
      = Rule.normed (Rule.raw (kernelInverse k g b gr) (fun i d => q (ix2 i d)) (fun i d => k (ix2 i d))
          (fun i d => v (ix2 i d)) (fun i => b (ix2 i 0)) (fun i => g (ix2 i 0)) (fun e d => s (ix2 e d)) i)
          (fun e => ng (ix2 0 e)) (fun e => z (ix2 i e)) d := by
  unfold headOut
  rw [gatedNorm_at]
  congr 1
  funext d
  have e : rawOut q k (decayOf g gr) (headThrough q k g b gr s) (headCorrected q k v g b gr s) (ix2 i d)
      = extractStridedSlice S64x128 ![64, 0] (throughState (headInverse k g b gr) (scaleRows k b) q g s)
            slices_S128x128_o64_0_S64x128 (ix2 i d)
        + mulRows (masked atOrBelow (mulf (innerRows q k) (decayOf g gr))) (headCorrected q k v g b gr s) (ix2 i d) := rfl
  rw [e, throughState_queries, mulRows_at]
  unfold Rule.raw
  congr 1
  refine Finset.sum_congr rfl fun j _ => ?_
  rw [headCorrected_at, masked_if _ (atOrBelow_at i j),
    show ∀ x y : FVec Ideal S64x64 .f32, mulf x y (ix2 i j) = x (ix2 i j) * y (ix2 i j) from fun _ _ => rfl,
    innerRows_at, decayOf_at g gr hg]

/-- A head's new state is the rule's, for the inverse the kernel computes. -/
theorem headState_at (e d : Fin 128) : headState q k v g b gr s (ix2 e d)
    = Rule.state 63 (kernelInverse k g b gr) (fun i d => k (ix2 i d)) (fun i d => v (ix2 i d))
        (fun i => b (ix2 i 0)) (fun i => g (ix2 i 0)) (fun e d => s (ix2 e d)) e d := by
  unfold headState Rule.state
  rw [newState_at]
  simp only [headCorrected_at]

end Head

end Cert.Prompt

end
-- ==== Proof.Prompt.Solve.lean ====
module

public import proofs.«01_k».proof.Proof.Prompt.Scalar

/-! # The kernel's inverse is forward substitution

On real keys and write strengths and falling gates the chunk's system is a real strictly lower triangular matrix, so the
kernel's five doublings leave what forward substitution leaves. -/

@[expose] public section

set_option maxRecDepth 65536

noncomputable section

namespace Cert.Prompt

open Cert.Kernel5Ideal Cert.Kernel5Ideal.Gen Cert.Delta
open Idealize.ShloMosaic Idealize.ShloMosaic.TcCoe Idealize.SL.Sem

/-- A 64 by 64 array holds the real matrix `A`. -/
def Holds (a : FVec Ideal S64x64 .f32) (A : Matrix (Fin 64) (Fin 64) ℝ) : Prop := ∀ i j, a (ix2 i j) = ((A i j : ℝ) : EReal)

/-- Products of real matrices are taken entry by entry. -/
theorem Holds.mul {a b : FVec Ideal S64x64 .f32} {A B : Matrix (Fin 64) (Fin 64) ℝ} (ha : Holds a A) (hb : Holds b B) :
    Holds (mul64 a b) (A * B) := fun i j => by
  rw [mul64_at, Rule.coe_mul_apply]
  exact Finset.sum_congr rfl fun k _ => by rw [ha, hb]

/-- Differences too. -/
theorem Holds.sub {a b : FVec Ideal S64x64 .f32} {A B : Matrix (Fin 64) (Fin 64) ℝ} (ha : Holds a A) (hb : Holds b B) :
    Holds (subf a b) (A - B) := fun i j => by
  have e : subf a b (ix2 i j) = a (ix2 i j) - b (ix2 i j) := rfl
  rw [e, ha, hb, ← EReal.coe_sub]; rfl

/-- The kernel's identity is the real one. -/
theorem holds_identity : Holds identity 1 := fun i j => by rw [identity_at, Rule.coe_one_apply]

/-- The inverse of the diagonal blocks of size two. -/
theorem Holds.start {m : FVec Ideal S64x64 .f32} {M : Matrix (Fin 64) (Fin 64) ℝ} (h : Holds m M) :
    Holds (inverse2 m) (1 - Cert.Inverse.blockPart 2 M) := by
  refine holds_identity.sub fun i j => ?_
  rw [masked_if _ (sameBlock2_at i j), h]
  unfold Cert.Inverse.blockPart
  split <;> rfl

/-- One doubling of the block size. -/
theorem Holds.doubled {m t : FVec Ideal S64x64 .f32} {M T : Matrix (Fin 64) (Fin 64) ℝ} {p : IVec S64x64 1} {s : ℕ}
    (hp : ∀ i j : Fin 64, p (ix2 i j)
      = if i.val / (2 * s) = j.val / (2 * s) ∧ i.val / s % 2 = 1 ∧ j.val / s % 2 = 0 then 1#1 else 0#1)
    (hm : Holds m M) (ht : Holds t T) : Holds (doubled p m t) (T - T * Cert.Inverse.offPart s M * T) := by
  refine ht.sub ((ht.mul fun i j => ?_).mul ht)
  rw [masked_if _ (hp i j), hm]
  unfold Cert.Inverse.offPart
  split <;> rfl

/-- The kernel's inverse of a real strictly lower triangular system is forward substitution. -/
theorem inverseOf_at {m : FVec Ideal S64x64 .f32} {M : Matrix (Fin 64) (Fin 64) ℝ} (hM : Cert.Inverse.StrictLower M)
    (h : Holds m M) (i j : Fin 64) : inverseOf m (ix2 i j) = Rule.forward (fun i j => (M i j : EReal)) 63 i j := by
  have d (s : ℕ) (hs : s ∈ [2, 4, 8, 16, 32]) {t : FVec Ideal S64x64 .f32} {T : Matrix (Fin 64) (Fin 64) ℝ} (ht : Holds t T) :=
    Holds.doubled (fun i j => lowerHalf_at i j s hs) h ht
  have h6 := d 32 (by decide) (d 16 (by decide) (d 8 (by decide) (d 4 (by decide) (d 2 (by decide) h.start))))
  have hT := ((((((Cert.Inverse.Inverts.start hM).step hM).step hM).step hM).step hM).step hM).2
  have hfull : Cert.Inverse.blockPart (2 * (2 * (2 * (2 * (2 * 2))))) M = M := by
    funext i j
    exact if_pos (by omega)
  rw [hfull] at hT
  rw [Rule.forward_coe, ← Cert.Inverse.eq_forward hM 63 (by norm_num) hT]
  exact h6 i j

/-- The kernel's inverse for one head with real keys and write strengths. -/
theorem kernelInverse_eq (k : FVec Ideal S64x128 .f32) (g b : FVec Ideal S64x1 .f32) (gr : FVec Ideal S1x64 .f32)
    (hg : ∀ j, gr (ix2 0 j) = g (ix2 j 0))
    (hk : ∀ i d, ∃ x : ℝ, k (ix2 i d) = (x : EReal)) (hb : ∀ i, ∃ x : ℝ, b (ix2 i 0) = (x : EReal))
    (hG : Rule.Falling fun i => g (ix2 i 0)) :
    kernelInverse k g b gr = Rule.forward
      (Rule.system (fun i d => k (ix2 i d)) (fun i => b (ix2 i 0)) (fun i => g (ix2 i 0))) 63 := by
  obtain ⟨M, hM, e'⟩ := Rule.system_real hk hb hG
  funext i j
  rw [e']
  exact inverseOf_at hM (fun i j => by rw [systemOf_at k g b gr hg, e']) i j

end Cert.Prompt

end
-- ==== Proof.Prompt.Sequence.lean ====
module

public import proofs.«01_k».proof.Proof.Prompt.Solve

/-! # The prompt's chunks as one sequence

The rule on plain functions, chunk after chunk: each chunk starts from the state the one before left. The inverse
is forward substitution; on real matrices it is also the product of powers the reference takes. -/

@[expose] public section

set_option maxRecDepth 65536

noncomputable section

namespace Cert.Inverse

open Matrix

variable {n : ℕ}

/-- The powers of a strictly lower triangular matrix vanish further and further below the diagonal. -/
theorem StrictLower.pow_eq_zero {M : Matrix (Fin n) (Fin n) ℝ} (hM : StrictLower M) (k : ℕ) :
    ∀ i j : Fin n, i.val < j.val + k → (M ^ k) i j = 0 := by
  induction k with
  | zero =>
    intro i j h
    rw [pow_zero, Matrix.one_apply_ne (fun e => by rw [e] at h; omega)]
  | succ k ih =>
    intro i j h
    rw [pow_succ', Matrix.mul_apply]
    refine Finset.sum_eq_zero fun a _ => ?_
    by_cases ha : i ≤ a
    · rw [hM i a ha, zero_mul]
    · rw [Fin.le_def] at ha
      rw [ih a j (by omega), mul_zero]

/-- One factor of the product of powers squares what is left. -/
theorem series_step {M T P : Matrix (Fin n) (Fin n) ℝ} (h : (1 + M) * T = 1 - P) :
    (1 + M) * (T + T * P) = 1 - P * P := by
  rw [mul_add, ← mul_assoc, h]; noncomm_ring

/-- The first factor. -/
theorem series_start (M : Matrix (Fin n) (Fin n) ℝ) : (1 + M) * (1 - M) = 1 - M * M := by noncomm_ring

end Cert.Inverse

namespace Cert.Prompt.Seq

open Cert.Reference5Ideal Cert.Delta
open Idealize.ShloMosaic Idealize.ShloMosaic.TcCoe Idealize.SL.Sem

/-- Row `i` of chunk `n` among all rows. -/
def row (n : Fin 128) (i : Fin 64) : Fin 8192 := ⟨64 * n.val + i.val, by omega⟩

/-- The same row among the projected rows. -/
def rowZ (n : Fin 128) (i : Fin 64) : Fin 9216 := ⟨64 * n.val + i.val, by omega⟩

variable (x0 : Vec Ideal S8192x8192 .f32) (x1 : Vec Ideal S9216x12288 .f32) (x2 : Vec Ideal S8192x128 .f32)
  (x3 : Vec Ideal S1x4x32x128x128 .f32) (x4 x5 : Vec Ideal S32 .f32) (x6 : Vec Ideal S128 .f32)
  (n : Fin 128) (h : Fin 32)

/-- A chunk's queries of a head. -/
def q (i : Fin 64) (d : Fin 128) : EReal := x0 (ix2 (row n i) (Ref.colQ h d))
/-- A chunk's keys. -/
def k (i : Fin 64) (d : Fin 128) : EReal := x0 (ix2 (row n i) (Ref.colK h d))
/-- A chunk's values. -/
def v (i : Fin 64) (d : Fin 128) : EReal := x0 (ix2 (row n i) (Ref.colV h d))
/-- A chunk's output gates. -/
def z (i : Fin 64) (d : Fin 128) : EReal := x1 (ix2 (rowZ n i) (Ref.colZ h d))
/-- A chunk's write strengths. -/
def β (i : Fin 64) : EReal := Rule.strength (x2 (ix2 (row n i) ⟨h.val, by omega⟩))
/-- One position's gate. -/
def g (i : Fin 64) : EReal := Rule.step (x4 (ix1 h)) (x2 (ix2 (row n i) ⟨32 + h.val, by omega⟩) + x5 (ix1 h))
/-- A chunk's accumulated gates. -/
def G (i : Fin 64) : EReal := Rule.accumulate (g x2 x4 x5 n h) i
/-- The inverse of a chunk's system. -/
def T : Fin 64 → Fin 64 → EReal := Rule.forward (Rule.system (k x0 n h) (β x2 n h) (G x2 x4 x5 n h)) 63

/-- Chunk `t` of sequence `b` among all chunks. -/
def chunk (b : Fin 4) (t : ℕ) : Fin 128 := ⟨32 * b.val + t % 32, by omega⟩

/-- The states of sequence `b` before each of its chunks. -/
def states (b : Fin 4) : ℕ → Fin 32 → Fin 128 → Fin 128 → EReal
  | 0 => fun h e d => x3 (ix5 0 b h e d)
  | t + 1 => fun h => Rule.state 63 (T x0 x2 x4 x5 (chunk b t) h) (k x0 (chunk b t) h) (v x0 (chunk b t) h)
      (β x2 (chunk b t) h) (G x2 x4 x5 (chunk b t) h) (states b t h)

/-- The sequence a chunk belongs to. -/
def batch (n : Fin 128) : Fin 4 := ⟨n.val / 32, by omega⟩

/-- A chunk's sequence is the one it is counted in … -/
theorem batch_chunk (b : Fin 4) (t : ℕ) : batch (chunk b t) = b := Fin.ext (by show (32 * b.val + t % 32) / 32 = b.val; omega)

/-- … and so is its number there. -/
theorem chunk_mod (b : Fin 4) (t : Fin 32) : (chunk b t.val).val % 32 = t.val := by
  show (32 * b.val + t.val % 32) % 32 = t.val; omega

/-- A chunk's outputs before the norm. -/
def raw : Fin 64 → Fin 128 → EReal :=
  Rule.raw (T x0 x2 x4 x5 n h) (q x0 n h) (k x0 n h) (v x0 n h) (β x2 n h) (G x2 x4 x5 n h)
    (states x0 x2 x3 x4 x5 (batch n) (n.val % 32) h)

/-- A chunk's outputs. -/
def out (i : Fin 64) (d : Fin 128) : EReal :=
  Rule.normed (raw x0 x2 x3 x4 x5 n h i) (fun d => x6 (ix1 d)) (z x1 n h i) d

/-- What the claim assumes: every key is a real number. -/
structure Real : Prop where
  /-- The keys are columns 2048 to 4095 of the array of queries, keys and values. -/
  keys : ∀ (i : Fin 8192) (d : Fin 2048), ∃ r : ℝ, x0 (ix2 i ⟨2048 + d.val, by omega⟩) = r

variable {x0} in
/-- A head's keys are real numbers … -/
theorem Real.key (hr : Real x0) (i : Fin 64) (d : Fin 128) : ∃ r : ℝ, k x0 n h i d = r :=
  hr.keys _ ⟨128 * (h.val / 2) + d.val, by omega⟩

/-- … and so are write strengths … -/
theorem strength_real (i : Fin 64) : ∃ r : ℝ, β x2 n h i = r := Rule.strength_real _

/-- … and accumulated gates fall. -/
theorem gates_falling : Rule.Falling (G x2 x4 x5 n h) :=
  Rule.accumulate_falling (w := 63) (f := g x2 x4 x5 n h) fun _ => Rule.step_nonpos _ _

end Cert.Prompt.Seq

end
-- ==== Proof.Prompt.Reference.lean ====
module

public import proofs.«01_k».proof.Proof.Prompt.Sequence
public import Idealize.ShloMosaic.Lib.WordCmp

/-! # One trip of the reference's loop

Every stage of a trip read at a head, a position and a channel: the trip is the rule on the chunk its counter
names. -/

@[expose] public section

set_option maxRecDepth 65536

noncomputable section

namespace Cert.Prompt.Trip

open Cert.Reference5Ideal Cert.Reference5Ideal.Gen Cert.Reference5Ideal.Value Cert.Delta
open Idealize.ShloMosaic.WordCmp
open Idealize.ShloMosaic Idealize.ShloMosaic.TcCoe Idealize.SL.Sem

/-- A chunk's block of rows. -/
theorem slice_rows (x : Vec Ideal S32x128x64x128 .f32) (start : Fin 4 → Int) (n : Fin 32)
    (hs : ∀ a, start a = ((![n.val, 0, 0, 0] : Fin 4 → ℕ) a : Int)) (hf) (h : Fin 128) (i : Fin 64) (d : Fin 128) :
    shapeCast S128x64x128 (Host.dynamicSlice S1x128x64x128 x start hf) shapeCasts_S1x128x64x128_S128x64x128 (ix3 h i d)
      = x (ix4 n h i d) := by
  have hk : S32x128x64x128.Slices (![n.val, 0, 0, 0] : Fin 4 → ℕ) S1x128x64x128 := ⟨rfl, fun a => by
    match a with
    | ⟨0, _⟩ => show n.val + 1 ≤ 32; omega
    | ⟨1, _⟩ => show 0 + 128 ≤ 128; omega
    | ⟨2, _⟩ => show 0 + 64 ≤ 64; omega
    | ⟨3, _⟩ => show 0 + 128 ≤ 128; omega⟩
  rw [dynamicSlice_eq_extract _ _ _ _ _ hk hs]
  pointwise []

/-- A chunk's column of a head. -/
theorem slice_column (x : Vec Ideal S32x128x64 .f32) (start : Fin 3 → Int) (n : Fin 32)
    (hs : ∀ a, start a = ((![n.val, 0, 0] : Fin 3 → ℕ) a : Int)) (hf) (h : Fin 128) (i : Fin 64) :
    shapeCast S128x64 (Host.dynamicSlice S1x128x64 x start hf) shapeCasts_S1x128x64_S128x64 (ix2 h i) = x (ix3 n h i) := by
  have hk : S32x128x64.Slices (![n.val, 0, 0] : Fin 3 → ℕ) S1x128x64 := ⟨rfl, fun a => by
    match a with
    | ⟨0, _⟩ => show n.val + 1 ≤ 32; omega
    | ⟨1, _⟩ => show 0 + 128 ≤ 128; omega
    | ⟨2, _⟩ => show 0 + 64 ≤ 64; omega⟩
  rw [dynamicSlice_eq_extract _ _ _ _ _ hk hs]
  pointwise []

/-- The running sum at an index. -/
theorem scan_at (x : Vec Ideal S128x64 .f32) (v : Vec Ideal S_ .f32) (hv : v ix0 = (0 : EReal))
    (hw : S128x64.ReduceWindows ![1, 64] ![1, 1] ![0, 63] ![0, 0] S128x64) (hu : 0 < S_.numel) (h : Fin 128) (i : Fin 64) :
    Host.reduceWindowAdd (F := Ideal) (φ := .f32) (t := S128x64) ![1, 64] ![1, 1] ![0, 63] ![0, 0] x v hw hu (ix2 h i)
      = Rule.accumulate (fun n => x (ix2 h n)) i := by
  have hN : (⟨2, ![1, 64]⟩ : Shape).numel = 64 := by decide
  have hv' : v (Shape.Idx.first hu) = (0 : EReal) := by
    rw [← hv]; exact congrArg v (Subsingleton.elim _ _)
  show Host.reduceWindow (· + ·) ![1, 64] ![1, 1] ![0, 63] ![0, 0] x (fun _ : (⟨0, ![]⟩ : Shape).Idx => v (Shape.Idx.first hu)) hw hu (ix2 h i) = _
  unfold Host.reduceWindow Rule.accumulate
  dsimp only
  rw [hv']
  refine (Rule.foldl_cast hN _ _).trans ?_
  congr 1
  funext r n
  congr 1
  obtain ⟨p, hp⟩ : ∃ p, p = (⟨2, ![1, 64]⟩ : Shape).rowMajor.symm (n.cast hN.symm) := ⟨_, rfl⟩
  have hpn : ((⟨2, ![1, 64]⟩ : Shape).rowMajor p).val = n.val := by rw [hp, Equiv.apply_symm_apply]; rfl
  rw [Shape.rowMajor_val_two] at hpn
  have h0 : (p 0).val < 1 := (p 0).isLt
  have h2 : (p 1).val = n.val := by
    have : (p 0).val * 64 + (p 1).val = n.val := hpn
    omega
  obtain ⟨w, hw'⟩ : ∃ w : Fin 2 → ℕ, ∀ a, (p a).val = w a := ⟨_, fun _ => rfl⟩
  subst hp
  simp only [hw'] at *
  by_cases hn : 63 ≤ i.val + n.val
  · rw [dif_pos hn]
    refine (dif_pos fun a => ?_).trans (congrArg x (funext fun a => Fin.ext ?_))
    · match a with
      | ⟨0, _⟩ => show 0 ≤ h.val * 1 + w 0 ∧ h.val * 1 + w 0 - 0 < 128; omega
      | ⟨1, _⟩ => show 63 ≤ i.val * 1 + w 1 ∧ i.val * 1 + w 1 - 63 < 64; omega
    · match a with
      | ⟨0, _⟩ => show h.val * 1 + w 0 - 0 = h.val; omega
      | ⟨1, _⟩ => show i.val * 1 + w 1 - 63 = i.val + n.val - 63; omega
  · rw [dif_neg hn]
    refine dif_neg fun hin => hn ?_
    have : 63 ≤ i.val * 1 + w 1 := (hin 1).1
    omega

variable (V0 : Valuation τ sig (Elt Ideal)) (n : Fin 32) (h : Fin 128)

/-- The queries of the chunk. -/
def q (i : Fin 64) (d : Fin 128) : EReal := (V0 (Proc.devRef .tc main_v42_0) : Vec Ideal S32x128x64x128 .f32) (ix4 n h i d)
/-- The keys. -/
def k (i : Fin 64) (d : Fin 128) : EReal := (V0 (Proc.devRef .tc main_v42_1) : Vec Ideal S32x128x64x128 .f32) (ix4 n h i d)
/-- The values. -/
def v (i : Fin 64) (d : Fin 128) : EReal := (V0 (Proc.devRef .tc main_v42_2) : Vec Ideal S32x128x64x128 .f32) (ix4 n h i d)
/-- The write strengths. -/
def β (i : Fin 64) : EReal := (V0 (Proc.devRef .tc main_v42_4) : Vec Ideal S32x128x64 .f32) (ix3 n h i)
/-- The accumulated gates. -/
def G (i : Fin 64) : EReal :=
  Rule.accumulate (fun j => (V0 (Proc.devRef .tc main_v42_3) : Vec Ideal S32x128x64 .f32) (ix3 n h j)) i
/-- The state the trip finds. -/
def s (e d : Fin 128) : EReal := (V0 (Proc.devRef .tc main_v42_6) : Vec Ideal S128x128x128 .f32) (ix3 h e d)

/-- The counter names chunk `n`. -/
def Counts : Prop := (V0 (Proc.devRef .tc main_v42_5) : IVec S_ 32) = fun _ => BitVec.ofNat 32 n.val

variable {V0 n}

/-- The counter as an integer. -/
theorem Counts.toInt (hc : Counts V0 n) (j : S_.Idx) : ((V0 (Proc.devRef .tc main_v42_5) : IVec S_ 32) j).toInt = n.val := by
  rw [hc]
  exact toInt_ofNat_of_lt (by have := n.isLt; omega)

/-- The chunk's start among the rows. -/
theorem Counts.start4 (hc : Counts V0 n) (a : Fin 4) :
    ((((![V0 (Proc.devRef .tc main_v42_5), constantI S_ 32 0#32, constantI S_ 32 0#32, constantI S_ 32 0#32] : Fin 4 → (⟨S_, .i32⟩ : BufTy).Contents (Elt Ideal))) a (Shape.Idx.first h_S_)).toInt)
      = ((![n.val, 0, 0, 0] : Fin 4 → ℕ) a : Int) := by
  match a with
  | ⟨0, _⟩ => exact hc.toInt _
  | ⟨1, _⟩ => rfl
  | ⟨2, _⟩ => rfl
  | ⟨3, _⟩ => rfl

/-- The chunk's start among the columns. -/
theorem Counts.start3 (hc : Counts V0 n) (a : Fin 3) :
    ((((![V0 (Proc.devRef .tc main_v42_5), constantI S_ 32 0#32, constantI S_ 32 0#32] : Fin 3 → (⟨S_, .i32⟩ : BufTy).Contents (Elt Ideal))) a (Shape.Idx.first h_S_)).toInt)
      = ((![n.val, 0, 0] : Fin 3 → ℕ) a : Int) := by
  match a with
  | ⟨0, _⟩ => exact hc.toInt _
  | ⟨1, _⟩ => rfl
  | ⟨2, _⟩ => rfl

/-- The trip's queries … -/
theorem q_at (hc : Counts V0 n) (i : Fin 64) (d : Fin 128) :
    (res_main_while0b_v65 V0 : Vec Ideal S128x64x128 .f32) (ix3 h i d) = q V0 n h i d := slice_rows _ _ n hc.start4 _ h i d

/-- … and keys … -/
theorem k_at (hc : Counts V0 n) (i : Fin 64) (d : Fin 128) :
    (res_main_while0b_v66 V0 : Vec Ideal S128x64x128 .f32) (ix3 h i d) = k V0 n h i d := slice_rows _ _ n hc.start4 _ h i d

/-- … and write strengths … -/
theorem β_at (hc : Counts V0 n) (i : Fin 64) :
    (res_main_while0b_v69 V0 : Vec Ideal S128x64 .f32) (ix2 h i) = β V0 n h i := slice_column _ _ n hc.start3 _ h i

/-- … and accumulated gates. -/
theorem G_at (hc : Counts V0 n) (i : Fin 64) :
    (res_main_while0b_v76 V0 : Vec Ideal S128x64 .f32) (ix2 h i) = G V0 n h i := by
  refine (scan_at _ _ (by pointwise []) _ _ h i).trans (congrArg (fun f => Rule.accumulate f i) (funext fun j => ?_))
  exact slice_column _ _ n hc.start3 _ h j

/-- The mask of the diagonal and below. -/
theorem incl_at (i j : Fin 64) : (res_main_while0b_v72 V0 : IVec S64x64 1) (ix2 i j) = if j ≤ i then 1#1 else 0#1 := by
  show cmpi .sge (iotaInDim S64x64 32 0) (iotaInDim S64x64 32 1) (ix2 i j) = _
  revert i j; decide +kernel

/-- The mask strictly below the diagonal. -/
theorem strict_at (i j : Fin 64) :
    cmpi .sgt (iotaInDim S64x64 32 0) (iotaInDim S64x64 32 1) (ix2 i j) = if j < i then 1#1 else 0#1 := by
  revert i j; decide +kernel

/-- The decay between two positions. -/
theorem decay_at (hc : Counts V0 n) (i j : Fin 64) :
    (res_main_while0b_v84 V0 : Vec Ideal S128x64x64 .f32) (ix3 h i j) = Rule.decay (G V0 n h) i j := by
  pointwise [res_main_while0b_v84]
  rw [Ref.select_if (incl_at i j), Ref.select_if (incl_at i j), id_eq, Ref.zero_at, G_at h hc, G_at h hc]
  unfold Rule.decay
  split <;> rfl

/-- The strictly lower triangular matrix of the trip. -/
theorem system_at (hc : Counts V0 n) (i j : Fin 64) :
    (res_main_while0b_v90 V0 : Vec Ideal S128x64x64 .f32) (ix3 h i j)
      = Rule.system (k V0 n h) (β V0 n h) (G V0 n h) i j := by
  pointwise [res_main_while0b_v90, res_main_while0b_v87]
  refine (Ref.select_if (strict_at i j) _ _).trans ?_
  rw [id_eq, Ref.zero_at, decay_at h hc]
  simp only [k_at h hc, β_at h hc]
  rfl

/-! ## The product of powers -/

/-- Head `h` of an array of matrices is the real matrix `A`. -/
def Holds (h : Fin 128) (a : FVec Ideal S128x64x64 .f32) (A : Matrix (Fin 64) (Fin 64) ℝ) : Prop :=
  ∀ i j, a (ix3 h i j) = ((A i j : ℝ) : EReal)

/-- A product of square matrices, head by head. -/
abbrev mul (a b : FVec Ideal S128x64x64 .f32) : FVec Ideal S128x64x64 .f32 :=
  Host.dotGeneral dot_S128x64x64_S128x64x64_S128x64x64_2_1_1_2_0_0 none a b

variable {h} in
/-- Products of real matrices are taken entry by entry. -/
theorem Holds.mul {a b : FVec Ideal S128x64x64 .f32} {A B : Matrix (Fin 64) (Fin 64) ℝ} (ha : Holds h a A) (hb : Holds h b B) :
    Holds h (mul a b) (A * B) := fun i j => by
  have e : Trip.mul a b (ix3 h i j) = ∑ c, a (ix3 h i c) * b (ix3 h c j) := by pointwise []
  rw [e, Rule.coe_mul_apply]
  exact Finset.sum_congr rfl fun c _ => by rw [ha, hb]

variable {h} in
/-- One factor more. -/
theorem Holds.grow {a b : FVec Ideal S128x64x64 .f32} {A B : Matrix (Fin 64) (Fin 64) ℝ} (ha : Holds h a A) (hb : Holds h b B) :
    Holds h (addf a (Trip.mul a b)) (A + A * B) := fun i j => by
  have e : addf a (Trip.mul a b) (ix3 h i j) = a (ix3 h i j) + Trip.mul a b (ix3 h i j) := rfl
  rw [e, ha, ha.mul hb, ← EReal.coe_add]; rfl

/-- The identity at an index. -/
theorem eye_at (i j : Fin 64) : uitofp (F := Ideal) .f32 (cmpi .eq (iotaInDim S64x64 32 0) (iotaInDim S64x64 32 1)) (ix2 i j)
    = if i = j then 1 else 0 := by
  have e : cmpi .eq (iotaInDim S64x64 32 0) (iotaInDim S64x64 32 1) (ix2 i j) = if i = j then 1#1 else 0#1 := by
    revert i j; decide +kernel
  show (((cmpi .eq (iotaInDim S64x64 32 0) (iotaInDim S64x64 32 1) (ix2 i j)).toNat : ℝ) : EReal) = _
  rw [e]
  split <;> norm_num

/-- One minus the system. -/
theorem first_at (i j : Fin 64) : (res_main_while0b_v93 V0 : Vec Ideal S128x64x64 .f32) (ix3 h i j)
    = ((if i = j then 1 else 0 : EReal) - ((res_main_while0b_v90 V0 : FVec Ideal S128x64x64 .f32) (ix3 h i j) : EReal) : EReal) := by
  rw [← eye_at i j]
  unfold res_main_while0b_v93 res_main_while0b_v70 res_main_while0b_v71
  pointwise []

/-- On real keys and write strengths the product of powers is forward substitution. -/
theorem solved_at (hc : Counts V0 n) (hk : ∀ i d, ∃ x : ℝ, k V0 n h i d = x) (hb : ∀ i, ∃ x : ℝ, β V0 n h i = x)
    (hG : Rule.Falling (G V0 n h)) (i j : Fin 64) : (res_main_while0b_v108 V0 : Vec Ideal S128x64x64 .f32) (ix3 h i j)
      = Rule.forward (Rule.system (k V0 n h) (β V0 n h) (G V0 n h)) 63 i j := by
  obtain ⟨M, hM, e'⟩ := Rule.system_real hk hb hG
  have hm : Holds h (res_main_while0b_v90 V0) M := fun i j => by rw [system_at h hc, e']
  have h0 : Holds h (res_main_while0b_v93 V0) (1 - M) := fun i j => by
    rw [first_at, hm i j, ← Rule.coe_one_apply, ← EReal.coe_sub]; rfl
  have p1 : Holds h (res_main_while0b_v94 V0) (M * M) := hm.mul hm
  have p2 : Holds h (res_main_while0b_v97 V0) _ := p1.mul p1
  have p3 : Holds h (res_main_while0b_v100 V0) _ := p2.mul p2
  have p4 : Holds h (res_main_while0b_v103 V0) _ := p3.mul p3
  have h5 : Holds h (res_main_while0b_v108 V0) _ := ((((h0.grow p1).grow p2).grow p3).grow p4).grow (p4.mul p4)
  have hS := Cert.Inverse.series_step (Cert.Inverse.series_step (Cert.Inverse.series_step (Cert.Inverse.series_step
    (Cert.Inverse.series_step (Cert.Inverse.series_start M)))))
  have hz : ∀ P : Matrix (Fin 64) (Fin 64) ℝ, P = M ^ 64 → (1 : Matrix (Fin 64) (Fin 64) ℝ) - P = 1 := by
    rintro P rfl
    have : M ^ 64 = 0 := by ext i j; exact hM.pow_eq_zero 64 i j (by omega)
    rw [this, sub_zero]
  have hT := hS.trans (hz _ (by simp only [← pow_two, ← pow_mul]; norm_num))
  rw [e', Rule.forward_coe, ← Cert.Inverse.eq_forward hM 63 (by norm_num) hT]
  exact h5 i j

/-- What a trip's solution is. -/
def Solved (V0 : Valuation τ sig (Elt Ideal)) (n : Fin 32) (h : Fin 128) : Prop :=
  ∀ i j, (res_main_while0b_v108 V0 : Vec Ideal S128x64x64 .f32) (ix3 h i j)
    = Rule.forward (Rule.system (k V0 n h) (β V0 n h) (G V0 n h)) 63 i j

/-- The inverse of the trip's system. -/
abbrev T (V0 : Valuation τ sig (Elt Ideal)) (n : Fin 32) (h : Fin 128) : Fin 64 → Fin 64 → EReal :=
  Rule.forward (Rule.system (k V0 n h) (β V0 n h) (G V0 n h)) 63

/-- The corrected values. -/
theorem corrected_at (hc : Counts V0 n) (hs : Solved V0 n h) (i : Fin 64) (d : Fin 128) :
    (res_main_while0b_v119 V0 : Vec Ideal S128x64x128 .f32) (ix3 h i d)
      = Rule.corrected (T V0 n h) (k V0 n h) (v V0 n h) (β V0 n h) (G V0 n h) (s V0 h) i d := by
  have hv : ∀ i d, shapeCast S128x64x128 (Host.dynamicSlice S1x128x64x128 (V0 (Proc.devRef .tc main_v42_2)) (fun k => (((![V0 (Proc.devRef .tc main_v42_5), constantI S_ 32 0#32, constantI S_ 32 0#32, constantI S_ 32 0#32] : Fin 4 → (⟨S_, .i32⟩ : BufTy).Contents (Elt Ideal))) k (Shape.Idx.first h_S_)).toInt) sliceFits_S32x128x64x128_S1x128x64x128) shapeCasts_S1x128x64x128_S128x64x128 (ix3 h i d) = v V0 n h i d := slice_rows _ _ n hc.start4 _ h
  unfold res_main_while0b_v119
  generalize shapeCast S128x64x128 (Host.dynamicSlice S1x128x64x128 (V0 (Proc.devRef .tc main_v42_2)) _ _) _ = vals at hv ⊢
  pointwise [res_main_while0b_v87]
  simp only [hs _ _, k_at h hc, β_at h hc, G_at h hc, hv]
  rfl

/-- The last accumulated gate. -/
theorem last_at (hc : Counts V0 n) : (res_main_while0b_v131 V0 : Vec Ideal S128 .f32) (ix1 h) = G V0 n h 63 := by
  rw [← G_at h hc]
  pointwise [res_main_while0b_v131]

/-- The new states from what the trip has computed. -/
def stateOf (k vn : FVec Ideal S128x64x128 .f32) (g : FVec Ideal S128x64 .f32) (l : FVec Ideal S128 .f32)
    (s : FVec Ideal S128x128x128 .f32) : FVec Ideal S128x128x128 .f32 :=
  addf (mulf s (broadcastInDim S128x128x128 ![0, 1, 2] bcast_S128x1x1_S128x128x128_0_1_2 (broadcastInDim S128x1x1 ![0] bcast_S128_S128x1x1_0 (Host.exp l))))
    (Host.dotGeneral dot_S128x64x128_S128x64x128_S128x128x128_1_1_2_2_0_0 none (mulf k (broadcastInDim S128x64x128 ![0, 1, 2] bcast_S128x64x1_S128x64x128_0_1_2 (broadcastInDim S128x64x1 ![0, 1] bcast_S128x64_S128x64x1_0_1 (Host.exp (subf (broadcastInDim S128x64 ![0, 1] bcast_S128x1_S128x64_0_1 (broadcastInDim S128x1 ![0] bcast_S128_S128x1_0 l)) g))))) vn)

/-- The state the trip leaves. -/
theorem state_at (hc : Counts V0 n) (hs : Solved V0 n h) (e d : Fin 128) :
    (step_main_v42_6 V0 : Vec Ideal S128x128x128 .f32) (ix3 h e d)
      = Rule.state 63 (T V0 n h) (k V0 n h) (v V0 n h) (β V0 n h) (G V0 n h) (s V0 h) e d := by
  show stateOf (res_main_while0b_v66 V0) (res_main_while0b_v119 V0) (res_main_while0b_v76 V0) (res_main_while0b_v131 V0)
    (V0 (Proc.devRef .tc main_v42_6)) (ix3 h e d) = _
  pointwise [stateOf]
  simp only [last_at h hc, corrected_at h hc hs, k_at h hc, G_at h hc]
  rfl

/-- The chunk's outputs before the norm from what the trip has computed. -/
def outputsOf (q k vn : FVec Ideal S128x64x128 .f32) (g : FVec Ideal S128x64 .f32) (s : FVec Ideal S128x128x128 .f32)
    (p : IVec S64x64 1) (dec : FVec Ideal S128x64x64 .f32) : FVec Ideal S128x64x128 .f32 :=
  addf (Host.dotGeneral dot_S128x64x128_S128x128x128_S128x64x128_2_1_1_2_0_0 none (mulf q (broadcastInDim S128x64x128 ![0, 1, 2] bcast_S128x64x1_S128x64x128_0_1_2 (broadcastInDim S128x64x1 ![0, 1] bcast_S128x64_S128x64x1_0_1 (Host.exp g)))) s)
    (Host.dotGeneral dot_S128x64x64_S128x64x128_S128x64x128_2_1_1_2_0_0 none (select (broadcastInDim S128x64x64 ![1, 2] bcast_S64x64_S128x64x64_1_2 p) (mulf (Host.dotGeneral dot_S128x64x128_S128x64x128_S128x64x64_2_2_1_1_0_0 none q k) dec) (broadcastInDim S128x64x64 ![] bcast_S_S128x64x64 (id (constant S_ .f32 0x00000000#32)))) vn)

/-- The chunk's outputs before the norm, as the trip computes them. -/
abbrev outputs (V0 : Valuation τ sig (Elt Ideal)) : FVec Ideal S128x64x128 .f32 :=
  outputsOf (res_main_while0b_v65 V0) (res_main_while0b_v66 V0) (res_main_while0b_v119 V0) (res_main_while0b_v76 V0)
    (V0 (Proc.devRef .tc main_v42_6)) (res_main_while0b_v72 V0) (res_main_while0b_v84 V0)

/-- … are the rule's. -/
theorem outputs_at (hc : Counts V0 n) (hs : Solved V0 n h) (i : Fin 64) (d : Fin 128) : outputs V0 (ix3 h i d)
    = Rule.raw (T V0 n h) (q V0 n h) (k V0 n h) (v V0 n h) (β V0 n h) (G V0 n h) (s V0 h) i d := by
  pointwise [outputsOf]
  simp only [Ref.select_if (incl_at i _), id_eq, Ref.zero_at, decay_at h hc, corrected_at h hc hs, q_at h hc, k_at h hc, G_at h hc]
  rfl

/-- Where a chunk's outputs are kept. -/
theorem update_rows (x : Vec Ideal S32x128x64x128 .f32) (u : Vec Ideal S1x128x64x128 .f32) (start : Fin 4 → Int) (n : Fin 32)
    (hs : ∀ a, start a = ((![n.val, 0, 0, 0] : Fin 4 → ℕ) a : Int)) (hf) (t : Fin 32) (h : Fin 128) (i : Fin 64) (d : Fin 128) :
    Host.dynamicUpdateSlice x u start hf (ix4 t h i d) = if t = n then u (ix4 0 h i d) else x (ix4 t h i d) := by
  have hk : S32x128x64x128.Slices (![n.val, 0, 0, 0] : Fin 4 → ℕ) S1x128x64x128 := ⟨rfl, fun a => by
    match a with
    | ⟨0, _⟩ => show n.val + 1 ≤ 32; omega
    | ⟨1, _⟩ => show 0 + 128 ≤ 128; omega
    | ⟨2, _⟩ => show 0 + 64 ≤ 64; omega
    | ⟨3, _⟩ => show 0 + 128 ≤ 128; omega⟩
  rw [dynamicUpdateSlice_eq_update _ _ _ _ _ hk hs]
  unfold updateSlice
  by_cases ht : t = n
  · subst ht
    rw [if_pos rfl]
    refine (dif_pos fun a => ?_).trans (congrArg u (funext fun a => Fin.ext ?_))
    · match a with
      | ⟨0, _⟩ => show t.val ≤ t.val ∧ t.val < t.val + 1; omega
      | ⟨1, _⟩ => show 0 ≤ h.val ∧ h.val < 0 + 128; omega
      | ⟨2, _⟩ => show 0 ≤ i.val ∧ i.val < 0 + 64; omega
      | ⟨3, _⟩ => show 0 ≤ d.val ∧ d.val < 0 + 128; omega
    · match a with
      | ⟨0, _⟩ => show t.val - t.val = 0; omega
      | ⟨1, _⟩ => show h.val - 0 = h.val; omega
      | ⟨2, _⟩ => show i.val - 0 = i.val; omega
      | ⟨3, _⟩ => show d.val - 0 = d.val; omega
  · rw [if_neg ht]
    refine dif_neg fun hin => ht (Fin.ext ?_)
    have : n.val ≤ t.val ∧ t.val < n.val + 1 := hin 0
    omega

/-- The outputs kept after the trip: the chunk's own, and the others' as before. -/
theorem kept_at (hc : Counts V0 n) (hs : Solved V0 n h) (t : Fin 32) (i : Fin 64) (d : Fin 128) :
    (step_main_v42_7 V0 : Vec Ideal S32x128x64x128 .f32) (ix4 t h i d)
      = if t = n then Rule.raw (T V0 n h) (q V0 n h) (k V0 n h) (v V0 n h) (β V0 n h) (G V0 n h) (s V0 h) i d
        else (V0 (Proc.devRef .tc main_v42_7) : Vec Ideal S32x128x64x128 .f32) (ix4 t h i d) := by
  unfold step_main_v42_7
  rw [id_eq]
  have e : broadcastInDim S1x128x64x128 ![1, 2, 3] bcast_S128x64x128_S1x128x64x128_1_2_3 (outputs V0) (ix4 0 h i d)
      = outputs V0 (ix3 h i d) := by pointwise []
  refine (update_rows _ _ _ n hc.start4 _ t h i d).trans (if_congr Iff.rfl ?_ rfl)
  exact e.trans (outputs_at h hc hs i d)

/-- The counter after the trip. -/
theorem count_step {t : ℕ} (hc : (V0 (Proc.devRef .tc main_v42_5) : IVec S_ 32) = fun _ => BitVec.ofNat 32 t) :
    (step_main_v42_5 V0 : IVec S_ 32) = fun _ => BitVec.ofNat 32 (t + 1) := by
  funext j
  show IntOp.addi ((V0 (Proc.devRef .tc main_v42_5) : IVec S_ 32) j) 1#32 = _
  rw [hc]
  show BitVec.ofNat 32 t + 1#32 = BitVec.ofNat 32 (t + 1)
  rw [BitVec.ofNat_add]

end Cert.Prompt.Trip

end
-- ==== Proof.Prompt.Entry.lean ====
module

public import proofs.«01_k».proof.Proof.Prompt.Reference

/-! # What the reference's loop starts from

Queries, keys, values, gates and write strengths by chunk and head are entries of the arguments. -/

@[expose] public section

set_option maxRecDepth 65536

noncomputable section

namespace Cert.Prompt.Entry

open Cert.Reference5Ideal Cert.Reference5Ideal.Gen Cert.Reference5Ideal.Value Cert.Delta
open Idealize.ShloMosaic Idealize.ShloMosaic.TcCoe Idealize.SL.Sem Idealize.ShloMosaic.StableHlo

/-- Chunks first, the sequences and their heads as one axis: rows of lanes … -/
def gathered (x : FVec Ideal S4x32x64x32x128 .f32) : FVec Ideal S32x128x64x128 .f32 :=
  shapeCast S32x128x64x128 (transpose S32x4x32x64x128 [1, 0, 3, 2, 4] x transposes_S4x32x64x32x128_S32x4x32x64x128_1_0_3_2_4)
    shapeCasts_S32x4x32x64x128_S32x128x64x128

/-- … and single numbers. -/
def gatheredColumn (x : FVec Ideal S4x32x64x32 .f32) : FVec Ideal S32x128x64 .f32 :=
  shapeCast S32x128x64 (transpose S32x4x32x64 [1, 0, 3, 2] x transposes_S4x32x64x32_S32x4x32x64_1_0_3_2)
    shapeCasts_S32x4x32x64_S32x128x64

/-- Queries or keys by sequence, chunk and head, each head twice. -/
def doubled (x : FVec Ideal S8192x2048 .f32) : FVec Ideal S4x32x64x32x128 .f32 :=
  shapeCast S4x32x64x32x128 (broadcastInDim S4x32x64x16x2x128 ![0, 1, 2, 3, 5]
    bcast_S4x32x64x16x128_S4x32x64x16x2x128_0_1_2_3_5 (shapeCast S4x32x64x16x128 x shapeCasts_S8192x2048_S4x32x64x16x128))
    shapeCasts_S4x32x64x16x2x128_S4x32x64x32x128

/-- Values by sequence, chunk and head. -/
def split (x : FVec Ideal S8192x4096 .f32) : FVec Ideal S4x32x64x32x128 .f32 :=
  shapeCast S4x32x64x32x128 x shapeCasts_S8192x4096_S4x32x64x32x128

/-- A constant over every position and head. -/
def everywhere (v : BitVec 32) : FVec Ideal S4x32x64x32 .f32 :=
  broadcastInDim S4x32x64x32 ![] bcast_S_S4x32x64x32 (constant (F := Ideal) S_ .f32 v)

/-- A number of each head at every position. -/
def byHead (x : FVec Ideal S32 .f32) : FVec Ideal S4x32x64x32 .f32 :=
  broadcastInDim S4x32x64x32 ![0, 1, 2, 3] bcast_S1x1x1x32_S4x32x64x32_0_1_2_3 (broadcastInDim S1x1x1x32 ![3] bcast_S32_S1x1x1x32_3 x)

/-- The write strengths. -/
def strengths (x2 : FVec Ideal S8192x128 .f32) : FVec Ideal S4x32x64x32 .f32 :=
  Host.divf (everywhere 0x3F800000#32) (addf (everywhere 0x3F800000#32) (Host.exp (Host.negf
    (shapeCast S4x32x64x32 (extractStridedSlice S8192x32 ![0, 0] x2 slices_S8192x128_S8192x32_0_0) shapeCasts_S8192x32_S4x32x64x32))))

/-- The softplus, with its branch for a difference that isn't itself. -/
def softplus (y : FVec Ideal S4x32x64x32 .f32) : FVec Ideal S4x32x64x32 .f32 :=
  select (cmpf .une (subf y (everywhere 0#32)) (subf y (everywhere 0#32))) (addf y (everywhere 0#32))
    (addf (maximumf y (everywhere 0#32)) (Host.log1p (Host.exp (Host.negf (Host.absf (subf y (everywhere 0#32)))))))

/-- The gates of the positions. -/
def steps (x2 : FVec Ideal S8192x128 .f32) (x4 x5 : FVec Ideal S32 .f32) : FVec Ideal S4x32x64x32 .f32 :=
  mulf (byHead (Host.negf (Host.exp x4))) (softplus (addf
    (shapeCast S4x32x64x32 (extractStridedSlice S8192x32 ![0, 32] x2 slices_S8192x128_S8192x32_0_32) shapeCasts_S8192x32_S4x32x64x32)
    (byHead x5)))

/-- Head `h` of sequence `b` on the axis that joins them. -/
def joint (b : Fin 4) (h : Fin 32) : Fin 128 := ⟨32 * b.val + h.val, by omega⟩

variable (b : Fin 4) (n : Fin 32) (h : Fin 32) (i : Fin 64) (d : Fin 128)

/-- A gathered row. -/
theorem gathered_at (x : FVec Ideal S4x32x64x32x128 .f32) : gathered x (ix4 n (joint b h) i d) = x (ix5 b n i h d) := by
  pointwise [gathered]
  refine congrArg x (funext fun a => Fin.ext ?_)
  match a with
  | ⟨0, _⟩ => dsimp [joint, ix5]; omega
  | ⟨1, _⟩ => dsimp [joint, ix5]
  | ⟨2, _⟩ => dsimp [joint, ix5]
  | ⟨3, _⟩ => dsimp [joint, ix5]; omega
  | ⟨4, _⟩ => dsimp [joint, ix5]

/-- A gathered number. -/
theorem gatheredColumn_at (x : FVec Ideal S4x32x64x32 .f32) : gatheredColumn x (ix3 n (joint b h) i) = x (ix4 b n i h) := by
  pointwise [gatheredColumn]
  refine congrArg x (funext fun a => Fin.ext ?_)
  match a with
  | ⟨0, _⟩ => dsimp [joint, ix4]; omega
  | ⟨1, _⟩ => dsimp [joint, ix4]
  | ⟨2, _⟩ => dsimp [joint, ix4]
  | ⟨3, _⟩ => dsimp [joint, ix4]; omega

/-- A column of the gates' argument by sequence and chunk. -/
theorem column_at (x : FVec Ideal S8192x32 .f32) :
    shapeCast S4x32x64x32 x shapeCasts_S8192x32_S4x32x64x32 (ix4 b n i h) = x (ix2 (Seq.row (Seq.chunk b n.val) i) h) := by
  pointwise []
  refine congrArg x (funext fun a => Fin.ext ?_)
  match a with
  | ⟨0, _⟩ => dsimp [Seq.row, Seq.chunk, ix2]; omega
  | ⟨1, _⟩ => dsimp [Seq.row, Seq.chunk, ix2]

/-- The strengths at an index. -/
theorem strengths_at (x2 : FVec Ideal S8192x128 .f32) : strengths x2 (ix4 b n i h) = Seq.β x2 (Seq.chunk b n.val) h i := by
  unfold strengths
  generalize hx : shapeCast S4x32x64x32 (extractStridedSlice S8192x32 ![0, 0] x2 slices_S8192x128_S8192x32_0_0) shapeCasts_S8192x32_S4x32x64x32 = x
  have e : x (ix4 b n i h) = x2 (ix2 (Seq.row (Seq.chunk b n.val) i) ⟨h.val, by omega⟩) := by
    rw [← hx, column_at]
    pointwise []
  pointwise [everywhere]
  rw [e]
  rfl

/-- The gates at an index. -/
theorem steps_at (x2 : FVec Ideal S8192x128 .f32) (x4 x5 : FVec Ideal S32 .f32) :
    steps x2 x4 x5 (ix4 b n i h) = Seq.g x2 x4 x5 (Seq.chunk b n.val) h i := by
  unfold steps
  generalize hx : shapeCast S4x32x64x32 (extractStridedSlice S8192x32 ![0, 32] x2 slices_S8192x128_S8192x32_0_32) shapeCasts_S8192x32_S4x32x64x32 = x
  have e : x (ix4 b n i h) = x2 (ix2 (Seq.row (Seq.chunk b n.val) i) ⟨32 + h.val, by omega⟩) := by
    rw [← hx, column_at]
    pointwise []
  pointwise [softplus, everywhere, byHead]
  rw [if_neg (fun hne => hne rfl), e]
  rfl

/-- Values at an index. -/
theorem split_at (x : FVec Ideal S8192x4096 .f32) :
    split x (ix5 b n i h d) = x (ix2 (Seq.row (Seq.chunk b n.val) i) (Ref.colO h d)) := by
  pointwise [split]
  refine congrArg x (funext fun a => Fin.ext ?_)
  match a with
  | ⟨0, _⟩ => dsimp [Seq.row, Seq.chunk, ix2]; omega
  | ⟨1, _⟩ => dsimp [Ref.colO, ix2]; omega

/-- Queries or keys at an index. -/
theorem doubled_at (x : FVec Ideal S8192x2048 .f32) :
    doubled x (ix5 b n i h d) = x (ix2 (Seq.row (Seq.chunk b n.val) i) ⟨128 * (h.val / 2) + d.val, by omega⟩) := by
  pointwise [doubled]
  refine congrArg x (funext fun a => Fin.ext ?_)
  match a with
  | ⟨0, _⟩ => dsimp [Seq.row, Seq.chunk, ix2]; omega
  | ⟨1, _⟩ => dsimp [ix2]; omega

/-- The old states of every sequence and head. -/
def joinedStates (x3 : FVec Ideal S1x4x32x128x128 .f32) : FVec Ideal S128x128x128 .f32 :=
  shapeCast S128x128x128 (shapeCast S4x32x128x128 x3 shapeCasts_S1x4x32x128x128_S4x32x128x128) shapeCasts_S4x32x128x128_S128x128x128

/-- An old state at an index. -/
theorem joinedStates_at (x3 : FVec Ideal S1x4x32x128x128 .f32) (e : Fin 128) :
    joinedStates x3 (ix3 (joint b h) e d) = x3 (ix5 0 b h e d) := by
  pointwise [joinedStates]
  refine congrArg x3 (funext fun a => Fin.ext ?_)
  match a with
  | ⟨0, _⟩ => dsimp [joint, ix5]
  | ⟨1, _⟩ => dsimp [joint, ix5]; omega
  | ⟨2, _⟩ => dsimp [joint, ix5]; omega
  | ⟨3, _⟩ => dsimp [joint, ix5]
  | ⟨4, _⟩ => dsimp [joint, ix5]

variable (m : (ℓ : Loc nD τ sig) → Buf (Elt Ideal) ℓ) (c : Dev nD)

/-- The convolved queries, keys and values. -/
abbrev arg0 : Vec Ideal S8192x8192 .f32 := m ((c.tc : Thread nD τ).loc main_arg0)
/-- The projected rows, whose last columns gate the output. -/
abbrev arg1 : Vec Ideal S9216x12288 .f32 := m ((c.tc : Thread nD τ).loc main_arg1)
/-- The columns gates and write strengths come from. -/
abbrev arg2 : Vec Ideal S8192x128 .f32 := m ((c.tc : Thread nD τ).loc main_arg2)
/-- The old states. -/
abbrev arg3 : Vec Ideal S1x4x32x128x128 .f32 := m ((c.tc : Thread nD τ).loc main_arg3)
/-- The logarithms of the decay rates. -/
abbrev arg4 : Vec Ideal S32 .f32 := m ((c.tc : Thread nD τ).loc main_arg4)
/-- The biases of the step sizes. -/
abbrev arg5 : Vec Ideal S32 .f32 := m ((c.tc : Thread nD τ).loc main_arg5)
/-- The weights of the norm. -/
abbrev arg6 : Vec Ideal S128 .f32 := m ((c.tc : Thread nD τ).loc main_arg6)

/-- What the loop starts from. -/
abbrev start : Valuation τ sig (Elt Ideal) := entryContents preI m c

/-- The queries the loop starts from … -/
theorem queries_eq : (start m c (Proc.devRef .tc main_v42_0) : Vec Ideal S32x128x64x128 .f32)
    = gathered (doubled (extractStridedSlice S8192x2048 ![0, 0] (arg0 m c) slices_S8192x8192_S8192x2048_0_0)) := by
  simp only [start, entryContents, afterL_cons, afterL_nil]
  after_reads_simp
  rfl

/-- … and the keys … -/
theorem keys_eq : (start m c (Proc.devRef .tc main_v42_1) : Vec Ideal S32x128x64x128 .f32)
    = gathered (doubled (extractStridedSlice S8192x2048 ![0, 2048] (arg0 m c) slices_S8192x8192_S8192x2048_0_2048)) := by
  simp only [start, entryContents, afterL_cons, afterL_nil]
  after_reads_simp
  rfl

/-- … and the values … -/
theorem values_eq : (start m c (Proc.devRef .tc main_v42_2) : Vec Ideal S32x128x64x128 .f32)
    = gathered (split (extractStridedSlice S8192x4096 ![0, 4096] (arg0 m c) slices_S8192x8192_S8192x4096_0_4096)) := by
  simp only [start, entryContents, afterL_cons, afterL_nil]
  after_reads_simp
  rfl

/-- … and the gates … -/
theorem steps_eq : (start m c (Proc.devRef .tc main_v42_3) : Vec Ideal S32x128x64 .f32) = gatheredColumn (steps (arg2 m c) (arg4 m c) (arg5 m c)) := by
  simp only [start, entryContents, afterL_cons, afterL_nil]
  after_reads_simp
  rfl

/-- … and the write strengths … -/
theorem strengths_eq : (start m c (Proc.devRef .tc main_v42_4) : Vec Ideal S32x128x64 .f32) = gatheredColumn (strengths (arg2 m c)) := by
  simp only [start, entryContents, afterL_cons, afterL_nil]
  after_reads_simp
  rfl

/-- … and the states. -/
theorem states_eq : (start m c (Proc.devRef .tc main_v42_6) : Vec Ideal S128x128x128 .f32)
    = joinedStates (arg3 m c) := by
  simp only [start, entryContents, afterL_cons, afterL_nil]
  after_reads_simp
  rfl

end Cert.Prompt.Entry

end
-- ==== Proof.Prompt.Loop.lean ====
module

public import proofs.«01_k».proof.Proof.Prompt.Entry

/-! # The reference's loop

After as many trips the states are those before as many chunks, and the outputs of every chunk passed are kept. -/

@[expose] public section

set_option maxRecDepth 65536

noncomputable section

namespace Cert.Prompt.Loop

open Cert.Reference5Ideal Cert.Reference5Ideal.Gen Cert.Reference5Ideal.Value Cert.Delta Cert.Prompt.Entry
open Idealize.ShloMosaic Idealize.ShloMosaic.TcCoe Idealize.SL.Sem Idealize.ShloMosaic.StableHlo

variable (m : (ℓ : Loc nD τ sig) → Buf (Elt Ideal) ℓ) (c : Dev nD)

/-- What the loop holds after `t` trips. -/
abbrev held (t : ℕ) : Valuation τ sig (Elt Ideal) := STEP^[t] (start m c)

/-- One trip more. -/
theorem held_succ (t : ℕ) : held m c (t + 1) = STEP (held m c t) := Function.iterate_succ_apply' ..

/-- The arrays the trips only read stay the same: queries … -/
theorem keeps0 : ∀ t, held m c t (Proc.devRef .tc main_v42_0) = start m c (Proc.devRef .tc main_v42_0)
  | 0 => rfl
  | t + 1 => by rw [held_succ, STEP_main_v42_0]; exact keeps0 t

/-- … keys … -/
theorem keeps1 : ∀ t, held m c t (Proc.devRef .tc main_v42_1) = start m c (Proc.devRef .tc main_v42_1)
  | 0 => rfl
  | t + 1 => by rw [held_succ, STEP_main_v42_1]; exact keeps1 t

/-- … values … -/
theorem keeps2 : ∀ t, held m c t (Proc.devRef .tc main_v42_2) = start m c (Proc.devRef .tc main_v42_2)
  | 0 => rfl
  | t + 1 => by rw [held_succ, STEP_main_v42_2]; exact keeps2 t

/-- … gates … -/
theorem keeps3 : ∀ t, held m c t (Proc.devRef .tc main_v42_3) = start m c (Proc.devRef .tc main_v42_3)
  | 0 => rfl
  | t + 1 => by rw [held_succ, STEP_main_v42_3]; exact keeps3 t

/-- … and write strengths. -/
theorem keeps4 : ∀ t, held m c t (Proc.devRef .tc main_v42_4) = start m c (Proc.devRef .tc main_v42_4)
  | 0 => rfl
  | t + 1 => by rw [held_succ, STEP_main_v42_4]; exact keeps4 t

/-- The counter counts the trips. -/
theorem counter : ∀ t, (held m c t (Proc.devRef .tc main_v42_5) : IVec S_ 32) = fun _ => BitVec.ofNat 32 t
  | 0 => ctr_entry m c
  | t + 1 => by rw [held_succ, STEP_main_v42_5]; exact Trip.count_step (counter t)

variable (b : Fin 4) (n : Fin 32) (h : Fin 32) (t : ℕ)

/-- The queries a trip finds … -/
theorem q_eq : Trip.q (held m c t) n (joint b h) = Seq.q (arg0 m c) (Seq.chunk b n.val) h := funext fun i => funext fun d => by
  unfold Trip.q
  rw [keeps0, queries_eq, gathered_at, doubled_at]
  pointwise []
  refine congrArg (arg0 m c) (funext fun a => Fin.ext ?_)
  match a with
  | ⟨0, _⟩ => rfl
  | ⟨1, _⟩ => dsimp [Ref.colQ, ix2]

/-- … and the keys … -/
theorem k_eq : Trip.k (held m c t) n (joint b h) = Seq.k (arg0 m c) (Seq.chunk b n.val) h := funext fun i => funext fun d => by
  unfold Trip.k
  rw [keeps1, keys_eq, gathered_at, doubled_at]
  pointwise []
  rfl

/-- … and the values … -/
theorem v_eq : Trip.v (held m c t) n (joint b h) = Seq.v (arg0 m c) (Seq.chunk b n.val) h := funext fun i => funext fun d => by
  unfold Trip.v
  rw [keeps2, values_eq, gathered_at, split_at]
  pointwise []
  rfl

/-- … and the write strengths … -/
theorem β_eq : Trip.β (held m c t) n (joint b h) = Seq.β (arg2 m c) (Seq.chunk b n.val) h := funext fun i => by
  unfold Trip.β
  rw [keeps4, Entry.strengths_eq, gatheredColumn_at, Entry.strengths_at]

/-- … and the gates. -/
theorem G_eq : Trip.G (held m c t) n (joint b h) = Seq.G (arg2 m c) (arg4 m c) (arg5 m c) (Seq.chunk b n.val) h := funext fun i => by
  unfold Trip.G
  refine congrArg (fun f => Rule.accumulate f i) (funext fun j => ?_)
  rw [keeps3, Entry.steps_eq, gatheredColumn_at, Entry.steps_at]

variable (hr : Seq.Real (arg0 m c))
include hr

/-- Every trip's system is solved. -/
theorem solved (hc : Trip.Counts (held m c t) n) : Trip.Solved (held m c t) n (joint b h) := fun i j =>
  Trip.solved_at (joint b h) hc (fun i d => by rw [k_eq]; exact hr.key _ h i d) (fun i => by rw [β_eq]; exact Seq.strength_real _ _ h i)
    (by rw [G_eq]; exact Seq.gates_falling _ _ _ _ h) i j

/-- The states after `t` trips. -/
theorem states (t : ℕ) (ht : t ≤ 32) (h : Fin 32) :
    Trip.s (held m c t) (joint b h) = Seq.states (arg0 m c) (arg2 m c) (arg3 m c) (arg4 m c) (arg5 m c) b t h := by
  induction t with
  | zero =>
    funext e d
    unfold Trip.s
    rw [show held m c 0 = start m c from rfl, states_eq, joinedStates_at]
    rfl
  | succ t ih =>
    have hc : Trip.Counts (held m c t) (⟨t, by omega⟩ : Fin 32) := counter m c t
    funext e d
    unfold Trip.s
    rw [held_succ, STEP_main_v42_6]
    refine (Trip.state_at (joint b h) hc (solved m c b _ h t hr hc) e d).trans ?_
    unfold Trip.T
    rw [k_eq, v_eq, β_eq, G_eq, ih (by omega)]
    rfl

/-- The outputs kept after `t` trips. -/
theorem kept (t : ℕ) (ht : t ≤ 32) (hn : n.val < t) (i : Fin 64) (d : Fin 128) :
    (held m c t (Proc.devRef .tc main_v42_7) : Vec Ideal S32x128x64x128 .f32) (ix4 n (joint b h) i d)
      = Seq.raw (arg0 m c) (arg2 m c) (arg3 m c) (arg4 m c) (arg5 m c) (Seq.chunk b n.val) h i d := by
  induction t with
  | zero => omega
  | succ t ih =>
    have hc : Trip.Counts (held m c t) (⟨t, by omega⟩ : Fin 32) := counter m c t
    rw [held_succ, STEP_main_v42_7]
    refine (Trip.kept_at (joint b h) hc (solved m c b _ h t hr hc) n i d).trans ?_
    by_cases hnt : n = ⟨t, by omega⟩
    · have hv : n.val = t := congrArg Fin.val hnt
      rw [if_pos hnt, ← hnt]
      unfold Trip.T Seq.raw
      rw [q_eq, k_eq, v_eq, β_eq, G_eq, states m c b hr t (by omega) h, Seq.batch_chunk, Seq.chunk_mod, hv]
      rfl
    · rw [if_neg hnt]
      exact ih (by omega) (by have : n.val ≠ t := fun e => hnt (Fin.ext e); omega)

/-! ## The two results -/

/-- The outputs before the norm, back by sequence, chunk and row. -/
def ordered (o : FVec Ideal S32x128x64x128 .f32) : FVec Ideal S4x32x64x32x128 .f32 :=
  transpose S4x32x64x32x128 [1, 0, 3, 2, 4] (shapeCast S32x4x32x64x128 o shapeCasts_S32x128x64x128_S32x4x32x64x128)
    transposes_S32x4x32x64x128_S4x32x64x32x128_1_0_3_2_4

/-- The normed and gated outputs, by sequence, chunk and head, from the outputs before the norm. -/
def gated (o z : FVec Ideal S4x32x64x32x128 .f32) (w : FVec Ideal S128 .f32) : FVec Ideal S4x32x64x32x128 .f32 :=
  mulf (mulf (mulf o (broadcastInDim S4x32x64x32x128 ![0, 1, 2, 3, 4] bcast_S4x32x64x32x1_S4x32x64x32x128_0_1_2_3_4 (Host.rsqrt (addf (Host.divf
        (broadcastInDim S4x32x64x32x1 ![0, 1, 2, 3] bcast_S4x32x64x32_S4x32x64x32x1_0_1_2_3 (Host.reduceAdd (mulf o o)
          (constant S_ .f32 0x00000000#32) reducesTo_S4x32x64x32x128_S4x32x64x32_d4 h_S_))
        (broadcastInDim S4x32x64x32x1 ![] bcast_S_S4x32x64x32x1 (constant S_ .f32 0x43000000#32)))
        (broadcastInDim S4x32x64x32x1 ![] bcast_S_S4x32x64x32x1 (constant S_ .f32 0x358637BD#32))))))
      (broadcastInDim S4x32x64x32x128 ![0, 1, 2, 3, 4] bcast_S1x1x1x1x128_S4x32x64x32x128_0_1_2_3_4
        (broadcastInDim S1x1x1x1x128 ![4] bcast_S128_S1x1x1x1x128_4 w)))
    (mulf z (Host.divf (broadcastInDim S4x32x64x32x128 ![] bcast_S_S4x32x64x32x128 (constant S_ .f32 0x3F800000#32))
      (addf (broadcastInDim S4x32x64x32x128 ![] bcast_S_S4x32x64x32x128 (constant S_ .f32 0x3F800000#32)) (Host.exp (Host.negf z)))))

/-- The outputs as the reference stores them. -/
def finished (o : FVec Ideal S32x128x64x128 .f32) (z : FVec Ideal S8192x4096 .f32) (w : FVec Ideal S128 .f32) : FVec Ideal S8192x4096 .bf16 :=
  truncf .bf16 (shapeCast S8192x4096 (gated (ordered o) (shapeCast S4x32x64x32x128 z shapeCasts_S8192x4096_S4x32x64x32x128) w)
    shapeCasts_S4x32x64x32x128_S8192x4096) bitsLt_bf16_f32

omit hr in
/-- The reference's first result. -/
theorem finished_eq (V0 : Valuation τ sig (Elt Ideal)) : (out_main_v63 V0 : Vec Ideal S8192x4096 .bf16)
    = finished (V0 (Proc.devRef .tc main_v42_7)) (extractStridedSlice S8192x4096 ![0, 8192] (V0 (Proc.devRef .tc main_arg1))
        slices_S9216x12288_S8192x4096_0_8192) (V0 (Proc.devRef .tc main_arg6)) := rfl

omit hr in
/-- The outputs joined to rows. -/
theorem joined (x : FVec Ideal S4x32x64x32x128 .f32) (i : Fin 64) (d : Fin 128) :
    shapeCast S8192x4096 x shapeCasts_S4x32x64x32x128_S8192x4096 (ix2 (Seq.row (Seq.chunk b n.val) i) (Ref.colO h d)) = x (ix5 b n i h d) := by
  pointwise []
  refine congrArg x (funext fun a => Fin.ext ?_)
  match a with
  | ⟨0, _⟩ => dsimp [Seq.row, Seq.chunk, Ref.colO, ix5]; omega
  | ⟨1, _⟩ => dsimp [Seq.row, Seq.chunk, Ref.colO, ix5]; omega
  | ⟨2, _⟩ => dsimp [Seq.row, Seq.chunk, Ref.colO, ix5]; omega
  | ⟨3, _⟩ => dsimp [Seq.row, Seq.chunk, Ref.colO, ix5]; omega
  | ⟨4, _⟩ => dsimp [Seq.row, Seq.chunk, Ref.colO, ix5]; omega

omit hr in
/-- The outputs before the norm at an index. -/
theorem ordered_at (o : FVec Ideal S32x128x64x128 .f32) (i : Fin 64) (d : Fin 128) :
    ordered o (ix5 b n i h d) = o (ix4 n (joint b h) i d) := by
  pointwise [ordered]
  refine congrArg o (funext fun a => Fin.ext ?_)
  match a with
  | ⟨0, _⟩ => dsimp [joint, ix4]
  | ⟨1, _⟩ => dsimp [joint, ix4]; omega
  | ⟨2, _⟩ => dsimp [joint, ix4]
  | ⟨3, _⟩ => dsimp [joint, ix4]

omit hr in
/-- The normed and gated outputs at an index. -/
theorem gated_at (o z : FVec Ideal S4x32x64x32x128 .f32) (w : FVec Ideal S128 .f32) (i : Fin 64) (d : Fin 128) :
    gated o z w (ix5 b n i h d) = Rule.normed (fun e => o (ix5 b n i h e)) (fun e => w (ix1 e)) (fun e => z (ix5 b n i h e)) d := by
  pointwise [gated]
  rfl

omit hr in
/-- The reference's outputs at an index. -/
theorem finished_at (V0 : Valuation τ sig (Elt Ideal)) (i : Fin 64) (d : Fin 128) :
    (out_main_v63 V0 : Vec Ideal S8192x4096 .bf16) (ix2 (Seq.row (Seq.chunk b n.val) i) (Ref.colO h d))
      = Rule.normed (fun e => (V0 (Proc.devRef .tc main_v42_7) : Vec Ideal S32x128x64x128 .f32) (ix4 n (joint b h) i e))
          (fun e => (V0 (Proc.devRef .tc main_arg6) : Vec Ideal S128 .f32) (ix1 e))
          (Seq.z (V0 (Proc.devRef .tc main_arg1)) (Seq.chunk b n.val) h i) d := by
  refine (congrFun (finished_eq V0) _).trans ((joined b n h _ i d).trans ((gated_at b n h _ _ _ i d).trans ?_))
  refine congr (congr (congrArg Rule.normed (funext fun e => ordered_at b n h _ i e)) rfl) (funext fun e => ?_) |> fun E => congrFun E d
  refine (Entry.split_at b n h i e _).trans ?_
  generalize (V0 (Proc.devRef .tc main_arg1) : Vec Ideal S9216x12288 .f32) = u
  pointwise []
  refine congrArg u (funext fun a => Fin.ext ?_)
  match a with
  | ⟨0, _⟩ => dsimp [Seq.row, Seq.rowZ, ix2]
  | ⟨1, _⟩ => dsimp [Ref.colO, Ref.colZ, ix2]

/-- The outputs the reference leaves. -/
theorem outputs_out (i : Fin 64) (d : Fin 128) :
    (out_main_v63 (held m c 32) : Vec Ideal S8192x4096 .bf16) (ix2 (Seq.row (Seq.chunk b n.val) i) (Ref.colO h d))
      = Seq.out (arg0 m c) (arg1 m c) (arg2 m c) (arg3 m c) (arg4 m c) (arg5 m c) (arg6 m c) (Seq.chunk b n.val) h i d := by
  have e1 : held m c 32 (Proc.devRef .tc main_arg1) = arg1 m c := iter_main_arg1 m c 32
  have e6 : held m c 32 (Proc.devRef .tc main_arg6) = arg6 m c := iter_main_arg6 m c 32
  have ho : (fun e => (held m c 32 (Proc.devRef .tc main_v42_7) : Vec Ideal S32x128x64x128 .f32) (ix4 n (joint b h) i e))
      = Seq.raw (arg0 m c) (arg2 m c) (arg3 m c) (arg4 m c) (arg5 m c) (Seq.chunk b n.val) h i :=
    funext fun e => kept m c b n h hr 32 le_rfl n.isLt i e
  rw [finished_at, e1, e6, ho]
  rfl

omit hr in
/-- The final states split by sequence. -/
theorem parted (u : FVec Ideal S128x128x128 .f32) (e d : Fin 128) :
    shapeCast S4x32x128x128 u shapeCasts_S128x128x128_S4x32x128x128 (ix4 b h e d) = u (ix3 (joint b h) e d) := by
  pointwise []
  refine congrArg u (funext fun a => Fin.ext ?_)
  match a with
  | ⟨0, _⟩ => dsimp [joint, ix3]; omega
  | ⟨1, _⟩ => dsimp [joint, ix3]
  | ⟨2, _⟩ => dsimp [joint, ix3]

/-- The states the reference leaves. -/
theorem states_out (h : Fin 32) (e d : Fin 128) : (out_main_v64 (held m c 32) : Vec Ideal S4x32x128x128 .f32) (ix4 b h e d)
    = Seq.states (arg0 m c) (arg2 m c) (arg3 m c) (arg4 m c) (arg5 m c) b 32 h e d := by
  rw [← states m c b hr 32 le_rfl h]
  exact parted b h _ e d

end Cert.Prompt.Loop

end
-- ==== Proof.Prompt.Host.lean ====
module

public import proofs.«01_k».proof.Proof.Prompt.Loop

/-! # What the host hands the prompt's call

The terms the host computes before the call, and what they are at an index. -/

@[expose] public section

set_option maxRecDepth 65536

noncomputable section

namespace Cert.Prompt

open Cert.Kernel5Ideal Cert.Kernel5Ideal.Gen Cert.Delta
open Idealize.ShloMosaic Idealize.ShloMosaic.TcCoe Idealize.SL.Sem

/-- A constant over every row and head. -/
def everywhere (v : BitVec 32) : FVec Ideal S8192x32 .f32 :=
  broadcastInDim S8192x32 ![] bcast_S_S8192x32 (constant (F := Ideal) S_ .f32 v)

/-- The write strengths: a logistic of the first 32 columns. -/
def strengths (x2 : FVec Ideal S8192x128 .f32) : FVec Ideal S8192x32 .f32 :=
  Host.divf (everywhere 0x3F800000#32) (addf (everywhere 0x3F800000#32)
    (Host.exp (Host.negf (extractStridedSlice S8192x32 ![0, 0] x2 slices_S8192x128_S8192x32_0_0))))

/-- The next 32 columns with the bias of the step size added. -/
def shifted (x2 : FVec Ideal S8192x128 .f32) (x5 : FVec Ideal S32 .f32) : FVec Ideal S8192x32 .f32 :=
  addf (extractStridedSlice S8192x32 ![0, 32] x2 slices_S8192x128_S8192x32_0_32)
    (broadcastInDim S8192x32 ![0, 1] bcast_S1x32_S8192x32_0_1 (broadcastInDim S1x32 ![1] bcast_S32_S1x32_1 x5))

/-- The softplus, with its branch for a difference that isn't itself. -/
def softplus (y : FVec Ideal S8192x32 .f32) : FVec Ideal S8192x32 .f32 :=
  select (cmpf .une (subf y (everywhere 0#32)) (subf y (everywhere 0#32))) (addf y (everywhere 0#32))
    (addf (maximumf y (everywhere 0#32)) (Host.log1p (Host.exp (Host.negf (Host.absf (subf y (everywhere 0#32)))))))

/-- The logarithm of each step's decay. -/
def steps (x2 : FVec Ideal S8192x128 .f32) (x4 x5 : FVec Ideal S32 .f32) : FVec Ideal S8192x32 .f32 :=
  mulf (broadcastInDim S8192x32 ![0, 1] bcast_S1x32_S8192x32_0_1 (broadcastInDim S1x32 ![1] bcast_S32_S1x32_1
    (Host.negf (Host.exp x4)))) (softplus (shifted x2 x5))

/-- The steps by sequence and chunk. -/
def split (x2 : FVec Ideal S8192x128 .f32) (x4 x5 : FVec Ideal S32 .f32) : FVec Ideal S4x32x64x32 .f32 :=
  shapeCast S4x32x64x32 (steps x2 x4 x5) shapeCasts_S8192x32_S4x32x64x32

/-- Their running sums over a chunk's rows. -/
def summed (x2 : FVec Ideal S8192x128 .f32) (x4 x5 : FVec Ideal S32 .f32) : FVec Ideal S4x32x64x32 .f32 :=
  Host.reduceWindowAdd (F := Ideal) (φ := .f32) (t := S4x32x64x32) ![1, 1, 64, 1] ![1, 1, 1, 1] ![0, 0, 63, 0] ![0, 0, 0, 0]
    (split x2 x4 x5) (broadcastInDim S_ ![] bcast_S_S_ (constant (F := Ideal) S_ .f32 0#32))
    reduceWindows_S4x32x64x32_S4x32x64x32_w1s1p0_0_w1s1p0_0_w64s1p63_0_w1s1p0_0 h_S_

/-- Gates and write strengths side by side, one column a head. -/
def columns (x2 : FVec Ideal S8192x128 .f32) (x4 x5 : FVec Ideal S32 .f32) : FVec Ideal S4x2x2048x32 .f32 :=
  transpose S4x2x2048x32 [0, 2, 1, 3] (concatenate S4x2048x2x32 3
    [⟨S4x2048x2x16, shapeCast S4x2048x2x16 (summed x2 x4 x5) shapeCasts_S4x32x64x32_S4x2048x2x16⟩,
     ⟨S4x2048x2x16, shapeCast S4x2048x2x16 (strengths x2) shapeCasts_S8192x32_S4x2048x2x16⟩]
    concatenates_S4x2048x2x16_S4x2048x2x16_S4x2048x2x32_d3) transposes_S4x2048x2x32_S4x2x2048x32_0_2_1_3

/-- The gates again, one row a head. -/
def rows (x2 : FVec Ideal S8192x128 .f32) (x4 x5 : FVec Ideal S32 .f32) : FVec Ideal S4x2x32x16x64 .f32 :=
  transpose S4x2x32x16x64 [0, 3, 1, 4, 2]
    (shapeCast S4x32x64x2x16 (summed x2 x4 x5) shapeCasts_S4x32x64x32_S4x32x64x2x16)
    transposes_S4x32x64x2x16_S4x2x32x16x64_0_3_1_4_2

section Arguments

variable (m : (ℓ : Loc nD τ sig) → Buf (Elt Ideal) ℓ) (c : Dev nD)

/-- The convolved queries, keys and values. -/
abbrev arg0 : Vec Ideal S8192x8192 .f32 := m ((c : Thread nD τ).loc main_arg0)
/-- The projected rows, whose last columns gate the output. -/
abbrev arg1 : Vec Ideal S9216x12288 .f32 := m ((c : Thread nD τ).loc main_arg1)
/-- The columns gates and write strengths come from. -/
abbrev arg2 : Vec Ideal S8192x128 .f32 := m ((c : Thread nD τ).loc main_arg2)
/-- The old states. -/
abbrev arg3 : Vec Ideal S1x4x32x128x128 .f32 := m ((c : Thread nD τ).loc main_arg3)
/-- The logarithms of the decay rates. -/
abbrev arg4 : Vec Ideal S32 .f32 := m ((c : Thread nD τ).loc main_arg4)
/-- The biases of the step sizes. -/
abbrev arg5 : Vec Ideal S32 .f32 := m ((c : Thread nD τ).loc main_arg5)
/-- The weights of the norm. -/
abbrev arg6 : Vec Ideal S128 .f32 := m ((c : Thread nD τ).loc main_arg6)

/-- The columns as the call gets them. -/
theorem columns_eq : (V m c main_v22 : Vec Ideal S4x2x2048x32 .f32) = columns (arg2 m c) (arg4 m c) (arg5 m c) := by
  unfold_abbrev_sides
  simp only [hostOps0, hostOps0_1, hostOps0_2, hostOps0_3, hostOps0_4, List.flatten_cons, List.flatten_nil,
    List.append_nil, List.cons_append, List.nil_append]
  after_results
  rfl

/-- The rows as the call gets them. -/
theorem rows_eq : (V m c main_v24 : Vec Ideal S4x2x32x16x64 .f32) = rows (arg2 m c) (arg4 m c) (arg5 m c) := by
  unfold_abbrev_sides
  simp only [hostOps0, hostOps0_1, hostOps0_2, hostOps0_3, hostOps0_4, List.flatten_cons, List.flatten_nil,
    List.append_nil, List.cons_append, List.nil_append]
  after_results
  rfl

/-- The weights of the norm as one row. -/
theorem norm_eq : (V m c main_v25 : Vec Ideal S1x128 .f32) = shapeCast S1x128 (arg6 m c) shapeCasts_S128_S1x128 := by
  unfold_abbrev_sides
  simp only [hostOps0, hostOps0_1, hostOps0_2, hostOps0_3, hostOps0_4, List.flatten_cons, List.flatten_nil,
    List.append_nil, List.cons_append, List.nil_append]
  after_results
  rfl

end Arguments

/-- The kernel's running sum at an index. -/
theorem scan_at (x : Vec Ideal S4x32x64x32 .f32) (v : Vec Ideal S_ .f32) (hv : v ix0 = (0 : EReal))
    (hw : S4x32x64x32.ReduceWindows ![1, 1, 64, 1] ![1, 1, 1, 1] ![0, 0, 63, 0] ![0, 0, 0, 0] S4x32x64x32) (hu : 0 < S_.numel)
    (s : Fin 4) (b : Fin 32) (h : Fin 32) (i : Fin 64) :
    Host.reduceWindowAdd (F := Ideal) (φ := .f32) (t := S4x32x64x32) ![1, 1, 64, 1] ![1, 1, 1, 1] ![0, 0, 63, 0] ![0, 0, 0, 0] x v hw hu (ix4 s b i h)
      = Rule.accumulate (fun n => x (ix4 s b n h)) i := by
  have hN : (⟨4, ![1, 1, 64, 1]⟩ : Shape).numel = 64 := by decide
  have hv' : v (Shape.Idx.first hu) = (0 : EReal) := by
    rw [← hv]; exact congrArg v (Subsingleton.elim _ _)
  show Host.reduceWindow (· + ·) ![1, 1, 64, 1] ![1, 1, 1, 1] ![0, 0, 63, 0] ![0, 0, 0, 0] x (fun _ : (⟨0, ![]⟩ : Shape).Idx => v (Shape.Idx.first hu)) hw hu (ix4 s b i h) = _
  unfold Host.reduceWindow Rule.accumulate
  dsimp only
  rw [hv']
  refine (Rule.foldl_cast hN _ _).trans ?_
  congr 1
  funext r n
  congr 1
  obtain ⟨p, hp⟩ : ∃ p, p = (⟨4, ![1, 1, 64, 1]⟩ : Shape).rowMajor.symm (n.cast hN.symm) := ⟨_, rfl⟩
  have hpn : ((⟨4, ![1, 1, 64, 1]⟩ : Shape).rowMajor p).val = n.val := by rw [hp, Equiv.apply_symm_apply]; rfl
  rw [Shape.rowMajor_val_four] at hpn
  have h0 : (p 0).val < 1 := (p 0).isLt
  have h1 : (p 1).val < 1 := (p 1).isLt
  have h3 : (p 3).val < 1 := (p 3).isLt
  have h2 : (p 2).val = n.val := by
    have : (((p 0).val * 1 + (p 1).val) * 64 + (p 2).val) * 1 + (p 3).val = n.val := hpn
    omega
  obtain ⟨w, hw'⟩ : ∃ w : Fin 4 → ℕ, ∀ a, (p a).val = w a := ⟨_, fun _ => rfl⟩
  subst hp
  simp only [hw'] at *
  by_cases hn : 63 ≤ i.val + n.val
  · rw [dif_pos hn]
    refine (dif_pos fun a => ?_).trans (congrArg x (funext fun a => Fin.ext ?_))
    · match a with
      | ⟨0, _⟩ => show 0 ≤ s.val * 1 + w 0 ∧ s.val * 1 + w 0 - 0 < 4; omega
      | ⟨1, _⟩ => show 0 ≤ b.val * 1 + w 1 ∧ b.val * 1 + w 1 - 0 < 32; omega
      | ⟨2, _⟩ => show 63 ≤ i.val * 1 + w 2 ∧ i.val * 1 + w 2 - 63 < 64; omega
      | ⟨3, _⟩ => show 0 ≤ h.val * 1 + w 3 ∧ h.val * 1 + w 3 - 0 < 32; omega
    · match a with
      | ⟨0, _⟩ => show s.val * 1 + w 0 - 0 = s.val; omega
      | ⟨1, _⟩ => show b.val * 1 + w 1 - 0 = b.val; omega
      | ⟨2, _⟩ => show i.val * 1 + w 2 - 63 = i.val + n.val - 63; omega
      | ⟨3, _⟩ => show h.val * 1 + w 3 - 0 = h.val; omega
  · rw [dif_neg hn]
    refine dif_neg fun hin => hn ?_
    have : 63 ≤ i.val * 1 + w 2 := (hin 2).1
    omega

variable (x2 : FVec Ideal S8192x128 .f32) (x4 x5 : FVec Ideal S32 .f32) (b : Fin 4) (n : Fin 32) (i : Fin 64) (a : Fin 2) (r : Fin 16)

/-- Head `r` of group `a` among all heads. -/
def head (a : Fin 2) (r : Fin 16) : Fin 32 := ⟨16 * a.val + r.val, by omega⟩

/-- The kernel's write strengths at an index. -/
theorem strengths_at (j : Fin 8192) (h : Fin 32) : strengths x2 (ix2 j h) = Rule.strength (x2 (ix2 j ⟨h.val, by omega⟩)) := by
  pointwise [strengths, everywhere]
  rfl

/-- The kernel's steps at an index. -/
theorem steps_at (j : Fin 8192) (h : Fin 32) :
    steps x2 x4 x5 (ix2 j h) = Rule.step (x4 (ix1 h)) (x2 (ix2 j ⟨32 + h.val, by omega⟩) + x5 (ix1 h)) := by
  pointwise [steps, softplus, shifted, everywhere]
  rw [if_neg (fun hne => hne rfl)]
  rfl

/-- Row `i` of chunk `n` within a sequence. -/
def rowIn (n : Fin 32) (i : Fin 64) : Fin 2048 := ⟨64 * n.val + i.val, by omega⟩

/-- The running sums are the sequence's gates. -/
theorem summed_at (h : Fin 32) : summed x2 x4 x5 (ix4 b n i h) = Seq.G x2 x4 x5 (Seq.chunk b n.val) h i := by
  refine (scan_at _ _ (by pointwise []) _ _ b n h i).trans (congrArg (fun f => Rule.accumulate f i) (funext fun j => ?_))
  have e : split x2 x4 x5 (ix4 b n j h) = steps x2 x4 x5 (ix2 (Seq.row (Seq.chunk b n.val) j) h) := by
    pointwise [split]
    refine congrArg (steps x2 x4 x5) (funext fun a => Fin.ext ?_)
    match a with
    | ⟨0, _⟩ => dsimp [Seq.row, Seq.chunk, ix2]; omega
    | ⟨1, _⟩ => rfl
  rw [e, steps_at]
  rfl

/-- A gate column. -/
theorem columns_gate : columns x2 x4 x5 (ix4 b a (rowIn n i) ⟨r.val, by omega⟩) = Seq.G x2 x4 x5 (Seq.chunk b n.val) (head a r) i := by
  rw [← summed_at]
  pointwise [columns]
  refine congrArg (summed x2 x4 x5) (funext fun b => Fin.ext ?_)
  match b with
  | ⟨0, _⟩ => dsimp [rowIn, head, ix4]
  | ⟨1, _⟩ => dsimp [rowIn, head, ix4]; omega
  | ⟨2, _⟩ => dsimp [rowIn, head, ix4]; omega
  | ⟨3, _⟩ => dsimp [rowIn, head, ix4]; omega

/-- A column of write strengths. -/
theorem columns_strength : columns x2 x4 x5 (ix4 b a (rowIn n i) ⟨16 + r.val, by omega⟩) = Seq.β x2 (Seq.chunk b n.val) (head a r) i := by
  refine Eq.trans ?_ (strengths_at x2 (Seq.row (Seq.chunk b n.val) i) (head a r))
  pointwise [columns]
  refine congrArg (strengths x2) (funext fun b => Fin.ext ?_)
  match b with
  | ⟨0, _⟩ => dsimp [Seq.row, Seq.chunk, rowIn, head, ix2]; omega
  | ⟨1, _⟩ => dsimp [Seq.row, Seq.chunk, rowIn, head, ix2]; omega

/-- A gate row. -/
theorem rows_gate : rows x2 x4 x5 (ix5 b a n r i) = Seq.G x2 x4 x5 (Seq.chunk b n.val) (head a r) i := by
  rw [← summed_at]
  pointwise [rows]
  refine congrArg (summed x2 x4 x5) (funext fun b => Fin.ext ?_)
  match b with
  | ⟨0, _⟩ => dsimp [head, ix4]
  | ⟨1, _⟩ => dsimp [head, ix4]
  | ⟨2, _⟩ => dsimp [head, ix4]
  | ⟨3, _⟩ => dsimp [head, ix4]; omega

end Cert.Prompt

end
-- ==== Proof.Prompt.Reads.lean ====
module

public import proofs.«01_k».proof.Proof.Prompt.Host

/-! # The blocks a grid point reads

Point `64 b + 32 a + n` reads chunk `n` of sequence `b` of the operands of head group `a`: each head's operands are
the sequence's for that chunk and head. -/

@[expose] public section

set_option maxRecDepth 65536

noncomputable section

namespace Cert.Prompt

open Cert.Kernel5Ideal Cert.Kernel5Ideal.Gen Cert.Delta
open Idealize.ShloMosaic Idealize.ShloMosaic.TcCoe Idealize.SL.Sem

/-! ## A head's operands in the blocks -/

section Operands

variable (h : Fin 16) (i : Fin 64) (d : Fin 128)

/-- An array of one matrix, read as the matrix. -/
theorem shapeCast_one (w : Vec Ideal S1x128x128 .f32) (e d : Fin 128) :
    shapeCast S128x128 w shapeCasts_S1x128x128_S128x128 (ix2 e d) = w (ix3 0 e d) := by
  pointwise []

/-- A matrix, read as an array of one. -/
theorem shapeCast_lone (w : Vec Ideal S128x128 .f32) (e d : Fin 128) :
    shapeCast S1x128x128 w shapeCasts_S128x128_S1x128x128 (ix3 0 e d) = w (ix2 e d) := by
  pointwise []

/-- The states of one group, read as such. -/
theorem shapeCast_states (x : Vec Ideal S1x1x16x128x128 .f32) (e : Fin 128) :
    shapeCast S16x128x128 (shapeCast S16x128x128 x shapeCasts_S1x1x16x128x128_S16x128x128) shapeCasts_S16x128x128_S16x128x128
      (ix3 h e d) = x (ix5 0 0 h e d) := by
  pointwise []

/-- The states the first chunk of a group starts from. -/
theorem firstStates_at (x : Vec Ideal S1x1x16x128x128 .f32) (e : Fin 128) : k0_pay3 x (ix3 h e d) = x (ix5 0 0 h e d) :=
  shapeCast_states h d x e

/-- A query or key. -/
theorem keyOf_at (x : Vec Ideal S64x1024 .f32) : keyOf x h (ix2 i d) = x (ix2 i ⟨128 * (h.val / 2) + d.val, by omega⟩) := by
  refine congrArg x (funext fun a => Fin.ext ?_)
  match a with
  | ⟨0, _⟩ => show 0 + 1 * i.val = i.val; omega
  | ⟨1, _⟩ => show 128 * (h.val / 2) + 1 * d.val = 128 * (h.val / 2) + d.val; omega

/-- A value or output gate. -/
theorem valueOf_at (x : Vec Ideal S64x2048 .f32) : valueOf x h (ix2 i d) = x (ix2 i ⟨128 * h.val + d.val, by omega⟩) := by
  refine congrArg x (funext fun a => Fin.ext ?_)
  match a with
  | ⟨0, _⟩ => show 0 + 1 * i.val = i.val; omega
  | ⟨1, _⟩ => show 128 * h.val + 1 * d.val = 128 * h.val + d.val; omega

/-- An entry of a column. -/
theorem column_at (x : Vec Ideal S1x1x64x32 .f32) (j : Fin 32) :
    extractStridedSlice S64x1 ![0, j.val] (k0_pay7 x) (slices_col j) (ix2 i 0) = x (ix4 0 0 i j) := by
  show extractStridedSlice S64x1 ![0, j.val] (shapeCast S64x32 x shapeCasts_S1x1x64x32_S64x32) _ (ix2 i 0) = _
  pointwise []

/-- An entry of a row. -/
theorem row_at (x : Vec Ideal S1x1x1x16x64 .f32) :
    extractStridedSlice S1x64 ![h.val, 0] (k0_pay8 x) (slices_row h) (ix2 0 i) = x (ix5 0 0 0 h i) := by
  show extractStridedSlice S1x64 ![h.val, 0] (shapeCast S16x64 x shapeCasts_S1x1x1x16x64_S16x64) _ (ix2 0 i) = _
  pointwise []

/-- An entry of a state found. -/
theorem heldState_at (xs : Vec Ideal S16x128x128 .f32) (e : Fin 128) :
    shapeCast S128x128 (heldState xs h) shapeCasts_S1x128x128_S128x128 (ix2 e d) = xs (ix3 h e d) := by
  rw [shapeCast_one]
  refine congrArg xs (funext fun a => Fin.ext ?_)
  match a with
  | ⟨0, _⟩ => show h.val + 1 * 0 = h.val; omega
  | ⟨1, _⟩ => show 0 + 1 * e.val = e.val; omega
  | ⟨2, _⟩ => show 0 + 1 * d.val = d.val; omega

/-- A weight of the norm. -/
theorem normOf_at (x : Vec Ideal S1x128 .f32) : k0_pay9 x (ix2 0 d) = x (ix2 0 d) := by
  show shapeCast S1x128 x shapeCasts_S1x128_S1x128 (ix2 0 d) = _
  pointwise []

end Operands

/-! ## The blocks -/

/-- Which block each window stages at a point. -/
theorem index_facts : ∀ t : Fin grid0.N, win0_0.index t 0 = 32 * (t.val / 64) + t.val % 32 ∧ win0_0.index t 1 = t.val / 32 % 2
    ∧ win0_1.index t 0 = 32 * (t.val / 64) + t.val % 32 ∧ win0_1.index t 1 = 2 + t.val / 32 % 2
    ∧ win0_2.index t 0 = 32 * (t.val / 64) + t.val % 32 ∧ win0_2.index t 1 = 2 + t.val / 32 % 2
    ∧ win0_3.index t 0 = 32 * (t.val / 64) + t.val % 32 ∧ win0_3.index t 1 = 4 + t.val / 32 % 2
    ∧ win0_4.index t 0 = t.val / 64 ∧ win0_4.index t 1 = t.val / 32 % 2 ∧ win0_4.index t 2 = t.val % 32 ∧ win0_4.index t 3 = 0
    ∧ win0_5.index t 0 = t.val / 64 ∧ win0_5.index t 1 = t.val / 32 % 2 ∧ win0_5.index t 2 = t.val % 32 ∧ win0_5.index t 3 = 0 ∧ win0_5.index t 4 = 0 := by
  decide +kernel

/-- … and the windows of the states, the norm and the results. -/
theorem index_facts' : ∀ t : Fin grid0.N, win0_6.index t 0 = 0 ∧ win0_6.index t 1 = t.val / 64 ∧ win0_6.index t 2 = t.val / 32 % 2
    ∧ win0_6.index t 3 = 0 ∧ win0_6.index t 4 = 0
    ∧ win0_7.index t 0 = 0 ∧ win0_7.index t 1 = 0
    ∧ win0_8.index t 0 = 32 * (t.val / 64) + t.val % 32 ∧ win0_8.index t 1 = t.val / 32 % 2
    ∧ win0_9.index t 0 = t.val / 64 ∧ win0_9.index t 1 = t.val / 32 % 2 ∧ win0_9.index t 2 = 0 ∧ win0_9.index t 3 = 0 := by
  decide +kernel

variable (m : (ℓ : Loc nD τ sig) → Buf (Elt Ideal) ℓ) (c : Dev nD) (t : Fin cfg0.N)

/-- The sequence of a point. -/
def batch : Fin 4 := ⟨t.val / 64, by have : t.val < 256 := t.isLt; omega⟩

/-- The head group of a point. -/
def group : Fin 2 := ⟨t.val / 32 % 2, by omega⟩

/-- The chunk of a point within its sequence. -/
def turn : Fin 32 := ⟨t.val % 32, by omega⟩

/-- The chunk of a point. -/
abbrev chunk : Fin 128 := Seq.chunk (batch t) (turn t).val

variable (h : Fin 16) (i : Fin 64) (d e : Fin 128)

/-- The queries a point reads. -/
theorem query_read : keyOf (iblk m c 0 t : Vec Ideal S64x1024 .f32) h (ix2 i d) = Seq.q (arg0 m c) (chunk t) (head (group t) h) i d := by
  obtain ⟨e0, e1, -⟩ := index_facts t
  refine (keyOf_at h i d _).trans ?_
  unfold iblk
  rw [View.read_apply]
  show m ((c : Thread nD τ).loc main_arg0) _ = m ((c : Thread nD τ).loc main_arg0) _
  congr 1
  funext a
  apply Fin.ext
  match a with
  | ⟨0, _⟩ => show win0_0.index t 0 * 64 + 1 * i.val = 64 * (32 * (t.val / 64) + t.val % 32 % 32) + i.val; rw [e0]; omega
  | ⟨1, _⟩ => show win0_0.index t 1 * 1024 + 1 * (128 * (h.val / 2) + d.val) = 128 * ((16 * (t.val / 32 % 2) + h.val) / 2) + d.val; rw [e1]; omega

/-- The keys a point reads. -/
theorem key_read : keyOf (iblk m c 1 t : Vec Ideal S64x1024 .f32) h (ix2 i d) = Seq.k (arg0 m c) (chunk t) (head (group t) h) i d := by
  obtain ⟨-, -, e0, e1, -⟩ := index_facts t
  refine (keyOf_at h i d _).trans ?_
  unfold iblk
  rw [View.read_apply]
  show m ((c : Thread nD τ).loc main_arg0) _ = m ((c : Thread nD τ).loc main_arg0) _
  congr 1
  funext a
  apply Fin.ext
  match a with
  | ⟨0, _⟩ => show win0_1.index t 0 * 64 + 1 * i.val = 64 * (32 * (t.val / 64) + t.val % 32 % 32) + i.val; rw [e0]; omega
  | ⟨1, _⟩ => show win0_1.index t 1 * 1024 + 1 * (128 * (h.val / 2) + d.val) = 2048 + (128 * ((16 * (t.val / 32 % 2) + h.val) / 2) + d.val); rw [e1]; omega

/-- The values a point reads. -/
theorem value_read : valueOf (iblk m c 2 t : Vec Ideal S64x2048 .f32) h (ix2 i d) = Seq.v (arg0 m c) (chunk t) (head (group t) h) i d := by
  obtain ⟨-, -, -, -, e0, e1, -⟩ := index_facts t
  refine (valueOf_at h i d _).trans ?_
  unfold iblk
  rw [View.read_apply]
  show m ((c : Thread nD τ).loc main_arg0) _ = m ((c : Thread nD τ).loc main_arg0) _
  congr 1
  funext a
  apply Fin.ext
  match a with
  | ⟨0, _⟩ => show win0_2.index t 0 * 64 + 1 * i.val = 64 * (32 * (t.val / 64) + t.val % 32 % 32) + i.val; rw [e0]; omega
  | ⟨1, _⟩ => show win0_2.index t 1 * 2048 + 1 * (128 * h.val + d.val) = 4096 + (128 * (16 * (t.val / 32 % 2) + h.val) + d.val); rw [e1]; omega

/-- The output gates a point reads. -/
theorem outgate_read : valueOf (iblk m c 3 t : Vec Ideal S64x2048 .f32) h (ix2 i d) = Seq.z (arg1 m c) (chunk t) (head (group t) h) i d := by
  obtain ⟨-, -, -, -, -, -, e0, e1, -⟩ := index_facts t
  refine (valueOf_at h i d _).trans ?_
  unfold iblk
  rw [View.read_apply]
  show m ((c : Thread nD τ).loc main_arg1) _ = m ((c : Thread nD τ).loc main_arg1) _
  congr 1
  funext a
  apply Fin.ext
  match a with
  | ⟨0, _⟩ => show win0_3.index t 0 * 64 + 1 * i.val = 64 * (32 * (t.val / 64) + t.val % 32 % 32) + i.val; rw [e0]; omega
  | ⟨1, _⟩ => show win0_3.index t 1 * 2048 + 1 * (128 * h.val + d.val) = 8192 + (128 * (16 * (t.val / 32 % 2) + h.val) + d.val); rw [e1]; omega

/-- The block of columns is the point's chunk and group of them. -/
theorem column_read (j : Fin 32) : (iblk m c 4 t : Vec Ideal S1x1x64x32 .f32) (ix4 0 0 i j)
    = columns (arg2 m c) (arg4 m c) (arg5 m c) (ix4 (batch t) (group t) (rowIn (turn t) i) j) := by
  obtain ⟨-, -, -, -, -, -, -, -, e0, e1, e2, e3, -⟩ := index_facts t
  unfold iblk
  rw [View.read_apply]
  refine (congrFun (columns_eq m c) _).trans (congrArg (columns (arg2 m c) (arg4 m c) (arg5 m c)) ?_)
  funext a
  apply Fin.ext
  match a with
  | ⟨0, _⟩ => show win0_4.index t 0 * 1 + 1 * 0 = t.val / 64; rw [e0]; omega
  | ⟨1, _⟩ => show win0_4.index t 1 * 1 + 1 * 0 = t.val / 32 % 2; rw [e1]; omega
  | ⟨2, _⟩ => show win0_4.index t 2 * 64 + 1 * i.val = 64 * (t.val % 32) + i.val; rw [e2]; omega
  | ⟨3, _⟩ => show win0_4.index t 3 * 32 + 1 * j.val = j.val; rw [e3]; omega

/-- The accumulated gates a point reads as a column. -/
theorem gate_read : extractStridedSlice S64x1 ![0, h.val] (k0_pay7 (iblk m c 4 t : Vec Ideal S1x1x64x32 .f32)) (slices_col ⟨h.val, by omega⟩) (ix2 i 0)
    = Seq.G (arg2 m c) (arg4 m c) (arg5 m c) (chunk t) (head (group t) h) i :=
  (column_at i _ ⟨h.val, by omega⟩).trans ((column_read m c t i _).trans (columns_gate _ _ _ _ _ _ _ _))

/-- The write strengths a point reads. -/
theorem strength_read : extractStridedSlice S64x1 ![0, 16 + h.val] (k0_pay7 (iblk m c 4 t : Vec Ideal S1x1x64x32 .f32)) (slices_col ⟨16 + h.val, by omega⟩) (ix2 i 0)
    = Seq.β (arg2 m c) (chunk t) (head (group t) h) i :=
  (column_at i _ ⟨16 + h.val, by omega⟩).trans ((column_read m c t i _).trans (columns_strength _ _ _ _ _ _ _ _))

/-- The accumulated gates a point reads as a row. -/
theorem row_read : extractStridedSlice S1x64 ![h.val, 0] (k0_pay8 (iblk m c 5 t : Vec Ideal S1x1x1x16x64 .f32)) (slices_row h) (ix2 0 i)
    = Seq.G (arg2 m c) (arg4 m c) (arg5 m c) (chunk t) (head (group t) h) i := by
  obtain ⟨-, -, -, -, -, -, -, -, -, -, -, -, e0, e1, e2, e3, e4⟩ := index_facts t
  refine (row_at h i _).trans (Eq.trans ?_ (rows_gate _ _ _ _ _ _ _ _))
  unfold iblk
  rw [View.read_apply]
  refine (congrFun (rows_eq m c) _).trans (congrArg (rows (arg2 m c) (arg4 m c) (arg5 m c)) ?_)
  funext a
  apply Fin.ext
  match a with
  | ⟨0, _⟩ => show win0_5.index t 0 * 1 + 1 * 0 = t.val / 64; rw [e0]; omega
  | ⟨1, _⟩ => show win0_5.index t 1 * 1 + 1 * 0 = t.val / 32 % 2; rw [e1]; omega
  | ⟨2, _⟩ => show win0_5.index t 2 * 1 + 1 * 0 = t.val % 32; rw [e2]; omega
  | ⟨3, _⟩ => show win0_5.index t 3 * 16 + 1 * h.val = h.val; rw [e3]; omega
  | ⟨4, _⟩ => show win0_5.index t 4 * 64 + 1 * i.val = i.val; rw [e4]; omega

/-- The states the first chunk of a group starts from are the argument's. -/
theorem state_read : k0_pay3 (iblk m c 6 t : Vec Ideal S1x1x16x128x128 .f32) (ix3 h e d) = arg3 m c (ix5 0 (batch t) (head (group t) h) e d) := by
  obtain ⟨e0, e1, e2, e3, e4, -⟩ := index_facts' t
  refine (firstStates_at h d _ e).trans ?_
  unfold iblk
  rw [View.read_apply]
  show m ((c : Thread nD τ).loc main_arg3) _ = m ((c : Thread nD τ).loc main_arg3) _
  congr 1
  funext a
  apply Fin.ext
  match a with
  | ⟨0, _⟩ => show win0_6.index t 0 * 1 + 1 * 0 = 0; rw [e0]
  | ⟨1, _⟩ => show win0_6.index t 1 * 1 + 1 * 0 = t.val / 64; rw [e1]; omega
  | ⟨2, _⟩ => show win0_6.index t 2 * 16 + 1 * h.val = 16 * (t.val / 32 % 2) + h.val; rw [e2]; omega
  | ⟨3, _⟩ => show win0_6.index t 3 * 128 + 1 * e.val = e.val; rw [e3]; omega
  | ⟨4, _⟩ => show win0_6.index t 4 * 128 + 1 * d.val = d.val; rw [e4]; omega

/-- The weights of the norm a point reads. -/
theorem norm_read : k0_pay9 (iblk m c 7 t : Vec Ideal S1x128 .f32) (ix2 0 d) = arg6 m c (ix1 d) := by
  obtain ⟨-, -, -, -, -, e0, e1, -⟩ := index_facts' t
  refine (normOf_at d _).trans (Eq.trans (b := shapeCast S1x128 (arg6 m c) shapeCasts_S128_S1x128 (ix2 0 d)) ?_ (by pointwise []))
  unfold iblk
  rw [View.read_apply]
  refine (congrFun (norm_eq m c) _).trans (congrArg (shapeCast S1x128 (arg6 m c) shapeCasts_S128_S1x128) ?_)
  funext a
  apply Fin.ext
  match a with
  | ⟨0, _⟩ => show win0_7.index t 0 * 1 + 1 * 0 = 0; rw [e0]
  | ⟨1, _⟩ => show win0_7.index t 1 * 128 + 1 * d.val = d.val; rw [e1]; omega

end Cert.Prompt

end
-- ==== Proof.Prompt.Values.lean ====
module

public import proofs.«01_k».proof.Proof.Prompt.Reads

/-! # What the prompt's kernel leaves in its two results

A grid point finds the states the chunks before it left, leaves its chunk's outputs and the states after it; the last
chunk of a head group writes the group's final states. -/

@[expose] public section

set_option maxRecDepth 65536

noncomputable section

namespace Cert.Prompt

open Cert.Kernel5Ideal Cert.Kernel5Ideal.Gen Cert.Delta
open Idealize.ShloMosaic Idealize.ShloMosaic.TcCoe Idealize.SL.Sem

/-! ## The results as arrays -/

section Arrays

variable (x0 : Vec Ideal S8192x8192 .f32) (x1 : Vec Ideal S9216x12288 .f32) (x2 : Vec Ideal S8192x128 .f32)
  (x3 : Vec Ideal S1x4x32x128x128 .f32) (x4 x5 : Vec Ideal S32 .f32) (x6 : Vec Ideal S128 .f32)

/-- The outputs of all chunks and heads. -/
def outArray : Vec Ideal S8192x4096 .bf16 := fun y =>
  Seq.out x0 x1 x2 x3 x4 x5 x6 ⟨(y 0).val / 64, by have : (y 0).val < 8192 := (y 0).isLt; omega⟩
    ⟨(y 1).val / 128, by have : (y 1).val < 4096 := (y 1).isLt; omega⟩ ⟨(y 0).val % 64, by omega⟩ ⟨(y 1).val % 128, by omega⟩

/-- The states after each sequence's last chunk. -/
def stateArray : Vec Ideal S4x32x128x128 .f32 := fun y => Seq.states x0 x2 x3 x4 x5 (y 0) 32 (y 1) (y 2) (y 3)

/-- An output by chunk, head, row and lane. -/
theorem outArray_at (n : Fin 128) (h : Fin 32) (i : Fin 64) (d : Fin 128) :
    outArray x0 x1 x2 x3 x4 x5 x6 (ix2 (Seq.row n i) (Ref.colO h d)) = Seq.out x0 x1 x2 x3 x4 x5 x6 n h i d := by
  show Seq.out x0 x1 x2 x3 x4 x5 x6 ⟨(64 * n.val + i.val) / 64, _⟩ ⟨(128 * h.val + d.val) / 128, _⟩
    ⟨(64 * n.val + i.val) % 64, _⟩ ⟨(128 * h.val + d.val) % 128, _⟩ = _
  congr 1 <;> apply Fin.ext <;> dsimp only <;> omega

/-- Every index of the outputs is some sequence's, chunk's, head's, row's and lane's. -/
theorem exists_output (y : S8192x4096.Idx) : ∃ (b : Fin 4) (n : Fin 32) (h : Fin 32) (i : Fin 64) (d : Fin 128),
    y = ix2 (Seq.row (Seq.chunk b n.val) i) (Ref.colO h d) := by
  idx_vars y
  refine ⟨⟨y0.val / 2048, by omega⟩, ⟨y0.val / 64 % 32, by omega⟩, ⟨y1.val / 128, by omega⟩, ⟨y0.val % 64, by omega⟩, ⟨y1.val % 128, by omega⟩, ?_⟩
  refine congr (congrArg ix2 (Fin.ext ?_)) (Fin.ext ?_)
  · show y0.val = 64 * (32 * (y0.val / 2048) + y0.val / 64 % 32 % 32) + y0.val % 64; omega
  · show y1.val = 128 * (y1.val / 128) + y1.val % 128; omega

end Arrays

variable (m : (ℓ : Loc nD τ sig) → Buf (Elt Ideal) ℓ) (c : Dev nD)

/-- What the claim assumes of a device's arguments. -/
abbrev Real : Prop := Seq.Real (arg0 m c)

/-- A device's states before chunk `n` of a point's sequence. -/
abbrev statesOf (t : Fin cfg0.N) (n : ℕ) : Fin 32 → Fin 128 → Fin 128 → EReal :=
  Seq.states (arg0 m c) (arg2 m c) (arg3 m c) (arg4 m c) (arg5 m c) (batch t) n

/-! ## One point -/

variable {m c}

/-- At a point, a head's inverse is the sequence's. -/
theorem inverse_at (hr : Real m c) (t : Fin cfg0.N) (h : Fin 16) :
    kernelInverse (keyOf (iblk m c 1 t : Vec Ideal S64x1024 .f32) h)
      (extractStridedSlice S64x1 ![0, h.val] (k0_pay7 (iblk m c 4 t : Vec Ideal S1x1x64x32 .f32)) (slices_col ⟨h.val, by omega⟩))
      (extractStridedSlice S64x1 ![0, 16 + h.val] (k0_pay7 (iblk m c 4 t : Vec Ideal S1x1x64x32 .f32)) (slices_col ⟨16 + h.val, by omega⟩))
      (extractStridedSlice S1x64 ![h.val, 0] (k0_pay8 (iblk m c 5 t : Vec Ideal S1x1x1x16x64 .f32)) (slices_row h))
      = Seq.T (arg0 m c) (arg2 m c) (arg4 m c) (arg5 m c) (chunk t) (head (group t) h) := by
  rw [kernelInverse_eq _ _ _ _ (fun j => (row_read m c t h j).trans (gate_read m c t h j).symm)
    (fun i d => (key_read m c t h i d).symm ▸ hr.key _ _ _ _)
    (fun i => (strength_read m c t h i).symm ▸ Seq.strength_real _ _ _ _)
    (by simp only [gate_read]; exact Seq.gates_falling _ _ _ _ _)]
  simp only [key_read, strength_read, gate_read]
  rfl

/-- Head `h`'s outputs at a point that finds the sequence's states are the sequence's. -/
theorem blockOut_at (hr : Real m c) (t : Fin cfg0.N) (h : Fin 16) (xs : Vec Ideal S16x128x128 .f32)
    (hs : ∀ e d, xs (ix3 h e d) = statesOf m c t (t.val % 32) (head (group t) h) e d) (i : Fin 64) (d : Fin 128) :
    blockOut (iblk m c 0 t : Vec Ideal S64x1024 .f32) (iblk m c 1 t : Vec Ideal S64x1024 .f32) (iblk m c 2 t : Vec Ideal S64x2048 .f32)
      (iblk m c 3 t : Vec Ideal S64x2048 .f32) (iblk m c 4 t : Vec Ideal S1x1x64x32 .f32) (iblk m c 5 t : Vec Ideal S1x1x1x16x64 .f32)
      (iblk m c 7 t : Vec Ideal S1x128 .f32) xs h (ix2 i d)
      = Seq.out (arg0 m c) (arg1 m c) (arg2 m c) (arg3 m c) (arg4 m c) (arg5 m c) (arg6 m c) (chunk t) (head (group t) h) i d := by
  unfold blockOut storedOut
  refine (headOut_at _ _ _ _ _ _ _ _ _ (fun j => (row_read m c t h j).trans (gate_read m c t h j).symm) i d).trans ?_
  rw [inverse_at hr]
  simp only [query_read, key_read, value_read, outgate_read, strength_read, gate_read, heldState_at, norm_read, hs]
  unfold Seq.out Seq.raw
  rw [Seq.batch_chunk, Seq.chunk_mod]
  rfl

/-- Head `h`'s state after a point that finds the sequence's states is the sequence's next. -/
theorem blockState_at (hr : Real m c) (t : Fin cfg0.N) (h : Fin 16) (xs : Vec Ideal S16x128x128 .f32)
    (hs : ∀ e d, xs (ix3 h e d) = statesOf m c t (t.val % 32) (head (group t) h) e d) (e d : Fin 128) :
    blockState (iblk m c 0 t : Vec Ideal S64x1024 .f32) (iblk m c 1 t : Vec Ideal S64x1024 .f32) (iblk m c 2 t : Vec Ideal S64x2048 .f32)
      (iblk m c 4 t : Vec Ideal S1x1x64x32 .f32) (iblk m c 5 t : Vec Ideal S1x1x1x16x64 .f32) xs h (ix3 0 e d)
      = statesOf m c t (t.val % 32 + 1) (head (group t) h) e d := by
  unfold blockState storedState
  rw [shapeCast_lone]
  refine (headState_at _ _ _ _ _ _ _ e d).trans ?_
  rw [inverse_at hr]
  simp only [key_read, value_read, strength_read, gate_read, heldState_at, hs]
  show _ = Seq.states (arg0 m c) (arg2 m c) (arg3 m c) (arg4 m c) (arg5 m c) (batch t) (t.val % 32 + 1) (head (group t) h) e d
  rfl

/-! ## All points -/

variable (m c)

/-- The states a point finds. -/
def found (t : Fin cfg0.N) : Vec Ideal S16x128x128 .f32 :=
  if t.val % 32 = 0 then k0_pay3 (iblk m c 6 t : Vec Ideal S1x1x16x128x128 .f32)
  else (outsAt0 m c (t.val - 1) (Nat.lt_of_le_of_lt (Nat.sub_le _ _) t.isLt)).2.2

/-- A point's output block, head by head. -/
theorem written_out (t : Fin cfg0.N) (h : Fin 16) (r : Fin 64) (d : Fin 128) :
    (outsAt0 m c t.val t.isLt).1 (ix2 r ⟨128 * h.val + d.val, by omega⟩)
      = blockOut (iblk m c 0 t) (iblk m c 1 t) (iblk m c 2 t) (iblk m c 3 t) (iblk m c 4 t) (iblk m c 5 t) (iblk m c 7 t)
          (found m c t) h (ix2 r d) := by
  unfold found
  by_cases h0 : t.val % 32 = 0
  · rw [if_pos h0, outsAt0_A m c t h0 (by omega)]
    dsimp only; exact out_at_A (F := Ideal) c _ _ _ _ _ _ _ _ _ _ _ _ _ _ _ _ _ _ _ _ _ _ _ _ _ _ _ _ _ _ _ _ _ h r d
  · rw [if_neg h0]
    by_cases h1 : t.val % 32 = 31
    · rw [outsAt0_C m c t h0 h1]
      dsimp only; exact out_at_C (F := Ideal) c _ _ _ _ _ _ _ _ _ _ _ _ _ _ _ _ _ _ _ _ _ _ _ _ _ _ _ _ _ _ _ _ _ _ h r d
    · rw [outsAt0_B m c t h0 h1]
      dsimp only; exact out_at_B (F := Ideal) c _ _ _ _ _ _ _ _ _ _ _ _ _ _ _ _ _ _ _ _ _ _ _ _ _ _ _ _ _ _ _ _ _ _ h r d

/-- The states a point leaves. -/
theorem left_states (t : Fin cfg0.N) (h : Fin 16) (e d : Fin 128) :
    (outsAt0 m c t.val t.isLt).2.2 (ix3 h e d)
      = blockState (iblk m c 0 t) (iblk m c 1 t) (iblk m c 2 t) (iblk m c 4 t) (iblk m c 5 t) (found m c t) h (ix3 0 e d) := by
  unfold found
  by_cases h0 : t.val % 32 = 0
  · rw [if_pos h0, outsAt0_A m c t h0 (by omega)]
    dsimp only; exact state_at_A (F := Ideal) c _ _ _ _ _ _ _ _ _ _ _ _ _ _ _ _ _ _ _ _ _ _ _ _ _ _ _ _ _ _ _ _ _ (ix3 h e d)
  · rw [if_neg h0]
    by_cases h1 : t.val % 32 = 31
    · rw [outsAt0_C m c t h0 h1]
      dsimp only; exact state_at_C (F := Ideal) c _ _ _ _ _ _ _ _ _ _ _ _ _ _ _ _ _ _ _ _ _ _ _ _ _ _ _ _ _ _ _ _ _ _ (ix3 h e d)
    · rw [outsAt0_B m c t h0 h1]
      dsimp only; exact state_at_B (F := Ideal) c _ _ _ _ _ _ _ _ _ _ _ _ _ _ _ _ _ _ _ _ _ _ _ _ _ _ _ _ _ _ _ _ _ _ (ix3 h e d)

/-- The states the last point of a group writes to the result. -/
theorem written_states (t : Fin cfg0.N) (h1 : t.val % 32 = 31) (h : Fin 16) (e d : Fin 128) :
    (outsAt0 m c t.val t.isLt).2.1 (ix4 (0 : Fin 1) h e d)
      = blockState (iblk m c 0 t) (iblk m c 1 t) (iblk m c 2 t) (iblk m c 4 t) (iblk m c 5 t) (found m c t) h (ix3 0 e d) := by
  have h0 : ¬ t.val % 32 = 0 := by omega
  unfold found
  rw [if_neg h0, outsAt0_C m c t h0 h1]
  dsimp only; exact result_at (F := Ideal) c _ _ _ _ _ _ _ _ _ _ _ _ _ _ _ _ _ _ _ _ _ _ _ _ _ _ _ _ _ _ _ _ _ _ h e d

variable {m c}

/-- Every point finds the sequence's states before its chunk. -/
theorem found_at (hr : Real m c) : ∀ (n : ℕ) (hn : n < cfg0.N) (h : Fin 16) (e d : Fin 128),
    found m c ⟨n, hn⟩ (ix3 h e d) = statesOf m c ⟨n, hn⟩ (n % 32) (head (group ⟨n, hn⟩) h) e d := by
  have first : ∀ (t : Fin cfg0.N) (h0 : t.val % 32 = 0) (h : Fin 16) (e d : Fin 128),
      found m c t (ix3 h e d) = statesOf m c t (t.val % 32) (head (group t) h) e d := by
    intro t h0 h e d
    unfold found
    rw [if_pos h0, state_read, h0]
    rfl
  intro n
  induction n with
  | zero => exact fun hn => first ⟨0, hn⟩ (Nat.zero_mod _)
  | succ n ih =>
    intro hn h e d
    by_cases h0 : (n + 1) % 32 = 0
    · exact first ⟨n + 1, hn⟩ h0 h e d
    · have hn' : n < cfg0.N := Nat.lt_of_succ_lt hn
      have eg : group (⟨n + 1, hn⟩ : Fin cfg0.N) = group ⟨n, hn'⟩ := Fin.ext (by show (n + 1) / 32 % 2 = n / 32 % 2; omega)
      have eb : batch (⟨n + 1, hn⟩ : Fin cfg0.N) = batch ⟨n, hn'⟩ := Fin.ext (by show (n + 1) / 64 = n / 64; omega)
      have en : (n + 1) % 32 = n % 32 + 1 := by omega
      unfold statesOf
      rw [eg, eb, en]
      unfold found
      rw [if_neg h0]
      exact (left_states m c ⟨n, hn'⟩ h e d).trans (blockState_at hr ⟨n, hn'⟩ h _ (ih hn' h) e d)

/-- What a point writes of the outputs is where the sequence has the same rows. -/
theorem outputs_at (hr : Real m c) (t : Fin cfg0.N) (y : S64x2048.Idx) : (outsAt0 m c t.val t.isLt).1 y
    = outArray (arg0 m c) (arg1 m c) (arg2 m c) (arg3 m c) (arg4 m c) (arg5 m c) (arg6 m c) ((win0_8.blk t).view.emb y) := by
  obtain ⟨-, -, -, -, -, -, -, e0, e1, -⟩ := index_facts' t
  obtain ⟨r, h, d, rfl⟩ : ∃ (r : Fin 64) (h : Fin 16) (d : Fin 128), y = ix2 r ⟨128 * h.val + d.val, by omega⟩ := by
    idx_vars y
    refine ⟨y0, ⟨y1.val / 128, by omega⟩, ⟨y1.val % 128, by omega⟩, congrArg (ix2 y0) (Fin.ext ?_)⟩
    show y1.val = 128 * (y1.val / 128) + y1.val % 128
    omega
  refine (written_out m c t h r d).trans ((blockOut_at hr t h _ (found_at hr t.val t.isLt h) r d).trans
    ((outArray_at _ _ _ _ _ _ _ _ _ _ _).symm.trans (congrArg
    (outArray (arg0 m c) (arg1 m c) (arg2 m c) (arg3 m c) (arg4 m c) (arg5 m c) (arg6 m c)) ?_)))
  funext a
  apply Fin.ext
  match a with
  | ⟨0, _⟩ => show 64 * (32 * (t.val / 64) + t.val % 32 % 32) + r.val = win0_8.index t 0 * 64 + 1 * r.val; rw [e0]; omega
  | ⟨1, _⟩ => show 128 * (16 * (t.val / 32 % 2) + h.val) + d.val = win0_8.index t 1 * 2048 + 1 * (128 * h.val + d.val); rw [e1]; omega

/-- What the last point of a group writes of the states is where the sequence has the same heads. -/
theorem states_at (hr : Real m c) (t : Fin cfg0.N) (h1 : t.val % 32 = 31) (y : S1x16x128x128.Idx) :
    (outsAt0 m c t.val t.isLt).2.1 y
      = stateArray (arg0 m c) (arg2 m c) (arg3 m c) (arg4 m c) (arg5 m c) ((win0_9.blk t).view.emb y) := by
  obtain ⟨-, -, -, -, -, -, -, -, -, e0, e1, e2, e3⟩ := index_facts' t
  obtain ⟨h, e, d, rfl⟩ : ∃ (h : Fin 16) (e d : Fin 128), y = ix4 (0 : Fin 1) h e d := by
    idx_vars y
    exact ⟨y1, y2, y3, by rw [Subsingleton.elim y0 0]⟩
  have last : statesOf m c t (t.val % 32 + 1) (head (group t) h) e d
      = stateArray (arg0 m c) (arg2 m c) (arg3 m c) (arg4 m c) (arg5 m c) (ix4 (batch t) (head (group t) h) e d) := by
    rw [h1]
    rfl
  refine (written_states m c t h1 h e d).trans ((blockState_at hr t h _ (found_at hr t.val t.isLt h) e d).trans
    (last.trans (congrArg (stateArray (arg0 m c) (arg2 m c) (arg3 m c) (arg4 m c) (arg5 m c)) ?_)))
  funext a
  apply Fin.ext
  match a with
  | ⟨0, _⟩ => show t.val / 64 = win0_9.index t 0 * 1 + 1 * 0; rw [e0]; omega
  | ⟨1, _⟩ => show 16 * (t.val / 32 % 2) + h.val = win0_9.index t 1 * 16 + 1 * h.val; rw [e1]; omega
  | ⟨2, _⟩ => show e.val = win0_9.index t 2 * 128 + 1 * e.val; rw [e2]; omega
  | ⟨3, _⟩ => show d.val = win0_9.index t 3 * 128 + 1 * d.val; rw [e3]; omega

/-- Only the last point of a group writes its states back. -/
theorem flush_last : ∀ t : Fin cfg0.N, (cfg0.win 9).flush t = true → t.val % 32 = 31 := by decide +kernel

/-! ## The arrays -/

/-- The outputs the call leaves are the sequence's. -/
theorem outputs (hr : Real m c) : ((dats m 0 c).arrAt 8 cfg0.N : Vec Ideal S8192x4096 .bf16)
    = outArray (arg0 m c) (arg1 m c) (arg2 m c) (arg3 m c) (arg4 m c) (arg5 m c) (arg6 m c) := by
  refine (dats m 0 c).arrAt_eq_of_covers 8 _ (by decide +kernel) fun t hf y => ?_
  blk_simp
  rw [after0_8]
  exact outputs_at hr t y

/-- The states the call leaves are the sequence's. -/
theorem states (hr : Real m c) : ((dats m 0 c).arrAt 9 cfg0.N : Vec Ideal S4x32x128x128 .f32)
    = stateArray (arg0 m c) (arg2 m c) (arg3 m c) (arg4 m c) (arg5 m c) := by
  refine (dats m 0 c).arrAt_eq_of_covers 9 _ (by decide +kernel) fun t hf y => ?_
  blk_simp
  rw [after0_9]
  exact states_at hr t (flush_last t hf) y

end Cert.Prompt

end
-- ==== Proof.Prompt.Claim.lean ====
module

public import proofs.«01_k».proof.Proof.Prompt.Values

/-! # The claims about the delta rule over the prompt -/

@[expose] public section

set_option maxRecDepth 65536

noncomputable section

namespace Cert.Prompt

open Cert.Pre_finite_prompt_keys
open Idealize.ShloMosaic Idealize.ShloMosaic.TcCoe Idealize.SL.Sem

/-- The side conditions of the precondition's operations. -/
theorem preFacts : Cert.Pre_finite_prompt_keys.Facts where
  slices_S8192x8192_S8192x2048_0_2048 := by decide
  bcast_S_S8192x2048 := by decide
  reducesTo_S8192x2048_S_d0_1 := by decide
  h_S_ := by decide

/-- What the precondition says of the keys. -/
theorem real_of_pre [Facts] (x0 : FVec Ideal S8192x8192 .f32) (x1 : FVec Ideal S9216x12288 .f32) (x2 : FVec Ideal S8192x128 .f32)
    (x3 : FVec Ideal S1x4x32x128x128 .f32) (x4 x5 : FVec Ideal S32 .f32) (x6 : FVec Ideal S128 .f32)
    (e : fn (F := Ideal) x0 x1 x2 x3 x4 x5 x6 = fun _ => 1#1) : Seq.Real x0 where
  keys i d := by
    obtain ⟨r, hr⟩ := Delta.real_of_all _ _ _ _ (congrFun e ix0) (ix2 i d)
    refine ⟨r, Eq.trans ?_ hr⟩
    pointwise []

end Cert.Prompt

namespace Cert.Prompt.Loop

open Cert.Reference5Ideal Cert.Reference5Ideal.Value Cert.Prompt.Entry
open Idealize.ShloMosaic Idealize.ShloMosaic.TcCoe Idealize.SL.Sem

variable (m : (ℓ : Loc nD τ sig) → Buf (Elt Ideal) ℓ) (c : Dev nD)
  (hr : Seq.Real (Entry.arg0 m c))
include hr

/-- The array of outputs the reference leaves. -/
theorem outputs_array : (out_main_v63 (held m c 32) : Vec Ideal S8192x4096 .bf16)
    = outArray (Entry.arg0 m c) (Entry.arg1 m c) (Entry.arg2 m c) (Entry.arg3 m c) (Entry.arg4 m c) (Entry.arg5 m c) (Entry.arg6 m c) := by
  funext y
  obtain ⟨b, n, h, i, d, rfl⟩ := exists_output y
  exact (outputs_out m c b n h hr i d).trans (outArray_at _ _ _ _ _ _ _ _ _ _ _).symm

/-- The array of states the reference leaves. -/
theorem states_array : (out_main_v64 (held m c 32) : Vec Ideal S4x32x128x128 .f32)
    = stateArray (Entry.arg0 m c) (Entry.arg2 m c) (Entry.arg3 m c) (Entry.arg4 m c) (Entry.arg5 m c) := by
  funext y
  obtain ⟨b, h, e, d, rfl⟩ : ∃ (b : Fin 4) (h : Fin 32) (e d : Fin 128), y = ix4 b h e d := by
    idx_vars y
    exact ⟨y0, y1, y2, y3, rfl⟩
  exact states_out m c b hr h e d

end Cert.Prompt.Loop

namespace Cert.Proof.Prompt

open Cert.Prompt
open Idealize.ShloMosaic Idealize.ShloMosaic.TcCoe Idealize.SL.Sem

/-- The kernel runs to completion and keeps its arguments. -/
theorem frame_kernel : Cert.quiescent_Kernel5 := fun m ρ _ => Kernel5.Gen.frame m ρ

/-- … at the ideal instance too … -/
theorem frame_kernel_ideal : Cert.quiescent_Kernel5Ideal := fun m ρ _ => Kernel5Ideal.Gen.frame m ρ

/-- … and under the precondition. -/
theorem frame_kernel_ideal_pre :
    Cert.quiescent_Kernel5Ideal_pre_finite_prompt_keys (hPre_finite_prompt_keys := preFacts) :=
  fun m ρ _ => Kernel5Ideal.Gen.frame m ρ

/-- The reference runs to completion and keeps its arguments. -/
theorem frame_reference : Cert.quiescent_Reference5Ideal := fun m ρ _ =>
  (θ_run Cert.Reference5Ideal.defs _ _).mono (fun r h => ⟨fun c => (h c).2.2,
      Idealize.ShloMosaic.sem_eq_zero_of_no_sems (by decide) r.2⟩) (Reference5Ideal.Value.run m ρ)

/-- … and under the precondition. -/
theorem frame_reference_pre :
    Cert.quiescent_Reference5Ideal_pre_finite_prompt_keys (hPre_finite_prompt_keys := preFacts) :=
  fun m ρ _ => frame_reference m ρ trivial

/-- The precondition makes a device's keys real. -/
theorem real_of_precondition (m : (ℓ : Loc Kernel5Ideal.nD Kernel5Ideal.τ Kernel5Ideal.sig) → Buf (Elt Ideal) ℓ)
    (hpre : Cert.Pre_Kernel5Ideal_finite_prompt_keys (hPre_finite_prompt_keys := preFacts) m)
    (c : Dev Kernel5Ideal.nD) : Cert.Prompt.Real m c :=
  have := preFacts
  real_of_pre _ _ _ _ _ _ _ (hpre c)

/-- The kernel leaves the reference's outputs and final states, as extended reals. -/
theorem algebraic :
    Cert.algebraic_Kernel5Ideal_Reference5Ideal_pre_finite_prompt_keys (hPre_finite_prompt_keys := preFacts) := by
  intro m ρ m' ρ' hpre hagree
  refine ⟨fun c => (Kernel5Ideal.Gen.dats m 0 c).arrAt 8 Kernel5Ideal.cfg0.N,
    fun c => (Kernel5Ideal.Gen.dats m 0 c).arrAt 9 Kernel5Ideal.cfg0.N, Kernel5Ideal.Value.run_blocks (F := Ideal) m ρ, ?_⟩
  have hr (c : Dev Kernel5Ideal.nD) : Seq.Real (Entry.arg0 m' c) := by
    obtain ⟨a0, a1, a2, a3, a4, a5, a6⟩ := hagree c
    exact (congrArg Seq.Real a0).mpr (real_of_precondition m hpre c)
  refine (θ_run _ _ _).mono (fun _ h c => ⟨(h c).1.trans ?_, (h c).2.1.trans ?_, (h c).2.2⟩)
    (Reference5Ideal.Value.run (F := Ideal) m' ρ')
  · obtain ⟨a0, a1, a2, a3, a4, a5, a6⟩ := hagree c
    refine (Loop.outputs_array m' c (hr c)).trans (Eq.trans ?_ (outputs (real_of_precondition m hpre c)).symm)
    exact congr (congr (congr (congr (congr (congr (congrArg outArray a0) a1) a2) a3) a4) a5) a6
  · obtain ⟨a0, a1, a2, a3, a4, a5, a6⟩ := hagree c
    refine (Loop.states_array m' c (hr c)).trans (Eq.trans ?_ (states (real_of_precondition m hpre c)).symm)
    exact congr (congr (congr (congr (congrArg stateArray a0) a2) a3) a4) a5

end Cert.Proof.Prompt

end
-- ==== Proof.lean ====
/- The certificate: the frames, the preservation claims and the value claims of the delta rule, over decoded sequences and over the prompt, and of the trunk's dense products. -/
module

public import proofs.«01_k».proof.Defs
public import proofs.«01_k».proof.Proof.ProjIn
public import proofs.«01_k».proof.Proof.ProjOut
public import proofs.«01_k».proof.Proof.Gate
public import proofs.«01_k».proof.Proof.Prompt.Claim
public import proofs.«01_k».proof.Proof.Delta.Claim
public import proofs.«01_k».proof.Proof.Gen.Kernel
public import proofs.«01_k».proof.Proof.Gen.Kernel2
public import proofs.«01_k».proof.Proof.Gen.Kernel3
public import proofs.«01_k».proof.Proof.Gen.Kernel4
public import proofs.«01_k».proof.Proof.Gen.Kernel5

@[expose] public section

noncomputable section

namespace Cert.Proof

open Idealize.ShloMosaic Idealize.SL.Sem

/-- Every claim of the certificate, each proved in its call's own module. -/
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Delta.preFacts, Cert.Prompt.preFacts,
   Delta.frame_kernel, Delta.frame_kernel_ideal, Delta.frame_kernel_ideal_pre, Delta.frame_reference, Delta.frame_reference_pre,
   Gate.frame_kernel, Gate.frame_kernel_ideal, Gate.frame_reference,
   ProjOut.frame_kernel, ProjOut.frame_kernel_ideal, ProjOut.frame_reference,
   ProjIn.frame_kernel, ProjIn.frame_kernel_ideal, ProjIn.frame_reference,
   Prompt.frame_kernel, Prompt.frame_kernel_ideal, Prompt.frame_kernel_ideal_pre, Prompt.frame_reference, Prompt.frame_reference_pre,
   trivial, Delta.algebraic, trivial, Gate.algebraic, trivial, ProjOut.algebraic, trivial, ProjIn.algebraic, trivial, Prompt.algebraic⟩

end Cert.Proof

end
